-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightRefIdeal (m : (ℓ : Loc Cert.UpWeightRefIdeal.nD Cert.UpWeightRefIdeal.τ Cert.UpWeightRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_FoxInGrad (m : (ℓ : Loc Cert.FoxInGrad.nD Cert.FoxInGrad.τ Cert.FoxInGrad.sig) → Buf (Elt Bits) ℓ) : Prop :=
  True

def Pre_FoxInGradIdeal (m : (ℓ : Loc Cert.FoxInGradIdeal.nD Cert.FoxInGradIdeal.τ Cert.FoxInGradIdeal.sig) → Buf (Elt Ideal) ℓ) : Prop :=
  True

def Pre_FoxInGradRefIdeal (m : (ℓ : Loc Cert.FoxInGradRefIdeal.nD Cert.FoxInGradRefIdeal.τ Cert.FoxInGradRefIdeal.sig) → Buf (Elt Ideal) ℓ) : Prop :=
  True

def Pre_FoxInWeight (m : (ℓ : Loc Cert.FoxInWeight.nD Cert.FoxInWeight.τ Cert.FoxInWeight.sig) → Buf (Elt Bits) ℓ) : Prop :=
  True

def Pre_FoxInWeightIdeal (m : (ℓ : Loc Cert.FoxInWeightIdeal.nD Cert.FoxInWeightIdeal.τ Cert.FoxInWeightIdeal.sig) → Buf (Elt Ideal) ℓ) : Prop :=
  True

def Pre_FoxInWeightRefIdeal (m : (ℓ : Loc Cert.FoxInWeightRefIdeal.nD Cert.FoxInWeightRefIdeal.τ Cert.FoxInWeightRefIdeal.sig) → Buf (Elt Ideal) ℓ) : Prop :=
  True

def Pre_SwaInGrad (m : (ℓ : Loc Cert.SwaInGrad.nD Cert.SwaInGrad.τ Cert.SwaInGrad.sig) → Buf (Elt Bits) ℓ) : Prop :=
  True

def Pre_SwaInGradIdeal (m : (ℓ : Loc Cert.SwaInGradIdeal.nD Cert.SwaInGradIdeal.τ Cert.SwaInGradIdeal.sig) → Buf (Elt Ideal) ℓ) : Prop :=
  True

def Pre_SwaInGradRefIdeal (m : (ℓ : Loc Cert.SwaInGradRefIdeal.nD Cert.SwaInGradRefIdeal.τ Cert.SwaInGradRefIdeal.sig) → Buf (Elt Ideal) ℓ) : Prop :=
  True

def Pre_SwaInWeight (m : (ℓ : Loc Cert.SwaInWeight.nD Cert.SwaInWeight.τ Cert.SwaInWeight.sig) → Buf (Elt Bits) ℓ) : Prop :=
  True

def Pre_SwaInWeightIdeal (m : (ℓ : Loc Cert.SwaInWeightIdeal.nD Cert.SwaInWeightIdeal.τ Cert.SwaInWeightIdeal.sig) → Buf (Elt Ideal) ℓ) : Prop :=
  True

def Pre_SwaInWeightRefIdeal (m : (ℓ : Loc Cert.SwaInWeightRefIdeal.nD Cert.SwaInWeightRefIdeal.τ Cert.SwaInWeightRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInRefIdeal (m : (ℓ : Loc Cert.FoxInRefIdeal.nD Cert.FoxInRefIdeal.τ Cert.FoxInRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightRefIdeal [hUpWeightRefIdeal : Cert.UpWeightRefIdeal.Facts] : Prop :=
  ∀ (m : (ℓ : Loc Cert.UpWeightRefIdeal.nD Cert.UpWeightRefIdeal.τ Cert.UpWeightRefIdeal.sig) → Buf (Elt Ideal) ℓ) (g : Dev Cert.UpWeightRefIdeal.nD → PrngReg), Pre_UpWeightRefIdeal m →
    θ_run (Cert.UpWeightRefIdeal.defs (F := Ideal)) (onTc (τ := Cert.UpWeightRefIdeal.τ) (Cert.UpWeightRefIdeal.main (F := Ideal))) ⟨m, fun _ => 0, g⟩ (fun r => (∀ c : Dev Cert.UpWeightRefIdeal.nD,
      r.2.mem ((c.tc : Thread Cert.UpWeightRefIdeal.nD Cert.UpWeightRefIdeal.τ).loc Cert.UpWeightRefIdeal.main_arg0) = m ((c.tc : Thread Cert.UpWeightRefIdeal.nD Cert.UpWeightRefIdeal.τ).loc Cert.UpWeightRefIdeal.main_arg0)
      ∧ r.2.mem ((c.tc : Thread Cert.UpWeightRefIdeal.nD Cert.UpWeightRefIdeal.τ).loc Cert.UpWeightRefIdeal.main_arg1) = m ((c.tc : Thread Cert.UpWeightRefIdeal.nD Cert.UpWeightRefIdeal.τ).loc Cert.UpWeightRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_FoxInGrad [hFoxInGrad : Cert.FoxInGrad.Facts] : Prop :=
  ∀ (m : (ℓ : Loc Cert.FoxInGrad.nD Cert.FoxInGrad.τ Cert.FoxInGrad.sig) → Buf (Elt Bits) ℓ) (g : Dev Cert.FoxInGrad.nD → PrngReg), Pre_FoxInGrad m →
    θ_run (Cert.FoxInGrad.defs (F := Bits)) (onTc (τ := Cert.FoxInGrad.τ) (Cert.FoxInGrad.main (F := Bits))) ⟨m, fun _ => 0, g⟩ (fun r => (∀ c : Dev Cert.FoxInGrad.nD,
      r.2.mem ((c.tc : Thread Cert.FoxInGrad.nD Cert.FoxInGrad.τ).loc Cert.FoxInGrad.main_arg0) = m ((c.tc : Thread Cert.FoxInGrad.nD Cert.FoxInGrad.τ).loc Cert.FoxInGrad.main_arg0)
      ∧ r.2.mem ((c.tc : Thread Cert.FoxInGrad.nD Cert.FoxInGrad.τ).loc Cert.FoxInGrad.main_arg1) = m ((c.tc : Thread Cert.FoxInGrad.nD Cert.FoxInGrad.τ).loc Cert.FoxInGrad.main_arg1))
      ∧ r.2.sem = fun _ => 0)

def quiescent_FoxInGradIdeal [hFoxInGradIdeal : Cert.FoxInGradIdeal.Facts] : Prop :=
  ∀ (m : (ℓ : Loc Cert.FoxInGradIdeal.nD Cert.FoxInGradIdeal.τ Cert.FoxInGradIdeal.sig) → Buf (Elt Ideal) ℓ) (g : Dev Cert.FoxInGradIdeal.nD → PrngReg), Pre_FoxInGradIdeal m →
    θ_run (Cert.FoxInGradIdeal.defs (F := Ideal)) (onTc (τ := Cert.FoxInGradIdeal.τ) (Cert.FoxInGradIdeal.main (F := Ideal))) ⟨m, fun _ => 0, g⟩ (fun r => (∀ c : Dev Cert.FoxInGradIdeal.nD,
      r.2.mem ((c.tc : Thread Cert.FoxInGradIdeal.nD Cert.FoxInGradIdeal.τ).loc Cert.FoxInGradIdeal.main_arg0) = m ((c.tc : Thread Cert.FoxInGradIdeal.nD Cert.FoxInGradIdeal.τ).loc Cert.FoxInGradIdeal.main_arg0)
      ∧ r.2.mem ((c.tc : Thread Cert.FoxInGradIdeal.nD Cert.FoxInGradIdeal.τ).loc Cert.FoxInGradIdeal.main_arg1) = m ((c.tc : Thread Cert.FoxInGradIdeal.nD Cert.FoxInGradIdeal.τ).loc Cert.FoxInGradIdeal.main_arg1))
      ∧ r.2.sem = fun _ => 0)

def quiescent_FoxInGradRefIdeal [hFoxInGradRefIdeal : Cert.FoxInGradRefIdeal.Facts] : Prop :=
  ∀ (m : (ℓ : Loc Cert.FoxInGradRefIdeal.nD Cert.FoxInGradRefIdeal.τ Cert.FoxInGradRefIdeal.sig) → Buf (Elt Ideal) ℓ) (g : Dev Cert.FoxInGradRefIdeal.nD → PrngReg), Pre_FoxInGradRefIdeal m →
    θ_run (Cert.FoxInGradRefIdeal.defs (F := Ideal)) (onTc (τ := Cert.FoxInGradRefIdeal.τ) (Cert.FoxInGradRefIdeal.main (F := Ideal))) ⟨m, fun _ => 0, g⟩ (fun r => (∀ c : Dev Cert.FoxInGradRefIdeal.nD,
      r.2.mem ((c.tc : Thread Cert.FoxInGradRefIdeal.nD Cert.FoxInGradRefIdeal.τ).loc Cert.FoxInGradRefIdeal.main_arg0) = m ((c.tc : Thread Cert.FoxInGradRefIdeal.nD Cert.FoxInGradRefIdeal.τ).loc Cert.FoxInGradRefIdeal.main_arg0)
      ∧ r.2.mem ((c.tc : Thread Cert.FoxInGradRefIdeal.nD Cert.FoxInGradRefIdeal.τ).loc Cert.FoxInGradRefIdeal.main_arg1) = m ((c.tc : Thread Cert.FoxInGradRefIdeal.nD Cert.FoxInGradRefIdeal.τ).loc Cert.FoxInGradRefIdeal.main_arg1))
      ∧ r.2.sem = fun _ => 0)

def quiescent_FoxInWeight [hFoxInWeight : Cert.FoxInWeight.Facts] : Prop :=
  ∀ (m : (ℓ : Loc Cert.FoxInWeight.nD Cert.FoxInWeight.τ Cert.FoxInWeight.sig) → Buf (Elt Bits) ℓ) (g : Dev Cert.FoxInWeight.nD → PrngReg), Pre_FoxInWeight m →
    θ_run (Cert.FoxInWeight.defs (F := Bits)) (onTc (τ := Cert.FoxInWeight.τ) (Cert.FoxInWeight.main (F := Bits))) ⟨m, fun _ => 0, g⟩ (fun r => (∀ c : Dev Cert.FoxInWeight.nD,
      r.2.mem ((c.tc : Thread Cert.FoxInWeight.nD Cert.FoxInWeight.τ).loc Cert.FoxInWeight.main_arg0) = m ((c.tc : Thread Cert.FoxInWeight.nD Cert.FoxInWeight.τ).loc Cert.FoxInWeight.main_arg0)
      ∧ r.2.mem ((c.tc : Thread Cert.FoxInWeight.nD Cert.FoxInWeight.τ).loc Cert.FoxInWeight.main_arg1) = m ((c.tc : Thread Cert.FoxInWeight.nD Cert.FoxInWeight.τ).loc Cert.FoxInWeight.main_arg1))
      ∧ r.2.sem = fun _ => 0)

def quiescent_FoxInWeightIdeal [hFoxInWeightIdeal : Cert.FoxInWeightIdeal.Facts] : Prop :=
  ∀ (m : (ℓ : Loc Cert.FoxInWeightIdeal.nD Cert.FoxInWeightIdeal.τ Cert.FoxInWeightIdeal.sig) → Buf (Elt Ideal) ℓ) (g : Dev Cert.FoxInWeightIdeal.nD → PrngReg), Pre_FoxInWeightIdeal m →
    θ_run (Cert.FoxInWeightIdeal.defs (F := Ideal)) (onTc (τ := Cert.FoxInWeightIdeal.τ) (Cert.FoxInWeightIdeal.main (F := Ideal))) ⟨m, fun _ => 0, g⟩ (fun r => (∀ c : Dev Cert.FoxInWeightIdeal.nD,
      r.2.mem ((c.tc : Thread Cert.FoxInWeightIdeal.nD Cert.FoxInWeightIdeal.τ).loc Cert.FoxInWeightIdeal.main_arg0) = m ((c.tc : Thread Cert.FoxInWeightIdeal.nD Cert.FoxInWeightIdeal.τ).loc Cert.FoxInWeightIdeal.main_arg0)
      ∧ r.2.mem ((c.tc : Thread Cert.FoxInWeightIdeal.nD Cert.FoxInWeightIdeal.τ).loc Cert.FoxInWeightIdeal.main_arg1) = m ((c.tc : Thread Cert.FoxInWeightIdeal.nD Cert.FoxInWeightIdeal.τ).loc Cert.FoxInWeightIdeal.main_arg1))
      ∧ r.2.sem = fun _ => 0)

def quiescent_FoxInWeightRefIdeal [hFoxInWeightRefIdeal : Cert.FoxInWeightRefIdeal.Facts] : Prop :=
  ∀ (m : (ℓ : Loc Cert.FoxInWeightRefIdeal.nD Cert.FoxInWeightRefIdeal.τ Cert.FoxInWeightRefIdeal.sig) → Buf (Elt Ideal) ℓ) (g : Dev Cert.FoxInWeightRefIdeal.nD → PrngReg), Pre_FoxInWeightRefIdeal m →
    θ_run (Cert.FoxInWeightRefIdeal.defs (F := Ideal)) (onTc (τ := Cert.FoxInWeightRefIdeal.τ) (Cert.FoxInWeightRefIdeal.main (F := Ideal))) ⟨m, fun _ => 0, g⟩ (fun r => (∀ c : Dev Cert.FoxInWeightRefIdeal.nD,
      r.2.mem ((c.tc : Thread Cert.FoxInWeightRefIdeal.nD Cert.FoxInWeightRefIdeal.τ).loc Cert.FoxInWeightRefIdeal.main_arg0) = m ((c.tc : Thread Cert.FoxInWeightRefIdeal.nD Cert.FoxInWeightRefIdeal.τ).loc Cert.FoxInWeightRefIdeal.main_arg0)
      ∧ r.2.mem ((c.tc : Thread Cert.FoxInWeightRefIdeal.nD Cert.FoxInWeightRefIdeal.τ).loc Cert.FoxInWeightRefIdeal.main_arg1) = m ((c.tc : Thread Cert.FoxInWeightRefIdeal.nD Cert.FoxInWeightRefIdeal.τ).loc Cert.FoxInWeightRefIdeal.main_arg1))
      ∧ r.2.sem = fun _ => 0)

def quiescent_SwaInGrad [hSwaInGrad : Cert.SwaInGrad.Facts] : Prop :=
  ∀ (m : (ℓ : Loc Cert.SwaInGrad.nD Cert.SwaInGrad.τ Cert.SwaInGrad.sig) → Buf (Elt Bits) ℓ) (g : Dev Cert.SwaInGrad.nD → PrngReg), Pre_SwaInGrad m →
    θ_run (Cert.SwaInGrad.defs (F := Bits)) (onTc (τ := Cert.SwaInGrad.τ) (Cert.SwaInGrad.main (F := Bits))) ⟨m, fun _ => 0, g⟩ (fun r => (∀ c : Dev Cert.SwaInGrad.nD,
      r.2.mem ((c.tc : Thread Cert.SwaInGrad.nD Cert.SwaInGrad.τ).loc Cert.SwaInGrad.main_arg0) = m ((c.tc : Thread Cert.SwaInGrad.nD Cert.SwaInGrad.τ).loc Cert.SwaInGrad.main_arg0)
      ∧ r.2.mem ((c.tc : Thread Cert.SwaInGrad.nD Cert.SwaInGrad.τ).loc Cert.SwaInGrad.main_arg1) = m ((c.tc : Thread Cert.SwaInGrad.nD Cert.SwaInGrad.τ).loc Cert.SwaInGrad.main_arg1))
      ∧ r.2.sem = fun _ => 0)

def quiescent_SwaInGradIdeal [hSwaInGradIdeal : Cert.SwaInGradIdeal.Facts] : Prop :=
  ∀ (m : (ℓ : Loc Cert.SwaInGradIdeal.nD Cert.SwaInGradIdeal.τ Cert.SwaInGradIdeal.sig) → Buf (Elt Ideal) ℓ) (g : Dev Cert.SwaInGradIdeal.nD → PrngReg), Pre_SwaInGradIdeal m →
    θ_run (Cert.SwaInGradIdeal.defs (F := Ideal)) (onTc (τ := Cert.SwaInGradIdeal.τ) (Cert.SwaInGradIdeal.main (F := Ideal))) ⟨m, fun _ => 0, g⟩ (fun r => (∀ c : Dev Cert.SwaInGradIdeal.nD,
      r.2.mem ((c.tc : Thread Cert.SwaInGradIdeal.nD Cert.SwaInGradIdeal.τ).loc Cert.SwaInGradIdeal.main_arg0) = m ((c.tc : Thread Cert.SwaInGradIdeal.nD Cert.SwaInGradIdeal.τ).loc Cert.SwaInGradIdeal.main_arg0)
      ∧ r.2.mem ((c.tc : Thread Cert.SwaInGradIdeal.nD Cert.SwaInGradIdeal.τ).loc Cert.SwaInGradIdeal.main_arg1) = m ((c.tc : Thread Cert.SwaInGradIdeal.nD Cert.SwaInGradIdeal.τ).loc Cert.SwaInGradIdeal.main_arg1))
      ∧ r.2.sem = fun _ => 0)

def quiescent_SwaInGradRefIdeal [hSwaInGradRefIdeal : Cert.SwaInGradRefIdeal.Facts] : Prop :=
  ∀ (m : (ℓ : Loc Cert.SwaInGradRefIdeal.nD Cert.SwaInGradRefIdeal.τ Cert.SwaInGradRefIdeal.sig) → Buf (Elt Ideal) ℓ) (g : Dev Cert.SwaInGradRefIdeal.nD → PrngReg), Pre_SwaInGradRefIdeal m →
    θ_run (Cert.SwaInGradRefIdeal.defs (F := Ideal)) (onTc (τ := Cert.SwaInGradRefIdeal.τ) (Cert.SwaInGradRefIdeal.main (F := Ideal))) ⟨m, fun _ => 0, g⟩ (fun r => (∀ c : Dev Cert.SwaInGradRefIdeal.nD,
      r.2.mem ((c.tc : Thread Cert.SwaInGradRefIdeal.nD Cert.SwaInGradRefIdeal.τ).loc Cert.SwaInGradRefIdeal.main_arg0) = m ((c.tc : Thread Cert.SwaInGradRefIdeal.nD Cert.SwaInGradRefIdeal.τ).loc Cert.SwaInGradRefIdeal.main_arg0)
      ∧ r.2.mem ((c.tc : Thread Cert.SwaInGradRefIdeal.nD Cert.SwaInGradRefIdeal.τ).loc Cert.SwaInGradRefIdeal.main_arg1) = m ((c.tc : Thread Cert.SwaInGradRefIdeal.nD Cert.SwaInGradRefIdeal.τ).loc Cert.SwaInGradRefIdeal.main_arg1))
      ∧ r.2.sem = fun _ => 0)

def quiescent_SwaInWeight [hSwaInWeight : Cert.SwaInWeight.Facts] : Prop :=
  ∀ (m : (ℓ : Loc Cert.SwaInWeight.nD Cert.SwaInWeight.τ Cert.SwaInWeight.sig) → Buf (Elt Bits) ℓ) (g : Dev Cert.SwaInWeight.nD → PrngReg), Pre_SwaInWeight m →
    θ_run (Cert.SwaInWeight.defs (F := Bits)) (onTc (τ := Cert.SwaInWeight.τ) (Cert.SwaInWeight.main (F := Bits))) ⟨m, fun _ => 0, g⟩ (fun r => (∀ c : Dev Cert.SwaInWeight.nD,
      r.2.mem ((c.tc : Thread Cert.SwaInWeight.nD Cert.SwaInWeight.τ).loc Cert.SwaInWeight.main_arg0) = m ((c.tc : Thread Cert.SwaInWeight.nD Cert.SwaInWeight.τ).loc Cert.SwaInWeight.main_arg0)
      ∧ r.2.mem ((c.tc : Thread Cert.SwaInWeight.nD Cert.SwaInWeight.τ).loc Cert.SwaInWeight.main_arg1) = m ((c.tc : Thread Cert.SwaInWeight.nD Cert.SwaInWeight.τ).loc Cert.SwaInWeight.main_arg1))
      ∧ r.2.sem = fun _ => 0)

def quiescent_SwaInWeightIdeal [hSwaInWeightIdeal : Cert.SwaInWeightIdeal.Facts] : Prop :=
  ∀ (m : (ℓ : Loc Cert.SwaInWeightIdeal.nD Cert.SwaInWeightIdeal.τ Cert.SwaInWeightIdeal.sig) → Buf (Elt Ideal) ℓ) (g : Dev Cert.SwaInWeightIdeal.nD → PrngReg), Pre_SwaInWeightIdeal m →
    θ_run (Cert.SwaInWeightIdeal.defs (F := Ideal)) (onTc (τ := Cert.SwaInWeightIdeal.τ) (Cert.SwaInWeightIdeal.main (F := Ideal))) ⟨m, fun _ => 0, g⟩ (fun r => (∀ c : Dev Cert.SwaInWeightIdeal.nD,
      r.2.mem ((c.tc : Thread Cert.SwaInWeightIdeal.nD Cert.SwaInWeightIdeal.τ).loc Cert.SwaInWeightIdeal.main_arg0) = m ((c.tc : Thread Cert.SwaInWeightIdeal.nD Cert.SwaInWeightIdeal.τ).loc Cert.SwaInWeightIdeal.main_arg0)
      ∧ r.2.mem ((c.tc : Thread Cert.SwaInWeightIdeal.nD Cert.SwaInWeightIdeal.τ).loc Cert.SwaInWeightIdeal.main_arg1) = m ((c.tc : Thread Cert.SwaInWeightIdeal.nD Cert.SwaInWeightIdeal.τ).loc Cert.SwaInWeightIdeal.main_arg1))
      ∧ r.2.sem = fun _ => 0)

def quiescent_SwaInWeightRefIdeal [hSwaInWeightRefIdeal : Cert.SwaInWeightRefIdeal.Facts] : Prop :=
  ∀ (m : (ℓ : Loc Cert.SwaInWeightRefIdeal.nD Cert.SwaInWeightRefIdeal.τ Cert.SwaInWeightRefIdeal.sig) → Buf (Elt Ideal) ℓ) (g : Dev Cert.SwaInWeightRefIdeal.nD → PrngReg), Pre_SwaInWeightRefIdeal m →
    θ_run (Cert.SwaInWeightRefIdeal.defs (F := Ideal)) (onTc (τ := Cert.SwaInWeightRefIdeal.τ) (Cert.SwaInWeightRefIdeal.main (F := Ideal))) ⟨m, fun _ => 0, g⟩ (fun r => (∀ c : Dev Cert.SwaInWeightRefIdeal.nD,
      r.2.mem ((c.tc : Thread Cert.SwaInWeightRefIdeal.nD Cert.SwaInWeightRefIdeal.τ).loc Cert.SwaInWeightRefIdeal.main_arg0) = m ((c.tc : Thread Cert.SwaInWeightRefIdeal.nD Cert.SwaInWeightRefIdeal.τ).loc Cert.SwaInWeightRefIdeal.main_arg0)
      ∧ r.2.mem ((c.tc : Thread Cert.SwaInWeightRefIdeal.nD Cert.SwaInWeightRefIdeal.τ).loc Cert.SwaInWeightRefIdeal.main_arg1) = m ((c.tc : Thread Cert.SwaInWeightRefIdeal.nD Cert.SwaInWeightRefIdeal.τ).loc Cert.SwaInWeightRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ r.2.sem = fun _ => 0)

def quiescent_FoxInRefIdeal [hFoxInRefIdeal : Cert.FoxInRefIdeal.Facts] : Prop :=
  ∀ (m : (ℓ : Loc Cert.FoxInRefIdeal.nD Cert.FoxInRefIdeal.τ Cert.FoxInRefIdeal.sig) → Buf (Elt Ideal) ℓ) (g : Dev Cert.FoxInRefIdeal.nD → PrngReg), Pre_FoxInRefIdeal m →
    θ_run (Cert.FoxInRefIdeal.defs (F := Ideal)) (onTc (τ := Cert.FoxInRefIdeal.τ) (Cert.FoxInRefIdeal.main (F := Ideal))) ⟨m, fun _ => 0, g⟩ (fun r => (∀ c : Dev Cert.FoxInRefIdeal.nD,
      r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
      ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)) (v4 : (c : Dev Cert.KernelIdeal.nD) → Buf (Elt Ideal) ((c.tc : Thread Cert.KernelIdeal.nD Cert.KernelIdeal.τ).loc Cert.KernelIdeal.main_v36_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_v36_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v2)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v2) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v5) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v1)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v1) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v7) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v6) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_UpWeight_UpWeightIdeal : Prop :=
  True

def algebraic_UpWeightIdeal_UpWeightRefIdeal [hUpWeightIdeal : Cert.UpWeightIdeal.Facts] [hUpWeightRefIdeal : Cert.UpWeightRefIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightRefIdeal.nD Cert.UpWeightRefIdeal.τ Cert.UpWeightRefIdeal.sig) → Buf (Elt Ideal) ℓ) (g' : Dev Cert.UpWeightRefIdeal.nD → PrngReg), Pre_UpWeightIdeal m →
    (∀ c : Dev Cert.UpWeightIdeal.nD,
      m' ((c.tc : Thread Cert.UpWeightRefIdeal.nD Cert.UpWeightRefIdeal.τ).loc Cert.UpWeightRefIdeal.main_arg0) = m ((c.tc : Thread Cert.UpWeightIdeal.nD Cert.UpWeightIdeal.τ).loc Cert.UpWeightIdeal.main_arg0)
      ∧ m' ((c.tc : Thread Cert.UpWeightRefIdeal.nD Cert.UpWeightRefIdeal.τ).loc Cert.UpWeightRefIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v0)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v0) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightRefIdeal.defs (F := Ideal)) (onTc (τ := Cert.UpWeightRefIdeal.τ) (Cert.UpWeightRefIdeal.main (F := Ideal))) ⟨m', fun _ => 0, g'⟩ (fun r => ∀ c : Dev Cert.UpWeightRefIdeal.nD,
          r.2.mem ((c.tc : Thread Cert.UpWeightRefIdeal.nD Cert.UpWeightRefIdeal.τ).loc Cert.UpWeightRefIdeal.main_v8) = v0 c
          ∧ r.2.mem ((c.tc : Thread Cert.UpWeightRefIdeal.nD Cert.UpWeightRefIdeal.τ).loc Cert.UpWeightRefIdeal.main_arg0) = m' ((c.tc : Thread Cert.UpWeightRefIdeal.nD Cert.UpWeightRefIdeal.τ).loc Cert.UpWeightRefIdeal.main_arg0)
          ∧ r.2.mem ((c.tc : Thread Cert.UpWeightRefIdeal.nD Cert.UpWeightRefIdeal.τ).loc Cert.UpWeightRefIdeal.main_arg1) = m' ((c.tc : Thread Cert.UpWeightRefIdeal.nD Cert.UpWeightRefIdeal.τ).loc Cert.UpWeightRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v4) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v1)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v1) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v7) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_FoxInGrad_FoxInGradIdeal : Prop :=
  True

def algebraic_FoxInGradIdeal_FoxInGradRefIdeal [hFoxInGradIdeal : Cert.FoxInGradIdeal.Facts] [hFoxInGradRefIdeal : Cert.FoxInGradRefIdeal.Facts] : Prop :=
  ∀ (m : (ℓ : Loc Cert.FoxInGradIdeal.nD Cert.FoxInGradIdeal.τ Cert.FoxInGradIdeal.sig) → Buf (Elt Ideal) ℓ) (g : Dev Cert.FoxInGradIdeal.nD → PrngReg)
    (m' : (ℓ : Loc Cert.FoxInGradRefIdeal.nD Cert.FoxInGradRefIdeal.τ Cert.FoxInGradRefIdeal.sig) → Buf (Elt Ideal) ℓ) (g' : Dev Cert.FoxInGradRefIdeal.nD → PrngReg), Pre_FoxInGradIdeal m →
    (∀ c : Dev Cert.FoxInGradIdeal.nD,
      m' ((c.tc : Thread Cert.FoxInGradRefIdeal.nD Cert.FoxInGradRefIdeal.τ).loc Cert.FoxInGradRefIdeal.main_arg0) = m ((c.tc : Thread Cert.FoxInGradIdeal.nD Cert.FoxInGradIdeal.τ).loc Cert.FoxInGradIdeal.main_arg0)
      ∧ m' ((c.tc : Thread Cert.FoxInGradRefIdeal.nD Cert.FoxInGradRefIdeal.τ).loc Cert.FoxInGradRefIdeal.main_arg1) = m ((c.tc : Thread Cert.FoxInGradIdeal.nD Cert.FoxInGradIdeal.τ).loc Cert.FoxInGradIdeal.main_arg1)) →
    ∃ (v0 : (c : Dev Cert.FoxInGradIdeal.nD) → Buf (Elt Ideal) ((c.tc : Thread Cert.FoxInGradIdeal.nD Cert.FoxInGradIdeal.τ).loc Cert.FoxInGradIdeal.main_v2)),
      θ_run (Cert.FoxInGradIdeal.defs (F := Ideal)) (onTc (τ := Cert.FoxInGradIdeal.τ) (Cert.FoxInGradIdeal.main (F := Ideal))) ⟨m, fun _ => 0, g⟩ (fun r => ∀ c : Dev Cert.FoxInGradIdeal.nD,
          r.2.mem ((c.tc : Thread Cert.FoxInGradIdeal.nD Cert.FoxInGradIdeal.τ).loc Cert.FoxInGradIdeal.main_v2) = v0 c
          ∧ r.2.mem ((c.tc : Thread Cert.FoxInGradIdeal.nD Cert.FoxInGradIdeal.τ).loc Cert.FoxInGradIdeal.main_arg0) = m ((c.tc : Thread Cert.FoxInGradIdeal.nD Cert.FoxInGradIdeal.τ).loc Cert.FoxInGradIdeal.main_arg0)
          ∧ r.2.mem ((c.tc : Thread Cert.FoxInGradIdeal.nD Cert.FoxInGradIdeal.τ).loc Cert.FoxInGradIdeal.main_arg1) = m ((c.tc : Thread Cert.FoxInGradIdeal.nD Cert.FoxInGradIdeal.τ).loc Cert.FoxInGradIdeal.main_arg1))
      ∧ θ_run (Cert.FoxInGradRefIdeal.defs (F := Ideal)) (onTc (τ := Cert.FoxInGradRefIdeal.τ) (Cert.FoxInGradRefIdeal.main (F := Ideal))) ⟨m', fun _ => 0, g'⟩ (fun r => ∀ c : Dev Cert.FoxInGradRefIdeal.nD,
          r.2.mem ((c.tc : Thread Cert.FoxInGradRefIdeal.nD Cert.FoxInGradRefIdeal.τ).loc Cert.FoxInGradRefIdeal.main_v4) = v0 c
          ∧ r.2.mem ((c.tc : Thread Cert.FoxInGradRefIdeal.nD Cert.FoxInGradRefIdeal.τ).loc Cert.FoxInGradRefIdeal.main_arg0) = m' ((c.tc : Thread Cert.FoxInGradRefIdeal.nD Cert.FoxInGradRefIdeal.τ).loc Cert.FoxInGradRefIdeal.main_arg0)
          ∧ r.2.mem ((c.tc : Thread Cert.FoxInGradRefIdeal.nD Cert.FoxInGradRefIdeal.τ).loc Cert.FoxInGradRefIdeal.main_arg1) = m' ((c.tc : Thread Cert.FoxInGradRefIdeal.nD Cert.FoxInGradRefIdeal.τ).loc Cert.FoxInGradRefIdeal.main_arg1))

def preserves_FoxInWeight_FoxInWeightIdeal : Prop :=
  True

def algebraic_FoxInWeightIdeal_FoxInWeightRefIdeal [hFoxInWeightIdeal : Cert.FoxInWeightIdeal.Facts] [hFoxInWeightRefIdeal : Cert.FoxInWeightRefIdeal.Facts] : Prop :=
  ∀ (m : (ℓ : Loc Cert.FoxInWeightIdeal.nD Cert.FoxInWeightIdeal.τ Cert.FoxInWeightIdeal.sig) → Buf (Elt Ideal) ℓ) (g : Dev Cert.FoxInWeightIdeal.nD → PrngReg)
    (m' : (ℓ : Loc Cert.FoxInWeightRefIdeal.nD Cert.FoxInWeightRefIdeal.τ Cert.FoxInWeightRefIdeal.sig) → Buf (Elt Ideal) ℓ) (g' : Dev Cert.FoxInWeightRefIdeal.nD → PrngReg), Pre_FoxInWeightIdeal m →
    (∀ c : Dev Cert.FoxInWeightIdeal.nD,
      m' ((c.tc : Thread Cert.FoxInWeightRefIdeal.nD Cert.FoxInWeightRefIdeal.τ).loc Cert.FoxInWeightRefIdeal.main_arg0) = m ((c.tc : Thread Cert.FoxInWeightIdeal.nD Cert.FoxInWeightIdeal.τ).loc Cert.FoxInWeightIdeal.main_arg0)
      ∧ m' ((c.tc : Thread Cert.FoxInWeightRefIdeal.nD Cert.FoxInWeightRefIdeal.τ).loc Cert.FoxInWeightRefIdeal.main_arg1) = m ((c.tc : Thread Cert.FoxInWeightIdeal.nD Cert.FoxInWeightIdeal.τ).loc Cert.FoxInWeightIdeal.main_arg1)) →
    ∃ (v0 : (c : Dev Cert.FoxInWeightIdeal.nD) → Buf (Elt Ideal) ((c.tc : Thread Cert.FoxInWeightIdeal.nD Cert.FoxInWeightIdeal.τ).loc Cert.FoxInWeightIdeal.main_v1)),
      θ_run (Cert.FoxInWeightIdeal.defs (F := Ideal)) (onTc (τ := Cert.FoxInWeightIdeal.τ) (Cert.FoxInWeightIdeal.main (F := Ideal))) ⟨m, fun _ => 0, g⟩ (fun r => ∀ c : Dev Cert.FoxInWeightIdeal.nD,
          r.2.mem ((c.tc : Thread Cert.FoxInWeightIdeal.nD Cert.FoxInWeightIdeal.τ).loc Cert.FoxInWeightIdeal.main_v1) = v0 c
          ∧ r.2.mem ((c.tc : Thread Cert.FoxInWeightIdeal.nD Cert.FoxInWeightIdeal.τ).loc Cert.FoxInWeightIdeal.main_arg0) = m ((c.tc : Thread Cert.FoxInWeightIdeal.nD Cert.FoxInWeightIdeal.τ).loc Cert.FoxInWeightIdeal.main_arg0)
          ∧ r.2.mem ((c.tc : Thread Cert.FoxInWeightIdeal.nD Cert.FoxInWeightIdeal.τ).loc Cert.FoxInWeightIdeal.main_arg1) = m ((c.tc : Thread Cert.FoxInWeightIdeal.nD Cert.FoxInWeightIdeal.τ).loc Cert.FoxInWeightIdeal.main_arg1))
      ∧ θ_run (Cert.FoxInWeightRefIdeal.defs (F := Ideal)) (onTc (τ := Cert.FoxInWeightRefIdeal.τ) (Cert.FoxInWeightRefIdeal.main (F := Ideal))) ⟨m', fun _ => 0, g'⟩ (fun r => ∀ c : Dev Cert.FoxInWeightRefIdeal.nD,
          r.2.mem ((c.tc : Thread Cert.FoxInWeightRefIdeal.nD Cert.FoxInWeightRefIdeal.τ).loc Cert.FoxInWeightRefIdeal.main_v8) = v0 c
          ∧ r.2.mem ((c.tc : Thread Cert.FoxInWeightRefIdeal.nD Cert.FoxInWeightRefIdeal.τ).loc Cert.FoxInWeightRefIdeal.main_arg0) = m' ((c.tc : Thread Cert.FoxInWeightRefIdeal.nD Cert.FoxInWeightRefIdeal.τ).loc Cert.FoxInWeightRefIdeal.main_arg0)
          ∧ r.2.mem ((c.tc : Thread Cert.FoxInWeightRefIdeal.nD Cert.FoxInWeightRefIdeal.τ).loc Cert.FoxInWeightRefIdeal.main_arg1) = m' ((c.tc : Thread Cert.FoxInWeightRefIdeal.nD Cert.FoxInWeightRefIdeal.τ).loc Cert.FoxInWeightRefIdeal.main_arg1))

def preserves_SwaInGrad_SwaInGradIdeal : Prop :=
  True

def algebraic_SwaInGradIdeal_SwaInGradRefIdeal [hSwaInGradIdeal : Cert.SwaInGradIdeal.Facts] [hSwaInGradRefIdeal : Cert.SwaInGradRefIdeal.Facts] : Prop :=
  ∀ (m : (ℓ : Loc Cert.SwaInGradIdeal.nD Cert.SwaInGradIdeal.τ Cert.SwaInGradIdeal.sig) → Buf (Elt Ideal) ℓ) (g : Dev Cert.SwaInGradIdeal.nD → PrngReg)
    (m' : (ℓ : Loc Cert.SwaInGradRefIdeal.nD Cert.SwaInGradRefIdeal.τ Cert.SwaInGradRefIdeal.sig) → Buf (Elt Ideal) ℓ) (g' : Dev Cert.SwaInGradRefIdeal.nD → PrngReg), Pre_SwaInGradIdeal m →
    (∀ c : Dev Cert.SwaInGradIdeal.nD,
      m' ((c.tc : Thread Cert.SwaInGradRefIdeal.nD Cert.SwaInGradRefIdeal.τ).loc Cert.SwaInGradRefIdeal.main_arg0) = m ((c.tc : Thread Cert.SwaInGradIdeal.nD Cert.SwaInGradIdeal.τ).loc Cert.SwaInGradIdeal.main_arg0)
      ∧ m' ((c.tc : Thread Cert.SwaInGradRefIdeal.nD Cert.SwaInGradRefIdeal.τ).loc Cert.SwaInGradRefIdeal.main_arg1) = m ((c.tc : Thread Cert.SwaInGradIdeal.nD Cert.SwaInGradIdeal.τ).loc Cert.SwaInGradIdeal.main_arg1)) →
    ∃ (v0 : (c : Dev Cert.SwaInGradIdeal.nD) → Buf (Elt Ideal) ((c.tc : Thread Cert.SwaInGradIdeal.nD Cert.SwaInGradIdeal.τ).loc Cert.SwaInGradIdeal.main_v2)),
      θ_run (Cert.SwaInGradIdeal.defs (F := Ideal)) (onTc (τ := Cert.SwaInGradIdeal.τ) (Cert.SwaInGradIdeal.main (F := Ideal))) ⟨m, fun _ => 0, g⟩ (fun r => ∀ c : Dev Cert.SwaInGradIdeal.nD,
          r.2.mem ((c.tc : Thread Cert.SwaInGradIdeal.nD Cert.SwaInGradIdeal.τ).loc Cert.SwaInGradIdeal.main_v2) = v0 c
          ∧ r.2.mem ((c.tc : Thread Cert.SwaInGradIdeal.nD Cert.SwaInGradIdeal.τ).loc Cert.SwaInGradIdeal.main_arg0) = m ((c.tc : Thread Cert.SwaInGradIdeal.nD Cert.SwaInGradIdeal.τ).loc Cert.SwaInGradIdeal.main_arg0)
          ∧ r.2.mem ((c.tc : Thread Cert.SwaInGradIdeal.nD Cert.SwaInGradIdeal.τ).loc Cert.SwaInGradIdeal.main_arg1) = m ((c.tc : Thread Cert.SwaInGradIdeal.nD Cert.SwaInGradIdeal.τ).loc Cert.SwaInGradIdeal.main_arg1))
      ∧ θ_run (Cert.SwaInGradRefIdeal.defs (F := Ideal)) (onTc (τ := Cert.SwaInGradRefIdeal.τ) (Cert.SwaInGradRefIdeal.main (F := Ideal))) ⟨m', fun _ => 0, g'⟩ (fun r => ∀ c : Dev Cert.SwaInGradRefIdeal.nD,
          r.2.mem ((c.tc : Thread Cert.SwaInGradRefIdeal.nD Cert.SwaInGradRefIdeal.τ).loc Cert.SwaInGradRefIdeal.main_v4) = v0 c
          ∧ r.2.mem ((c.tc : Thread Cert.SwaInGradRefIdeal.nD Cert.SwaInGradRefIdeal.τ).loc Cert.SwaInGradRefIdeal.main_arg0) = m' ((c.tc : Thread Cert.SwaInGradRefIdeal.nD Cert.SwaInGradRefIdeal.τ).loc Cert.SwaInGradRefIdeal.main_arg0)
          ∧ r.2.mem ((c.tc : Thread Cert.SwaInGradRefIdeal.nD Cert.SwaInGradRefIdeal.τ).loc Cert.SwaInGradRefIdeal.main_arg1) = m' ((c.tc : Thread Cert.SwaInGradRefIdeal.nD Cert.SwaInGradRefIdeal.τ).loc Cert.SwaInGradRefIdeal.main_arg1))

def preserves_SwaInWeight_SwaInWeightIdeal : Prop :=
  True

def algebraic_SwaInWeightIdeal_SwaInWeightRefIdeal [hSwaInWeightIdeal : Cert.SwaInWeightIdeal.Facts] [hSwaInWeightRefIdeal : Cert.SwaInWeightRefIdeal.Facts] : Prop :=
  ∀ (m : (ℓ : Loc Cert.SwaInWeightIdeal.nD Cert.SwaInWeightIdeal.τ Cert.SwaInWeightIdeal.sig) → Buf (Elt Ideal) ℓ) (g : Dev Cert.SwaInWeightIdeal.nD → PrngReg)
    (m' : (ℓ : Loc Cert.SwaInWeightRefIdeal.nD Cert.SwaInWeightRefIdeal.τ Cert.SwaInWeightRefIdeal.sig) → Buf (Elt Ideal) ℓ) (g' : Dev Cert.SwaInWeightRefIdeal.nD → PrngReg), Pre_SwaInWeightIdeal m →
    (∀ c : Dev Cert.SwaInWeightIdeal.nD,
      m' ((c.tc : Thread Cert.SwaInWeightRefIdeal.nD Cert.SwaInWeightRefIdeal.τ).loc Cert.SwaInWeightRefIdeal.main_arg0) = m ((c.tc : Thread Cert.SwaInWeightIdeal.nD Cert.SwaInWeightIdeal.τ).loc Cert.SwaInWeightIdeal.main_arg0)
      ∧ m' ((c.tc : Thread Cert.SwaInWeightRefIdeal.nD Cert.SwaInWeightRefIdeal.τ).loc Cert.SwaInWeightRefIdeal.main_arg1) = m ((c.tc : Thread Cert.SwaInWeightIdeal.nD Cert.SwaInWeightIdeal.τ).loc Cert.SwaInWeightIdeal.main_arg1)) →
    ∃ (v0 : (c : Dev Cert.SwaInWeightIdeal.nD) → Buf (Elt Ideal) ((c.tc : Thread Cert.SwaInWeightIdeal.nD Cert.SwaInWeightIdeal.τ).loc Cert.SwaInWeightIdeal.main_v1)),
      θ_run (Cert.SwaInWeightIdeal.defs (F := Ideal)) (onTc (τ := Cert.SwaInWeightIdeal.τ) (Cert.SwaInWeightIdeal.main (F := Ideal))) ⟨m, fun _ => 0, g⟩ (fun r => ∀ c : Dev Cert.SwaInWeightIdeal.nD,
          r.2.mem ((c.tc : Thread Cert.SwaInWeightIdeal.nD Cert.SwaInWeightIdeal.τ).loc Cert.SwaInWeightIdeal.main_v1) = v0 c
          ∧ r.2.mem ((c.tc : Thread Cert.SwaInWeightIdeal.nD Cert.SwaInWeightIdeal.τ).loc Cert.SwaInWeightIdeal.main_arg0) = m ((c.tc : Thread Cert.SwaInWeightIdeal.nD Cert.SwaInWeightIdeal.τ).loc Cert.SwaInWeightIdeal.main_arg0)
          ∧ r.2.mem ((c.tc : Thread Cert.SwaInWeightIdeal.nD Cert.SwaInWeightIdeal.τ).loc Cert.SwaInWeightIdeal.main_arg1) = m ((c.tc : Thread Cert.SwaInWeightIdeal.nD Cert.SwaInWeightIdeal.τ).loc Cert.SwaInWeightIdeal.main_arg1))
      ∧ θ_run (Cert.SwaInWeightRefIdeal.defs (F := Ideal)) (onTc (τ := Cert.SwaInWeightRefIdeal.τ) (Cert.SwaInWeightRefIdeal.main (F := Ideal))) ⟨m', fun _ => 0, g'⟩ (fun r => ∀ c : Dev Cert.SwaInWeightRefIdeal.nD,
          r.2.mem ((c.tc : Thread Cert.SwaInWeightRefIdeal.nD Cert.SwaInWeightRefIdeal.τ).loc Cert.SwaInWeightRefIdeal.main_v8) = v0 c
          ∧ r.2.mem ((c.tc : Thread Cert.SwaInWeightRefIdeal.nD Cert.SwaInWeightRefIdeal.τ).loc Cert.SwaInWeightRefIdeal.main_arg0) = m' ((c.tc : Thread Cert.SwaInWeightRefIdeal.nD Cert.SwaInWeightRefIdeal.τ).loc Cert.SwaInWeightRefIdeal.main_arg0)
          ∧ r.2.mem ((c.tc : Thread Cert.SwaInWeightRefIdeal.nD Cert.SwaInWeightRefIdeal.τ).loc Cert.SwaInWeightRefIdeal.main_arg1) = m' ((c.tc : Thread Cert.SwaInWeightRefIdeal.nD Cert.SwaInWeightRefIdeal.τ).loc Cert.SwaInWeightRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_FoxIn_FoxInIdeal : Prop :=
  True

def algebraic_FoxInIdeal_FoxInRefIdeal [hFoxInIdeal : Cert.FoxInIdeal.Facts] [hFoxInRefIdeal : Cert.FoxInRefIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInRefIdeal.nD Cert.FoxInRefIdeal.τ Cert.FoxInRefIdeal.sig) → Buf (Elt Ideal) ℓ) (g' : Dev Cert.FoxInRefIdeal.nD → PrngReg), Pre_FoxInIdeal m →
    (∀ c : Dev Cert.FoxInIdeal.nD,
      m' ((c.tc : Thread Cert.FoxInRefIdeal.nD Cert.FoxInRefIdeal.τ).loc Cert.FoxInRefIdeal.main_arg0) = m ((c.tc : Thread Cert.FoxInIdeal.nD Cert.FoxInIdeal.τ).loc Cert.FoxInIdeal.main_arg0)
      ∧ m' ((c.tc : Thread Cert.FoxInRefIdeal.nD Cert.FoxInRefIdeal.τ).loc Cert.FoxInRefIdeal.main_arg1) = m ((c.tc : Thread Cert.FoxInIdeal.nD Cert.FoxInIdeal.τ).loc Cert.FoxInIdeal.main_arg1)) →
    ∃ (v0 : (c : Dev Cert.FoxInIdeal.nD) → Buf (Elt Ideal) ((c.tc : Thread Cert.FoxInIdeal.nD Cert.FoxInIdeal.τ).loc Cert.FoxInIdeal.main_v0)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v0) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ θ_run (Cert.FoxInRefIdeal.defs (F := Ideal)) (onTc (τ := Cert.FoxInRefIdeal.τ) (Cert.FoxInRefIdeal.main (F := Ideal))) ⟨m', fun _ => 0, g'⟩ (fun r => ∀ c : Dev Cert.FoxInRefIdeal.nD,
          r.2.mem ((c.tc : Thread Cert.FoxInRefIdeal.nD Cert.FoxInRefIdeal.τ).loc Cert.FoxInRefIdeal.main_v2) = v0 c
          ∧ r.2.mem ((c.tc : Thread Cert.FoxInRefIdeal.nD Cert.FoxInRefIdeal.τ).loc Cert.FoxInRefIdeal.main_arg0) = m' ((c.tc : Thread Cert.FoxInRefIdeal.nD Cert.FoxInRefIdeal.τ).loc Cert.FoxInRefIdeal.main_arg0)
          ∧ r.2.mem ((c.tc : Thread Cert.FoxInRefIdeal.nD Cert.FoxInRefIdeal.τ).loc Cert.FoxInRefIdeal.main_arg1) = m' ((c.tc : Thread Cert.FoxInRefIdeal.nD Cert.FoxInRefIdeal.τ).loc Cert.FoxInRefIdeal.main_arg1))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)) →
    ∃ (v0 : (c : Dev Cert.SwaInIdeal.nD) → Buf (Elt Ideal) ((c.tc : Thread Cert.SwaInIdeal.nD Cert.SwaInIdeal.τ).loc Cert.SwaInIdeal.main_v0)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v0) = v0 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v2) = v0 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v27) = v0 c
          ∧ r.2.mem ((c.tc : Thread Cert.UpRefIdeal.nD Cert.UpRefIdeal.τ).loc Cert.UpRefIdeal.main_v28) = v1 c
          ∧ r.2.mem ((c.tc : Thread Cert.UpRefIdeal.nD Cert.UpRefIdeal.τ).loc Cert.UpRefIdeal.main_v31) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v22_0)) (v1 : (c : Dev Cert.GateIdeal.nD) → Buf (Elt Ideal) ((c.tc : Thread Cert.GateIdeal.nD Cert.GateIdeal.τ).loc Cert.GateIdeal.main_v22_1)) (v2 : (c : Dev Cert.GateIdeal.nD) → Buf (Elt Ideal) ((c.tc : Thread Cert.GateIdeal.nD Cert.GateIdeal.τ).loc Cert.GateIdeal.main_v22_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v22_0) = v0 c
          ∧ r.2.mem ((c.tc : Thread Cert.GateIdeal.nD Cert.GateIdeal.τ).loc Cert.GateIdeal.main_v22_1) = v1 c
          ∧ r.2.mem ((c.tc : Thread Cert.GateIdeal.nD Cert.GateIdeal.τ).loc Cert.GateIdeal.main_v22_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v64) = v0 c
          ∧ r.2.mem ((c.tc : Thread Cert.GateRefIdeal.nD Cert.GateRefIdeal.τ).loc Cert.GateRefIdeal.main_v59) = v1 c
          ∧ r.2.mem ((c.tc : Thread Cert.GateRefIdeal.nD Cert.GateRefIdeal.τ).loc Cert.GateRefIdeal.main_v36) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def Claim : Prop :=
  ∃ (hKernel : Cert.Kernel.Facts) (hKernelIdeal : Cert.KernelIdeal.Facts) (hReferenceIdeal : Cert.ReferenceIdeal.Facts) (hDownGrad : Cert.DownGrad.Facts) (hDownGradIdeal : Cert.DownGradIdeal.Facts) (hDownGradRefIdeal : Cert.DownGradRefIdeal.Facts) (hDownWeight : Cert.DownWeight.Facts) (hDownWeightIdeal : Cert.DownWeightIdeal.Facts) (hDownWeightRefIdeal : Cert.DownWeightRefIdeal.Facts) (hUpGrad : Cert.UpGrad.Facts) (hUpGradIdeal : Cert.UpGradIdeal.Facts) (hUpGradRefIdeal : Cert.UpGradRefIdeal.Facts) (hUpWeight : Cert.UpWeight.Facts) (hUpWeightIdeal : Cert.UpWeightIdeal.Facts) (hUpWeightRefIdeal : Cert.UpWeightRefIdeal.Facts) (hOutGrad : Cert.OutGrad.Facts) (hOutGradIdeal : Cert.OutGradIdeal.Facts) (hOutGradRefIdeal : Cert.OutGradRefIdeal.Facts) (hOutWeight : Cert.OutWeight.Facts) (hOutWeightIdeal : Cert.OutWeightIdeal.Facts) (hOutWeightRefIdeal : Cert.OutWeightRefIdeal.Facts) (hFoxInGrad : Cert.FoxInGrad.Facts) (hFoxInGradIdeal : Cert.FoxInGradIdeal.Facts) (hFoxInGradRefIdeal : Cert.FoxInGradRefIdeal.Facts) (hFoxInWeight : Cert.FoxInWeight.Facts) (hFoxInWeightIdeal : Cert.FoxInWeightIdeal.Facts) (hFoxInWeightRefIdeal : Cert.FoxInWeightRefIdeal.Facts) (hSwaInGrad : Cert.SwaInGrad.Facts) (hSwaInGradIdeal : Cert.SwaInGradIdeal.Facts) (hSwaInGradRefIdeal : Cert.SwaInGradRefIdeal.Facts) (hSwaInWeight : Cert.SwaInWeight.Facts) (hSwaInWeightIdeal : Cert.SwaInWeightIdeal.Facts) (hSwaInWeightRefIdeal : Cert.SwaInWeightRefIdeal.Facts) (hOutProj : Cert.OutProj.Facts) (hOutProjIdeal : Cert.OutProjIdeal.Facts) (hOutProjRefIdeal : Cert.OutProjRefIdeal.Facts) (hFoxIn : Cert.FoxIn.Facts) (hFoxInIdeal : Cert.FoxInIdeal.Facts) (hFoxInRefIdeal : Cert.FoxInRefIdeal.Facts) (hSwaIn : Cert.SwaIn.Facts) (hSwaInIdeal : Cert.SwaInIdeal.Facts) (hSwaInRefIdeal : Cert.SwaInRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hGate : Cert.Gate.Facts) (hGateIdeal : Cert.GateIdeal.Facts) (hGateRefIdeal : Cert.GateRefIdeal.Facts) (hPre_finite : Cert.Pre_finite.Facts) (hPre_gate_finite : Cert.Pre_gate_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_UpWeight (hUpWeight := hUpWeight)
    ∧ quiescent_UpWeightIdeal (hUpWeightIdeal := hUpWeightIdeal)
    ∧ quiescent_UpWeightRefIdeal (hUpWeightRefIdeal := hUpWeightRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_FoxInGrad (hFoxInGrad := hFoxInGrad)
    ∧ quiescent_FoxInGradIdeal (hFoxInGradIdeal := hFoxInGradIdeal)
    ∧ quiescent_FoxInGradRefIdeal (hFoxInGradRefIdeal := hFoxInGradRefIdeal)
    ∧ quiescent_FoxInWeight (hFoxInWeight := hFoxInWeight)
    ∧ quiescent_FoxInWeightIdeal (hFoxInWeightIdeal := hFoxInWeightIdeal)
    ∧ quiescent_FoxInWeightRefIdeal (hFoxInWeightRefIdeal := hFoxInWeightRefIdeal)
    ∧ quiescent_SwaInGrad (hSwaInGrad := hSwaInGrad)
    ∧ quiescent_SwaInGradIdeal (hSwaInGradIdeal := hSwaInGradIdeal)
    ∧ quiescent_SwaInGradRefIdeal (hSwaInGradRefIdeal := hSwaInGradRefIdeal)
    ∧ quiescent_SwaInWeight (hSwaInWeight := hSwaInWeight)
    ∧ quiescent_SwaInWeightIdeal (hSwaInWeightIdeal := hSwaInWeightIdeal)
    ∧ quiescent_SwaInWeightRefIdeal (hSwaInWeightRefIdeal := hSwaInWeightRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FoxIn (hFoxIn := hFoxIn)
    ∧ quiescent_FoxInIdeal (hFoxInIdeal := hFoxInIdeal)
    ∧ quiescent_FoxInRefIdeal (hFoxInRefIdeal := hFoxInRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_DownGrad_DownGradIdeal
    ∧ algebraic_DownGradIdeal_DownGradRefIdeal (hDownGradIdeal := hDownGradIdeal) (hDownGradRefIdeal := hDownGradRefIdeal)
    ∧ preserves_DownWeight_DownWeightIdeal
    ∧ algebraic_DownWeightIdeal_DownWeightRefIdeal (hDownWeightIdeal := hDownWeightIdeal) (hDownWeightRefIdeal := hDownWeightRefIdeal)
    ∧ preserves_UpGrad_UpGradIdeal
    ∧ algebraic_UpGradIdeal_UpGradRefIdeal (hUpGradIdeal := hUpGradIdeal) (hUpGradRefIdeal := hUpGradRefIdeal)
    ∧ preserves_UpWeight_UpWeightIdeal
    ∧ algebraic_UpWeightIdeal_UpWeightRefIdeal (hUpWeightIdeal := hUpWeightIdeal) (hUpWeightRefIdeal := hUpWeightRefIdeal)
    ∧ preserves_OutGrad_OutGradIdeal
    ∧ algebraic_OutGradIdeal_OutGradRefIdeal (hOutGradIdeal := hOutGradIdeal) (hOutGradRefIdeal := hOutGradRefIdeal)
    ∧ preserves_OutWeight_OutWeightIdeal
    ∧ algebraic_OutWeightIdeal_OutWeightRefIdeal (hOutWeightIdeal := hOutWeightIdeal) (hOutWeightRefIdeal := hOutWeightRefIdeal)
    ∧ preserves_FoxInGrad_FoxInGradIdeal
    ∧ algebraic_FoxInGradIdeal_FoxInGradRefIdeal (hFoxInGradIdeal := hFoxInGradIdeal) (hFoxInGradRefIdeal := hFoxInGradRefIdeal)
    ∧ preserves_FoxInWeight_FoxInWeightIdeal
    ∧ algebraic_FoxInWeightIdeal_FoxInWeightRefIdeal (hFoxInWeightIdeal := hFoxInWeightIdeal) (hFoxInWeightRefIdeal := hFoxInWeightRefIdeal)
    ∧ preserves_SwaInGrad_SwaInGradIdeal
    ∧ algebraic_SwaInGradIdeal_SwaInGradRefIdeal (hSwaInGradIdeal := hSwaInGradIdeal) (hSwaInGradRefIdeal := hSwaInGradRefIdeal)
    ∧ preserves_SwaInWeight_SwaInWeightIdeal
    ∧ algebraic_SwaInWeightIdeal_SwaInWeightRefIdeal (hSwaInWeightIdeal := hSwaInWeightIdeal) (hSwaInWeightRefIdeal := hSwaInWeightRefIdeal)
    ∧ preserves_OutProj_OutProjIdeal
    ∧ algebraic_OutProjIdeal_OutProjRefIdeal (hOutProjIdeal := hOutProjIdeal) (hOutProjRefIdeal := hOutProjRefIdeal)
    ∧ preserves_FoxIn_FoxInIdeal
    ∧ algebraic_FoxInIdeal_FoxInRefIdeal (hFoxInIdeal := hFoxInIdeal) (hFoxInRefIdeal := hFoxInRefIdeal)
    ∧ preserves_SwaIn_SwaInIdeal
    ∧ algebraic_SwaInIdeal_SwaInRefIdeal (hSwaInIdeal := hSwaInIdeal) (hSwaInRefIdeal := hSwaInRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Gate_GateIdeal
    ∧ algebraic_GateIdeal_GateRefIdeal_pre_gate_finite (hGateIdeal := hGateIdeal) (hGateRefIdeal := hGateRefIdeal) (hPre_gate_finite := hPre_gate_finite)
-- ==== Pre_finite.lean ====
abbrev S2048x6272 : Shape := ⟨2, ![2048, 6272]⟩
abbrev S16x2048 : Shape := ⟨2, ![16, 2048]⟩
abbrev S2048x2048 : Shape := ⟨2, ![2048, 2048]⟩
abbrev S_ : Shape := ⟨0, ![]⟩

class Facts : Prop where
  bcast_S_S2048x6272 : S_.BroadcastsInDim S2048x6272 (![] : Fin 0 → Fin S2048x6272.rank)
  reducesTo_S2048x6272_S_d0_1 : S2048x6272.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x6272 .f32) (main_arg1 : FVec F S16x2048 .f32) (main_arg2 : FVec F S2048x2048 .f32) : IVec S_ 1 :=
  let main_v0 : FVec F S2048x6272 .f32 := Host.absf main_arg0
  let main_cst : FVec F S_ .f32 := constant S_ .f32 0x7F800000#32
  let main_v1 : FVec F S2048x6272 .f32 := broadcastInDim S2048x6272 ![] bcast_S_S2048x6272 main_cst
  let main_v2 : IVec S2048x6272 1 := cmpf .olt main_v0 main_v1
  let main_c : IVec S_ 1 := constantI S_ 1 1#1
  let main_v3 : IVec S_ 1 := (fun x v => Host.reduce IntOp.andi x v reducesTo_S2048x6272_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_gate_finite.lean ====
abbrev S2x2048x5632 : Shape := ⟨3, ![2, 2048, 5632]⟩
abbrev S2x3x5632 : Shape := ⟨3, ![2, 3, 5632]⟩
abbrev S2x1x5632 : Shape := ⟨3, ![2, 1, 5632]⟩
abbrev S2048x5632 : Shape := ⟨2, ![2048, 5632]⟩
abbrev S_ : Shape := ⟨0, ![]⟩

class Facts : Prop where
  bitsLt_bf16_f32 : FTy.bits .bf16 < FTy.bits .f32
  bcast_S_S2x2048x5632 : S_.BroadcastsInDim S2x2048x5632 (![] : Fin 0 → Fin S2x2048x5632.rank)
  reducesTo_S2x2048x5632_S_d0_1_2 : S2x2048x5632.ReducesTo [0, 1, 2] S_
  h_S_ : 0 < S_.numel
  bcast_S_S2x3x5632 : S_.BroadcastsInDim S2x3x5632 (![] : Fin 0 → Fin S2x3x5632.rank)
  reducesTo_S2x3x5632_S_d0_1_2 : S2x3x5632.ReducesTo [0, 1, 2] S_
  bcast_S_S2x1x5632 : S_.BroadcastsInDim S2x1x5632 (![] : Fin 0 → Fin S2x1x5632.rank)
  reducesTo_S2x1x5632_S_d0_1_2 : S2x1x5632.ReducesTo [0, 1, 2] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v14 : IVec S_ 1) (main_v16 : FVec F S2048x5632 .f32) (main_cst_4 : FVec F S_ .f32) : IVec S_ 1 :=
  let main_v17 : FVec F S2048x5632 .f32 := broadcastInDim S2048x5632 ![] bcast_S_S2048x5632 main_cst_4
  let main_v18 : IVec S2048x5632 1 := cmpf .olt main_v16 main_v17
  let main_c_5 : IVec S_ 1 := constantI S_ 1 1#1
  let main_v19 : IVec S_ 1 := (fun x v => Host.reduce IntOp.andi x v reducesTo_S2048x5632_S_d0_1 h_S_) main_v18 main_c_5
  let main_v20 : IVec S_ 1 := andi main_v14 main_v19
  main_v20

def fn {F : FTy → Type} [FloatOps F] (main_arg0 : FVec F S2x2048x5632 .bf16) (main_arg1 : FVec F S2x3x5632 .f32) (main_arg2 : FVec F S2x1x5632 .f32) (main_arg3 : FVec F S2048x5632 .bf16) : IVec S_ 1 :=
  let main_v0 : FVec F S2x2048x5632 .f32 := (extf .f32 · bitsLt_bf16_f32) main_arg0
  let main_v1 : FVec F S2x2048x5632 .f32 := Host.absf main_v0
  let main_cst : FVec F S_ .f32 := constant S_ .f32 0x7F800000#32
  let main_v2 : FVec F S2x2048x5632 .f32 := broadcastInDim S2x2048x5632 ![] bcast_S_S2x2048x5632 main_cst
  let main_v3 : IVec S2x2048x5632 1 := cmpf .olt main_v1 main_v2
  let main_c : IVec S_ 1 := constantI S_ 1 1#1
  let main_v4 : IVec S_ 1 := (fun x v => Host.reduce IntOp.andi x v reducesTo_S2x2048x5632_S_d0_1_2 h_S_) main_v3 main_c
  let main_v5 : FVec F S2x3x5632 .f32 := Host.absf main_arg1
  let main_cst_0 : FVec F S_ .f32 := constant S_ .f32 0x7F800000#32
  let main_v6 : FVec F S2x3x5632 .f32 := broadcastInDim S2x3x5632 ![] bcast_S_S2x3x5632 main_cst_0
  let main_v7 : IVec S2x3x5632 1 := cmpf .olt main_v5 main_v6
  let main_c_1 : IVec S_ 1 := constantI S_ 1 1#1
  let main_v8 : IVec S_ 1 := (fun x v => Host.reduce IntOp.andi x v reducesTo_S2x3x5632_S_d0_1_2 h_S_) main_v7 main_c_1
  let main_v9 : IVec S_ 1 := andi main_v4 main_v8
  let main_v10 : FVec F S2x1x5632 .f32 := Host.absf main_arg2
  let main_cst_2 : FVec F S_ .f32 := constant S_ .f32 0x7F800000#32
  let main_v11 : FVec F S2x1x5632 .f32 := broadcastInDim S2x1x5632 ![] bcast_S_S2x1x5632 main_cst_2
  let main_v12 : IVec S2x1x5632 1 := cmpf .olt main_v10 main_v11
  let main_c_3 : IVec S_ 1 := constantI S_ 1 1#1
  let main_v13 : IVec S_ 1 := (fun x v => Host.reduce IntOp.andi x v reducesTo_S2x1x5632_S_d0_1_2 h_S_) main_v12 main_c_3
  let main_v14 : IVec S_ 1 := andi main_v9 main_v13
  let main_v15 : FVec F S2048x5632 .f32 := (extf .f32 · bitsLt_bf16_f32) main_arg3
  let main_v16 : FVec F S2048x5632 .f32 := Host.absf main_v15
  let main_cst_4 : FVec F S_ .f32 := constant S_ .f32 0x7F800000#32
  fn_part1 (F := F) main_v14 main_v16 main_cst_4
-- ==== Kernel.lean ====
abbrev S2048x6272 : Shape := ⟨2, ![2048, 6272]⟩
abbrev S16x2048 : Shape := ⟨2, ![16, 2048]⟩
abbrev S2048x2048 : Shape := ⟨2, ![2048, 2048]⟩
abbrev S2048x16x128 : Shape := ⟨3, ![2048, 16, 128]⟩
abbrev S16x2048x2048 : Shape := ⟨3, ![16, 2048, 2048]⟩
abbrev S_ : Shape := ⟨0, ![]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S16x2048x1 : Shape := ⟨3, ![16, 2048, 1]⟩
abbrev S16x128x2048 : Shape := ⟨3, ![16, 128, 2048]⟩
abbrev S8x128 : Shape := ⟨2, ![8, 128]⟩
abbrev S512x128 : Shape := ⟨2, ![512, 128]⟩
abbrev S2048x128 : Shape := ⟨2, ![2048, 128]⟩
abbrev S1x1x2048 : Shape := ⟨3, ![1, 1, 2048]⟩
abbrev S1x512x1 : Shape := ⟨3, ![1, 512, 1]⟩
abbrev S512x1 : Shape := ⟨2, ![512, 1]⟩
abbrev S512 : Shape := ⟨1, ![512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 52
  | .vmem => 25
  | .smem => 0
  | _ => 0

abbrev bufTy : (tb : Table) → Fin (tcTables nBuf tb) → BufTy
  | .hbm, ⟨0, _⟩ => ⟨S2048x6272, .f32⟩
  | .hbm, ⟨1, _⟩ => ⟨S16x2048, .f32⟩
  | .hbm, ⟨2, _⟩ => ⟨S2048x2048, .f32⟩
  | .hbm, ⟨3, _⟩ => ⟨S2048x2048, .f32⟩
  | .hbm, ⟨4, _⟩ => ⟨S2048x16x128, .f32⟩
  | .hbm, ⟨5, _⟩ => ⟨S2048x2048, .f32⟩
  | .hbm, ⟨6, _⟩ => ⟨S2048x16x128, .f32⟩
  | .hbm, ⟨7, _⟩ => ⟨S2048x2048, .f32⟩
  | .hbm, ⟨8, _⟩ => ⟨S2048x16x128, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S16x1x2048, .f32⟩
  | .hbm, ⟨14, _⟩ => ⟨S16x2048x2048, .f32⟩
  | .hbm, ⟨15, _⟩ => ⟨S16x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x2048x2048, .i1⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S16x2048x2048, .f32⟩
  | .hbm, ⟨37, _⟩ => ⟨S16x2048x2048, .f32⟩
  | .hbm, ⟨38, _⟩ => ⟨S16x128x2048, .f32⟩
  | .hbm, ⟨39, _⟩ => ⟨S2048x16x128, .f32⟩
  | .hbm, ⟨40, _⟩ => ⟨S2048x2048, .f32⟩
  | .hbm, ⟨41, _⟩ => ⟨S2048x2048, .bf16⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S8x128, .f32⟩
  | .hbm, ⟨46, _⟩ => ⟨S16x1x2048, .f32⟩
  | .hbm, ⟨47, _⟩ => ⟨S2048x2048, .bf16⟩
  | .hbm, ⟨48, _⟩ => ⟨S2048x2048, .f32⟩
  | .hbm, ⟨49, _⟩ => ⟨S2048x2048, .f32⟩
  | .hbm, ⟨50, _⟩ => ⟨S16x1x2048, .f32⟩
  | .hbm, ⟨51, _⟩ => ⟨S16x2048x1, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S1x1x2048, .f32⟩
  | .local _ .vmem, ⟨11, _⟩ => ⟨S1x1x2048, .f32⟩
  | .local _ .vmem, ⟨12, _⟩ => ⟨S1x512x1, .f32⟩
  | .local _ .vmem, ⟨13, _⟩ => ⟨S1x512x1, .f32⟩
  | .local _ .vmem, ⟨14, _⟩ => ⟨S512x128, .bf16⟩
  | .local _ .vmem, ⟨15, _⟩ => ⟨S512x128, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1x1x2048, .f32⟩
  | .local _ .vmem, ⟨21, _⟩ => ⟨S1x1x2048, .f32⟩
  | .local _ .vmem, ⟨22, _⟩ => ⟨S1x512x1, .f32⟩
  | .local _ .vmem, ⟨23, _⟩ => ⟨S1x512x1, .f32⟩
  | .local _ .vmem, ⟨24, _⟩ => ⟨S512x128, .f32⟩
  | _, _ => ⟨S2048x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c512_i32 : BitVec 32 := 512#32
  let v25 : BitVec 32 := Scalar.muli arg1 c512_i32
  let c512_i32_17 : BitVec 32 := 512#32
  let v26 : BitVec 32 := Scalar.addi v25 c512_i32_17
  let c1_i32 : BitVec 32 := 1#32
  let v27 : BitVec 32 := Scalar.subi v26 c1_i32
  let c0_i32_18 : BitVec 32 := 0#32
  let v28 : BitVec 1 := Scalar.cmpi .sge v27 c0_i32_18
  let v29 : BitVec 32 := Scalar.extui v28
  let c0_i32_19 : BitVec 32 := 0#32
  let v30 : BitVec 1 := Scalar.cmpi .ne v29 c0_i32_19
  v30

def k0_cond3 (i : grid0.Coords) : BitVec 1 :=
  let arg1 : BitVec 32 := BitVec.ofNat 32 (i 1).val
  let c512_i32_20 : BitVec 32 := 512#32
  let v31 : BitVec 32 := Scalar.muli arg1 c512_i32_20
  let c512_i32_21 : BitVec 32 := 512#32
  let v32 : BitVec 32 := Scalar.addi v31 c512_i32_21
  let c1_i32_22 : BitVec 32 := 1#32
  let v33 : BitVec 32 := Scalar.subi v32 c1_i32_22
  let c512_i32_23 : BitVec 32 := 512#32
  let v34 : BitVec 1 := Scalar.cmpi .sge v33 c512_i32_23
  let v35 : BitVec 32 := Scalar.extui v34
  let c0_i32_24 : BitVec 32 := 0#32
  let v36 : BitVec 1 := Scalar.cmpi .ne v35 c0_i32_24
  v36

def k0_cond4 (i : grid0.Coords) : BitVec 1 :=
  let arg1 : BitVec 32 := BitVec.ofNat 32 (i 1).val
  let c512_i32_25 : BitVec 32 := 512#32
  let v37 : BitVec 32 := Scalar.muli arg1 c512_i32_25
  let c512_i32_26 : BitVec 32 := 512#32
  let v38 : BitVec 32 := Scalar.addi v37 c512_i32_26
  let c1_i32_27 : BitVec 32 := 1#32
  let v39 : BitVec 32 := Scalar.subi v38 c1_i32_27
  let c1024_i32 : BitVec 32 := 1024#32
  let v40 : BitVec 1 := Scalar.cmpi .sge v39 c1024_i32
  let v41 : BitVec 32 := Scalar.extui v40
  let c0_i32_28 : BitVec 32 := 0#32
  let v42 : BitVec 1 := Scalar.cmpi .ne v41 c0_i32_28
  v42

def k0_cond5 (i : grid0.Coords) : BitVec 1 :=
  let arg1 : BitVec 32 := BitVec.ofNat 32 (i 1).val
  let c512_i32_29 : BitVec 32 := 512#32
  let v43 : BitVec 32 := Scalar.muli arg1 c512_i32_29
  let c512_i32_30 : BitVec 32 := 512#32
  let v44 : BitVec 32 := Scalar.addi v43 c512_i32_30
  let c1_i32_31 : BitVec 32 := 1#32
  let v45 : BitVec 32 := Scalar.subi v44 c1_i32_31
  let c1536_i32 : BitVec 32 := 1536#32
  let v46 : BitVec 1 := Scalar.cmpi .sge v45 c1536_i32
  let v47 : BitVec 32 := Scalar.extui v46
  let c0_i32_32 : BitVec 32 := 0#32
  let v48 : BitVec 1 := Scalar.cmpi .ne v47 c0_i32_32
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2048x6272 : Shape := ⟨2, ![2048, 6272]⟩
abbrev S16x2048 : Shape := ⟨2, ![16, 2048]⟩
abbrev S2048x2048 : Shape := ⟨2, ![2048, 2048]⟩
abbrev S16x2048x1 : Shape := ⟨3, ![16, 2048, 1]⟩
abbrev S16x1x2048 : Shape := ⟨3, ![16, 1, 2048]⟩
abbrev S2048x16x128 : Shape := ⟨3, ![2048, 16, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩
abbrev S16x2048x128 : Shape := ⟨3, ![16, 2048, 128]⟩

abbrev nBuf : Space → Nat
  | .hbm => 113
  | .vmem => 0
  | .smem => 0
  | _ => 0

abbrev bufTy : (tb : Table) → Fin (tcTables nBuf tb) → BufTy
  | .hbm, ⟨0, _⟩ => ⟨S2048x6272, .f32⟩
  | .hbm, ⟨1, _⟩ => ⟨S16x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S16x2048x1, .f32⟩
  | .hbm, ⟨7, _⟩ => ⟨S16x1x2048, .f32⟩
  | .hbm, ⟨8, _⟩ => ⟨S2048x16x128, .f32⟩
  | .hbm, ⟨9, _⟩ => ⟨S2048x16x128, .f32⟩
  | .hbm, ⟨10, _⟩ => ⟨S2048x16x128, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S16x2048x2048, .i1⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .i1⟩
  | .hbm, ⟨37, _⟩ => ⟨S16x2048x2048, .f32⟩
  | .hbm, ⟨38, _⟩ => ⟨S_, .f32⟩
  | .hbm, ⟨39, _⟩ => ⟨S16x2048, .f32⟩
  | .hbm, ⟨40, _⟩ => ⟨S_, .f32⟩
  | .hbm, ⟨41, _⟩ => ⟨S16x2048, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .i1⟩
  | .hbm, ⟨46, _⟩ => ⟨S_, .f32⟩
  | .hbm, ⟨47, _⟩ => ⟨S16x2048, .f32⟩
  | .hbm, ⟨48, _⟩ => ⟨S16x2048, .i1⟩
  | .hbm, ⟨49, _⟩ => ⟨S_, .f32⟩
  | .hbm, ⟨50, _⟩ => ⟨S16x2048, .f32⟩
  | .hbm, ⟨51, _⟩ => ⟨S_, .f32⟩
  | .hbm, ⟨52, _⟩ => ⟨S16x2048, .f32⟩
  | .hbm, ⟨53, _⟩ => ⟨S_, .f32⟩
  | .hbm, ⟨54, _⟩ => ⟨S16x2048, .f32⟩
  | .hbm, ⟨55, _⟩ => ⟨S16x2048, .f32⟩
  | .hbm, ⟨56, _⟩ => ⟨S16x2048, .f32⟩
  | .hbm, ⟨57, _⟩ => ⟨S16x2048x1, .f32⟩
  | .hbm, ⟨58, _⟩ => ⟨S16x2048x2048, .f32⟩
  | .hbm, ⟨59, _⟩ => ⟨S16x2048x2048, .f32⟩
  | .hbm, ⟨60, _⟩ => ⟨S16x2048x2048, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S16x2048x2048, .f32⟩
  | .hbm, ⟨65, _⟩ => ⟨S16x2048x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S16x128x2048, .f32⟩
  | .hbm, ⟨71, _⟩ => ⟨S2048x16x128, .f32⟩
  | .hbm, ⟨72, _⟩ => ⟨S2048x2048, .f32⟩
  | .hbm, ⟨73, _⟩ => ⟨S2048x16x128, .f32⟩
  | .hbm, ⟨74, _⟩ => ⟨S16x128x2048, .f32⟩
  | .hbm, ⟨75, _⟩ => ⟨S16x2048x2048, .f32⟩
  | .hbm, ⟨76, _⟩ => ⟨S16x128x2048, .f32⟩
  | .hbm, ⟨77, _⟩ => ⟨S2048x16x128, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S_, .f32⟩
  | .hbm, ⟨82, _⟩ => ⟨S16x2048, .f32⟩
  | .hbm, ⟨83, _⟩ => ⟨S16x2048x1, .f32⟩
  | .hbm, ⟨84, _⟩ => ⟨S16x2048x1, .f32⟩
  | .hbm, ⟨85, _⟩ => ⟨S16x2048x2048, .f32⟩
  | .hbm, ⟨86, _⟩ => ⟨S16x2048x2048, .f32⟩
  | .hbm, ⟨87, _⟩ => ⟨S_, .f32⟩
  | .hbm, ⟨88, _⟩ => ⟨S16x2048, .f32⟩
  | .hbm, ⟨89, _⟩ => ⟨S16x2048x2048, .f32⟩
  | .hbm, ⟨90, _⟩ => ⟨S16x2048x2048, .f32⟩
  | .hbm, ⟨91, _⟩ => ⟨S16x2048x2048, .f32⟩
  | .hbm, ⟨92, _⟩ => ⟨S_, .f32⟩
  | .hbm, ⟨93, _⟩ => ⟨S16x2048x2048, .f32⟩
  | .hbm, ⟨94, _⟩ => ⟨S16x2048x2048, .f32⟩
  | .hbm, ⟨95, _⟩ => ⟨S16x2048x2048, .f32⟩
  | .hbm, ⟨96, _⟩ => ⟨S_, .f32⟩
  | .hbm, ⟨97, _⟩ => ⟨S16x2048, .f32⟩
  | .hbm, ⟨98, _⟩ => ⟨S16x1x2048, .f32⟩
  | .hbm, ⟨99, _⟩ => ⟨S_, .f32⟩
  | .hbm, ⟨100, _⟩ => ⟨S16x2048, .f32⟩
  | .hbm, ⟨101, _⟩ => ⟨S16x2048x1, .f32⟩
  | .hbm, ⟨102, _⟩ => ⟨S_, .f32⟩
  | .hbm, ⟨103, _⟩ => ⟨S16x2048x2048, .f32⟩
  | .hbm, ⟨104, _⟩ => ⟨S16x2048x2048, .f32⟩
  | .hbm, ⟨105, _⟩ => ⟨S16x2048x128, .f32⟩
  | .hbm, ⟨106, _⟩ => ⟨S2048x16x128, .f32⟩
  | .hbm, ⟨107, _⟩ => ⟨S16x2048x128, .f32⟩
  | .hbm, ⟨108, _⟩ => ⟨S2048x16x128, .f32⟩
  | .hbm, ⟨109, _⟩ => ⟨S2048x2048, .f32⟩
  | .hbm, ⟨110, _⟩ => ⟨S2048x2048, .f32⟩
  | .hbm, ⟨111, _⟩ => ⟨S2048x2048, .f32⟩
  | .hbm, ⟨112, _⟩ => ⟨S2048x2048, .bf16⟩
  | _, _ => ⟨S2048x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== DownGrad.lean ====
abbrev S2048x2048 : Shape := ⟨2, ![2048, 2048]⟩
abbrev S5632x2048 : Shape := ⟨2, ![5632, 2048]⟩
abbrev S1x2048x2048 : Shape := ⟨3, ![1, 2048, 2048]⟩
abbrev S1x5632x2048 : Shape := ⟨3, ![1, 5632, 2048]⟩
abbrev S2048x5632 : Shape := ⟨2, ![2048, 5632]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S1x2048x2048, .bf16⟩
  | .hbm, ⟨3, _⟩ => ⟨S1x5632x2048, .bf16⟩
  | .hbm, ⟨4, _⟩ => ⟨S2048x5632, .bf16⟩
  | .local _ .vmem, ⟨0, _⟩ => ⟨S1x2048x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownWeight.lean ====
abbrev S2048x5632 : Shape := ⟨2, ![2048, 5632]⟩
abbrev S2048x2048 : Shape := ⟨2, ![2048, 2048]⟩
abbrev S1x2048x2048 : Shape := ⟨3, ![1, 2048, 2048]⟩
abbrev S1x5632x2048 : Shape := ⟨3, ![1, 5632, 2048]⟩
abbrev S2048x1408 : Shape := ⟨2, ![2048, 1408]⟩
abbrev S1x2048x1024 : Shape := ⟨3, ![1, 2048, 1024]⟩
abbrev S1x1408x1024 : Shape := ⟨3, ![1, 1408, 1024]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x2048x2048, .bf16⟩
  | .hbm, ⟨3, _⟩ => ⟨S1x5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DownWeightRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S1x5632x2048, .f32⟩
  | .hbm, ⟨10, _⟩ => ⟨S1x5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpGrad.lean ====
abbrev S2x2048x5632 : Shape := ⟨3, ![2, 2048, 5632]⟩
abbrev S2048x2048 : Shape := ⟨2, ![2048, 2048]⟩
abbrev S1x2048x2816 : Shape := ⟨3, ![1, 2048, 2816]⟩
abbrev S1x512x2816 : Shape := ⟨3, ![1, 512, 2816]⟩
abbrev S2048x512 : Shape := ⟨2, ![2048, 512]⟩
abbrev S2048x2816 : Shape := ⟨2, ![2048, 2816]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S2x2048x5632, .bf16⟩
  | .hbm, ⟨2, _⟩ => ⟨S2048x2048, .f32⟩
  | .local _ .vmem, ⟨0, _⟩ => ⟨S1x2048x2816, .bf16⟩
  | .local _ .vmem, ⟨1, _⟩ => ⟨S1x2048x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S2x2048x5632 : Shape := ⟨3, ![2, 2048, 5632]⟩
abbrev S_ : Shape := ⟨0, ![]⟩
abbrev S2048x2048 : Shape := ⟨2, ![2048, 2048]⟩
abbrev S2x5632x2048 : Shape := ⟨3, ![2, 5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2x2048x5632, .bf16⟩
  | .hbm, ⟨2, _⟩ => ⟨S_, .f32⟩
  | .hbm, ⟨3, _⟩ => ⟨S2048x2048, .f32⟩
  | .hbm, ⟨4, _⟩ => ⟨S2x2048x5632, .f32⟩
  | .hbm, ⟨5, _⟩ => ⟨S2x5632x2048, .f32⟩
  | .hbm, ⟨6, _⟩ => ⟨S2x2048x5632, .f32⟩
  | .hbm, ⟨7, _⟩ => ⟨S2x2048x5632, .f32⟩
  | .hbm, ⟨8, _⟩ => ⟨S2x5632x2048, .f32⟩
  | .hbm, ⟨9, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpWeight.lean ====
abbrev S2048x2048 : Shape := ⟨2, ![2048, 2048]⟩
abbrev S2x2048x5632 : Shape := ⟨3, ![2, 2048, 5632]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2x2048x5632, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![2, 1, 11, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== UpWeightRefIdeal.lean ====
abbrev S2048x2048 : Shape := ⟨2, ![2048, 2048]⟩
abbrev S2x2048x5632 : Shape := ⟨3, ![2, 2048, 5632]⟩
abbrev S_ : Shape := ⟨0, ![]⟩
abbrev S2x5632x2048 : Shape := ⟨3, ![2, 5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S2x2048x5632, .f32⟩
  | .hbm, ⟨4, _⟩ => ⟨S2048x2048, .f32⟩
  | .hbm, ⟨5, _⟩ => ⟨S2x5632x2048, .f32⟩
  | .hbm, ⟨6, _⟩ => ⟨S2x2048x5632, .f32⟩
  | .hbm, ⟨7, _⟩ => ⟨S2x2048x5632, .f32⟩
  | .hbm, ⟨8, _⟩ => ⟨S2x5632x2048, .f32⟩
  | .hbm, ⟨9, _⟩ => ⟨S2x5632x2048, .f32⟩
  | .hbm, ⟨10, _⟩ => ⟨S2x2048x5632, .f32⟩
  | .hbm, ⟨11, _⟩ => ⟨S2x2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutGrad.lean ====
abbrev S2048x2048 : Shape := ⟨2, ![2048, 2048]⟩
abbrev S1x2048x2048 : Shape := ⟨3, ![1, 2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .hbm, ⟨3, _⟩ => ⟨S1x2048x2048, .bf16⟩
  | .hbm, ⟨4, _⟩ => ⟨S2048x2048, .f32⟩
  | .local _ .vmem, ⟨0, _⟩ => ⟨S1x2048x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWeight.lean ====
abbrev S2048x2048 : Shape := ⟨2, ![2048, 2048]⟩
abbrev S1x2048x2048 : Shape := ⟨3, ![1, 2048, 2048]⟩
abbrev S1x2048x512 : Shape := ⟨3, ![1, 2048, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .hbm, ⟨3, _⟩ => ⟨S1x2048x2048, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== OutWeightRefIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048x2048, .f32⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FoxInGrad.lean ====
abbrev S2048x6272 : Shape := ⟨2, ![2048, 6272]⟩
abbrev S1x2048x6272 : Shape := ⟨3, ![1, 2048, 6272]⟩
abbrev S2048x2048 : Shape := ⟨2, ![2048, 2048]⟩
abbrev S1x2048x896 : Shape := ⟨3, ![1, 2048, 896]⟩
abbrev S1x1024x896 : Shape := ⟨3, ![1, 1024, 896]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 5
  | .vmem => 7
  | .smem => 0
  | _ => 0

abbrev bufTy : (tb : Table) → Fin (tcTables nBuf tb) → BufTy
  | .hbm, ⟨0, _⟩ => ⟨S2048x6272, .bf16⟩
  | .hbm, ⟨1, _⟩ => ⟨S2048x6272, .bf16⟩
  | .hbm, ⟨2, _⟩ => ⟨S1x2048x6272, .bf16⟩
  | .hbm, ⟨3, _⟩ => ⟨S1x2048x6272, .bf16⟩
  | .hbm, ⟨4, _⟩ => ⟨S2048x2048, .f32⟩
  | .local _ .vmem, ⟨0, _⟩ => ⟨S1x2048x896, .bf16⟩
  | .local _ .vmem, ⟨1, _⟩ => ⟨S1x2048x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg2 c7_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg2 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg2 c7_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg2 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInGradRefIdeal.lean ====
abbrev S2048x6272 : Shape := ⟨2, ![2048, 6272]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6272, .bf16⟩
  | .hbm, ⟨1, _⟩ => ⟨S2048x6272, .bf16⟩
  | .hbm, ⟨2, _⟩ => ⟨S_, .f32⟩
  | .hbm, ⟨3, _⟩ => ⟨S2048x2048, .f32⟩
  | .hbm, ⟨4, _⟩ => ⟨S2048x6272, .f32⟩
  | .hbm, ⟨5, _⟩ => ⟨S2048x6272, .f32⟩
  | .hbm, ⟨6, _⟩ => ⟨S2048x6272, .f32⟩
  | .hbm, ⟨7, _⟩ => ⟨S2048x2048, .f32⟩
  | _, _ => ⟨S2048x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxInWeight.lean ====
abbrev S2048x6272 : Shape := ⟨2, ![2048, 6272]⟩
abbrev S2048x2048 : Shape := ⟨2, ![2048, 2048]⟩
abbrev S1x2048x2048 : Shape := ⟨3, ![1, 2048, 2048]⟩
abbrev S1x6272x2048 : Shape := ⟨3, ![1, 6272, 2048]⟩
abbrev S2048x896 : Shape := ⟨2, ![2048, 896]⟩
abbrev S1x2048x1024 : Shape := ⟨3, ![1, 2048, 1024]⟩
abbrev S1x896x1024 : Shape := ⟨3, ![1, 896, 1024]⟩
abbrev S2048x1024 : Shape := ⟨2, ![2048, 1024]⟩
abbrev S896x1024 : Shape := ⟨2, ![896, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x6272, .bf16⟩
  | .hbm, ⟨1, _⟩ => ⟨S2048x2048, .bf16⟩
  | .hbm, ⟨2, _⟩ => ⟨S1x2048x2048, .bf16⟩
  | .hbm, ⟨3, _⟩ => ⟨S1x6272x2048, .bf16⟩
  | .local _ .vmem, ⟨0, _⟩ => ⟨S2048x896, .bf16⟩
  | .local _ .vmem, ⟨1, _⟩ => ⟨S2048x896, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x896x1024, .bf16⟩
  | .local _ .vmem, ⟨5, _⟩ => ⟨S1x896x1024, .bf16⟩
  | _, _ => ⟨S2048x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 7, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== FoxInWeightRefIdeal.lean ====
abbrev S2048x6272 : Shape := ⟨2, ![2048, 6272]⟩
abbrev S2048x2048 : Shape := ⟨2, ![2048, 2048]⟩
abbrev S_ : Shape := ⟨0, ![]⟩
abbrev S6272x2048 : Shape := ⟨2, ![6272, 2048]⟩
abbrev S1x6272x2048 : Shape := ⟨3, ![1, 6272, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x6272, .bf16⟩
  | .hbm, ⟨1, _⟩ => ⟨S2048x2048, .bf16⟩
  | .hbm, ⟨2, _⟩ => ⟨S_, .f32⟩
  | .hbm, ⟨3, _⟩ => ⟨S2048x6272, .f32⟩
  | .hbm, ⟨4, _⟩ => ⟨S2048x2048, .f32⟩
  | .hbm, ⟨5, _⟩ => ⟨S2048x6272, .f32⟩
  | .hbm, ⟨6, _⟩ => ⟨S2048x6272, .f32⟩
  | .hbm, ⟨7, _⟩ => ⟨S6272x2048, .f32⟩
  | .hbm, ⟨8, _⟩ => ⟨S2048x6272, .f32⟩
  | .hbm, ⟨9, _⟩ => ⟨S6272x2048, .f32⟩
  | .hbm, ⟨10, _⟩ => ⟨S1x6272x2048, .f32⟩
  | .hbm, ⟨11, _⟩ => ⟨S1x6272x2048, .bf16⟩
  | _, _ => ⟨S2048x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SwaInGrad.lean ====
abbrev S2048x2560 : Shape := ⟨2, ![2048, 2560]⟩
abbrev S1x2048x2560 : Shape := ⟨3, ![1, 2048, 2560]⟩
abbrev S2048x2048 : Shape := ⟨2, ![2048, 2048]⟩
abbrev S1x2048x1280 : Shape := ⟨3, ![1, 2048, 1280]⟩
abbrev S1x512x1280 : Shape := ⟨3, ![1, 512, 1280]⟩
abbrev S2048x512 : Shape := ⟨2, ![2048, 512]⟩
abbrev S2048x1280 : Shape := ⟨2, ![2048, 1280]⟩
abbrev S512x1280 : Shape := ⟨2, ![512, 1280]⟩

abbrev nBuf : Space → Nat
  | .hbm => 5
  | .vmem => 7
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .bf16⟩
  | .hbm, ⟨2, _⟩ => ⟨S1x2048x2560, .bf16⟩
  | .hbm, ⟨3, _⟩ => ⟨S1x2048x2560, .bf16⟩
  | .hbm, ⟨4, _⟩ => ⟨S2048x2048, .f32⟩
  | .local _ .vmem, ⟨0, _⟩ => ⟨S1x2048x1280, .bf16⟩
  | .local _ .vmem, ⟨1, _⟩ => ⟨S1x2048x1280, .bf16⟩
  | .local _ .vmem, ⟨2, _⟩ => ⟨S1x512x1280, .bf16⟩
  | .local _ .vmem, ⟨3, _⟩ => ⟨S1x512x1280, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInGradRefIdeal.lean ====
abbrev S2048x2560 : Shape := ⟨2, ![2048, 2560]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .bf16⟩
  | .hbm, ⟨2, _⟩ => ⟨S_, .f32⟩
  | .hbm, ⟨3, _⟩ => ⟨S2048x2048, .f32⟩
  | .hbm, ⟨4, _⟩ => ⟨S2048x2560, .f32⟩
  | .hbm, ⟨5, _⟩ => ⟨S2048x2560, .f32⟩
  | .hbm, ⟨6, _⟩ => ⟨S2048x2560, .f32⟩
  | .hbm, ⟨7, _⟩ => ⟨S2048x2048, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SwaInWeight.lean ====
abbrev S2048x2560 : Shape := ⟨2, ![2048, 2560]⟩
abbrev S2048x2048 : Shape := ⟨2, ![2048, 2048]⟩
abbrev S1x2048x2048 : Shape := ⟨3, ![1, 2048, 2048]⟩
abbrev S1x2560x2048 : Shape := ⟨3, ![1, 2560, 2048]⟩
abbrev S2048x1280 : Shape := ⟨2, ![2048, 1280]⟩
abbrev S1x2048x1024 : Shape := ⟨3, ![1, 2048, 1024]⟩
abbrev S1x1280x1024 : Shape := ⟨3, ![1, 1280, 1024]⟩
abbrev S2048x1024 : Shape := ⟨2, ![2048, 1024]⟩
abbrev S1280x1024 : Shape := ⟨2, ![1280, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2560, .bf16⟩
  | .hbm, ⟨1, _⟩ => ⟨S2048x2048, .bf16⟩
  | .hbm, ⟨2, _⟩ => ⟨S1x2048x2048, .bf16⟩
  | .hbm, ⟨3, _⟩ => ⟨S1x2560x2048, .bf16⟩
  | .local _ .vmem, ⟨0, _⟩ => ⟨S2048x1280, .bf16⟩
  | .local _ .vmem, ⟨1, _⟩ => ⟨S2048x1280, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1280x1024, .bf16⟩
  | .local _ .vmem, ⟨5, _⟩ => ⟨S1x1280x1024, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== SwaInWeightRefIdeal.lean ====
abbrev S2048x2560 : Shape := ⟨2, ![2048, 2560]⟩
abbrev S2048x2048 : Shape := ⟨2, ![2048, 2048]⟩
abbrev S_ : Shape := ⟨0, ![]⟩
abbrev S2560x2048 : Shape := ⟨2, ![2560, 2048]⟩
abbrev S1x2560x2048 : Shape := ⟨3, ![1, 2560, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2048, .bf16⟩
  | .hbm, ⟨2, _⟩ => ⟨S_, .f32⟩
  | .hbm, ⟨3, _⟩ => ⟨S2048x2560, .f32⟩
  | .hbm, ⟨4, _⟩ => ⟨S2048x2048, .f32⟩
  | .hbm, ⟨5, _⟩ => ⟨S2048x2560, .f32⟩
  | .hbm, ⟨6, _⟩ => ⟨S2048x2560, .f32⟩
  | .hbm, ⟨7, _⟩ => ⟨S2560x2048, .f32⟩
  | .hbm, ⟨8, _⟩ => ⟨S2048x2560, .f32⟩
  | .hbm, ⟨9, _⟩ => ⟨S2560x2048, .f32⟩
  | .hbm, ⟨10, _⟩ => ⟨S1x2560x2048, .f32⟩
  | .hbm, ⟨11, _⟩ => ⟨S1x2560x2048, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProj.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FoxIn.lean ====
abbrev S2048x2048 : Shape := ⟨2, ![2048, 2048]⟩
abbrev S2048x6272 : Shape := ⟨2, ![2048, 6272]⟩
abbrev S2048x896 : Shape := ⟨2, ![2048, 896]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x6272, .f32⟩
  | .local _ .vmem, ⟨0, _⟩ => ⟨S2048x2048, .bf16⟩
  | .local _ .vmem, ⟨1, _⟩ => ⟨S2048x896, .bf16⟩
  | .local _ .vmem, ⟨2, _⟩ => ⟨S2048x896, .bf16⟩
  | .local _ .vmem, ⟨3, _⟩ => ⟨S2048x896, .f32⟩
  | .local _ .vmem, ⟨4, _⟩ => ⟨S2048x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInRefIdeal.lean ====
abbrev S2048x2048 : Shape := ⟨2, ![2048, 2048]⟩
abbrev S2048x6272 : Shape := ⟨2, ![2048, 6272]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6272, .bf16⟩
  | .hbm, ⟨2, _⟩ => ⟨S2048x2048, .f32⟩
  | .hbm, ⟨3, _⟩ => ⟨S2048x6272, .f32⟩
  | .hbm, ⟨4, _⟩ => ⟨S2048x6272, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SwaIn.lean ====
abbrev S2048x2048 : Shape := ⟨2, ![2048, 2048]⟩
abbrev S2048x2560 : Shape := ⟨2, ![2048, 2560]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S2048x2560, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInRefIdeal.lean ====
abbrev S2048x2048 : Shape := ⟨2, ![2048, 2048]⟩
abbrev S2048x2560 : Shape := ⟨2, ![2048, 2560]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .bf16⟩
  | .hbm, ⟨2, _⟩ => ⟨S2048x2048, .f32⟩
  | .hbm, ⟨3, _⟩ => ⟨S2048x2560, .f32⟩
  | .hbm, ⟨4, _⟩ => ⟨S2048x2560, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S2048x2816 : Shape := ⟨2, ![2048, 2816]⟩
abbrev S2816x512 : Shape := ⟨2, ![2816, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S2048x2816, .bf16⟩
  | .local _ .vmem, ⟨1, _⟩ => ⟨S2048x2816, .bf16⟩
  | .local _ .vmem, ⟨2, _⟩ => ⟨S2816x512, .bf16⟩
  | .local _ .vmem, ⟨3, _⟩ => ⟨S2816x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S2048x2048 : Shape := ⟨2, ![2048, 2048]⟩
abbrev S2x2048x5632 : Shape := ⟨3, ![2, 2048, 5632]⟩
abbrev S2x3x5632 : Shape := ⟨3, ![2, 3, 5632]⟩
abbrev S2x1x5632 : Shape := ⟨3, ![2, 1, 5632]⟩
abbrev S2048x5632 : Shape := ⟨2, ![2048, 5632]⟩
abbrev S2x2048x256 : Shape := ⟨3, ![2, 2048, 256]⟩
abbrev S2x3x256 : Shape := ⟨3, ![2, 3, 256]⟩
abbrev S2x1x256 : Shape := ⟨3, ![2, 1, 256]⟩
abbrev S2048x256 : Shape := ⟨2, ![2048, 256]⟩
abbrev S1024x2048 : Shape := ⟨2, ![1024, 2048]⟩
abbrev S1x2048x256 : Shape := ⟨3, ![1, 2048, 256]⟩
abbrev S1024x256 : Shape := ⟨2, ![1024, 256]⟩
abbrev S1x1024x256 : Shape := ⟨3, ![1, 1024, 256]⟩
abbrev S8x256 : Shape := ⟨2, ![8, 256]⟩
abbrev S1x3x256 : Shape := ⟨3, ![1, 3, 256]⟩
abbrev S3x256 : Shape := ⟨2, ![3, 256]⟩
abbrev S1x256 : Shape := ⟨2, ![1, 256]⟩
abbrev S1x1x256 : Shape := ⟨3, ![1, 1, 256]⟩
abbrev S1032x256 : Shape := ⟨2, ![1032, 256]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2x3x5632, .f32⟩
  | .hbm, ⟨3, _⟩ => ⟨S2x1x5632, .f32⟩
  | .hbm, ⟨4, _⟩ => ⟨S2x2048x5632, .bf16⟩
  | .hbm, ⟨5, _⟩ => ⟨S2x2048x5632, .bf16⟩
  | .hbm, ⟨6, _⟩ => ⟨S2048x5632, .bf16⟩
  | .local _ .vmem, ⟨0, _⟩ => ⟨S2048x2048, .bf16⟩
  | .local _ .vmem, ⟨1, _⟩ => ⟨S2x2048x256, .bf16⟩
  | .local _ .vmem, ⟨2, _⟩ => ⟨S2x2048x256, .bf16⟩
  | .local _ .vmem, ⟨3, _⟩ => ⟨S2x3x256, .f32⟩
  | .local _ .vmem, ⟨4, _⟩ => ⟨S2x3x256, .f32⟩
  | .local _ .vmem, ⟨5, _⟩ => ⟨S2x1x256, .f32⟩
  | .local _ .vmem, ⟨6, _⟩ => ⟨S2x1x256, .f32⟩
  | .local _ .vmem, ⟨7, _⟩ => ⟨S2x2048x256, .bf16⟩
  | .local _ .vmem, ⟨8, _⟩ => ⟨S2x2048x256, .bf16⟩
  | .local _ .vmem, ⟨9, _⟩ => ⟨S2x2048x256, .bf16⟩
  | .local _ .vmem, ⟨10, _⟩ => ⟨S2x2048x256, .bf16⟩
  | .local _ .vmem, ⟨11, _⟩ => ⟨S2048x256, .bf16⟩
  | .local _ .vmem, ⟨12, _⟩ => ⟨S2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpRefIdeal.lean ====
abbrev S2048x2048 : Shape := ⟨2, ![2048, 2048]⟩
abbrev S2x2048x5632 : Shape := ⟨3, ![2, 2048, 5632]⟩
abbrev S2x3x5632 : Shape := ⟨3, ![2, 3, 5632]⟩
abbrev S2x1x5632 : Shape := ⟨3, ![2, 1, 5632]⟩
abbrev S2x5632x2048 : Shape := ⟨3, ![2, 5632, 2048]⟩
abbrev S_ : Shape := ⟨0, ![]⟩
abbrev S2x2050x5632 : Shape := ⟨3, ![2, 2050, 5632]⟩
abbrev S1x2048x5632 : Shape := ⟨3, ![1, 2048, 5632]⟩
abbrev S2048x5632 : Shape := ⟨2, ![2048, 5632]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2x3x5632, .f32⟩
  | .hbm, ⟨3, _⟩ => ⟨S2x1x5632, .f32⟩
  | .hbm, ⟨4, _⟩ => ⟨S2048x2048, .f32⟩
  | .hbm, ⟨5, _⟩ => ⟨S2x2048x5632, .f32⟩
  | .hbm, ⟨6, _⟩ => ⟨S2x5632x2048, .f32⟩
  | .hbm, ⟨7, _⟩ => ⟨S2x2048x5632, .f32⟩
  | .hbm, ⟨8, _⟩ => ⟨S_, .i32⟩
  | .hbm, ⟨9, _⟩ => ⟨S_, .f32⟩
  | .hbm, ⟨10, _⟩ => ⟨S2x2050x5632, .f32⟩
  | .hbm, ⟨11, _⟩ => ⟨S2x2048x5632, .f32⟩
  | .hbm, ⟨12, _⟩ => ⟨S2x1x5632, .f32⟩
  | .hbm, ⟨13, _⟩ => ⟨S2x2048x5632, .f32⟩
  | .hbm, ⟨14, _⟩ => ⟨S2x2048x5632, .f32⟩
  | .hbm, ⟨15, _⟩ => ⟨S_, .f32⟩
  | .hbm, ⟨16, _⟩ => ⟨S2x2048x5632, .f32⟩
  | .hbm, ⟨17, _⟩ => ⟨S2x2048x5632, .f32⟩
  | .hbm, ⟨18, _⟩ => ⟨S2x2048x5632, .f32⟩
  | .hbm, ⟨19, _⟩ => ⟨S2x1x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S2x1x5632, .f32⟩
  | .hbm, ⟨25, _⟩ => ⟨S2x2048x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S2x2048x5632, .f32⟩
  | .hbm, ⟨30, _⟩ => ⟨S1x2048x5632, .f32⟩
  | .hbm, ⟨31, _⟩ => ⟨S2048x5632, .f32⟩
  | .hbm, ⟨32, _⟩ => ⟨S1x2048x5632, .f32⟩
  | .hbm, ⟨33, _⟩ => ⟨S2048x5632, .f32⟩
  | .hbm, ⟨34, _⟩ => ⟨S2x2048x5632, .bf16⟩
  | .hbm, ⟨35, _⟩ => ⟨S2x2048x5632, .bf16⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S_, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Gate.lean ====
abbrev S2x2048x5632 : Shape := ⟨3, ![2, 2048, 5632]⟩
abbrev S2x3x5632 : Shape := ⟨3, ![2, 3, 5632]⟩
abbrev S2x1x5632 : Shape := ⟨3, ![2, 1, 5632]⟩
abbrev S2048x5632 : Shape := ⟨2, ![2048, 5632]⟩
abbrev S_ : Shape := ⟨0, ![]⟩
abbrev S2x2050x5632 : Shape := ⟨3, ![2, 2050, 5632]⟩
abbrev S8x128 : Shape := ⟨2, ![8, 128]⟩
abbrev S2048x256 : Shape := ⟨2, ![2048, 256]⟩
abbrev S2x2048x256 : Shape := ⟨3, ![2, 2048, 256]⟩
abbrev S2x3x256 : Shape := ⟨3, ![2, 3, 256]⟩
abbrev S2x1x256 : Shape := ⟨3, ![2, 1, 256]⟩
abbrev S1x2048x256 : Shape := ⟨3, ![1, 2048, 256]⟩
abbrev S1x3x256 : Shape := ⟨3, ![1, 3, 256]⟩
abbrev S3x256 : Shape := ⟨2, ![3, 256]⟩
abbrev S256 : Shape := ⟨1, ![256]⟩
abbrev S1x256 : Shape := ⟨2, ![1, 256]⟩
abbrev S1x1x256 : Shape := ⟨3, ![1, 1, 256]⟩

abbrev nBuf : Space → Nat
  | .hbm => 33
  | .vmem => 14
  | .smem => 0
  | _ => 0

abbrev bufTy : (tb : Table) → Fin (tcTables nBuf tb) → BufTy
  | .hbm, ⟨0, _⟩ => ⟨S2x2048x5632, .bf16⟩
  | .hbm, ⟨1, _⟩ => ⟨S2x3x5632, .f32⟩
  | .hbm, ⟨2, _⟩ => ⟨S2x1x5632, .f32⟩
  | .hbm, ⟨3, _⟩ => ⟨S2048x5632, .bf16⟩
  | .hbm, ⟨4, _⟩ => ⟨S2x2048x5632, .f32⟩
  | .hbm, ⟨5, _⟩ => ⟨S_, .i32⟩
  | .hbm, ⟨6, _⟩ => ⟨S_, .f32⟩
  | .hbm, ⟨7, _⟩ => ⟨S2x2050x5632, .f32⟩
  | .hbm, ⟨8, _⟩ => ⟨S2x2048x5632, .f32⟩
  | .hbm, ⟨9, _⟩ => ⟨S2x1x5632, .f32⟩
  | .hbm, ⟨10, _⟩ => ⟨S2x2048x5632, .f32⟩
  | .hbm, ⟨11, _⟩ => ⟨S2x2048x5632, .f32⟩
  | .hbm, ⟨12, _⟩ => ⟨S_, .f32⟩
  | .hbm, ⟨13, _⟩ => ⟨S2x2048x5632, .f32⟩
  | .hbm, ⟨14, _⟩ => ⟨S2x2048x5632, .f32⟩
  | .hbm, ⟨15, _⟩ => ⟨S2x2048x5632, .f32⟩
  | .hbm, ⟨16, _⟩ => ⟨S2x1x5632, .f32⟩
  | .hbm, ⟨17, _⟩ => ⟨S2x2048x5632, .f32⟩
  | .hbm, ⟨18, _⟩ => ⟨S2x2048x5632, .f32⟩
  | .hbm, ⟨19, _⟩ => ⟨S2x2048x5632, .f32⟩
  | .hbm, ⟨20, _⟩ => ⟨S2x2048x5632, .f32⟩
  | .hbm, ⟨21, _⟩ => ⟨S2x1x5632, .f32⟩
  | .hbm, ⟨22, _⟩ => ⟨S2x2048x5632, .f32⟩
  | .hbm, ⟨23, _⟩ => ⟨S2x2048x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S2x2048x5632, .bf16⟩
  | .hbm, ⟨28, _⟩ => ⟨S_, .f32⟩
  | .hbm, ⟨29, _⟩ => ⟨S8x128, .f32⟩
  | .hbm, ⟨30, _⟩ => ⟨S2x2048x5632, .bf16⟩
  | .hbm, ⟨31, _⟩ => ⟨S2x3x5632, .f32⟩
  | .hbm, ⟨32, _⟩ => ⟨S2x1x5632, .f32⟩
  | .local _ .vmem, ⟨0, _⟩ => ⟨S2048x256, .bf16⟩
  | .local _ .vmem, ⟨1, _⟩ => ⟨S2048x256, .bf16⟩
  | .local _ .vmem, ⟨2, _⟩ => ⟨S2x2048x256, .bf16⟩
  | .local _ .vmem, ⟨3, _⟩ => ⟨S2x2048x256, .bf16⟩
  | .local _ .vmem, ⟨4, _⟩ => ⟨S2x2048x256, .bf16⟩
  | .local _ .vmem, ⟨5, _⟩ => ⟨S2x2048x256, .bf16⟩
  | .local _ .vmem, ⟨6, _⟩ => ⟨S2x3x256, .f32⟩
  | .local _ .vmem, ⟨7, _⟩ => ⟨S2x3x256, .f32⟩
  | .local _ .vmem, ⟨8, _⟩ => ⟨S2x2048x256, .bf16⟩
  | .local _ .vmem, ⟨9, _⟩ => ⟨S2x2048x256, .bf16⟩
  | .local _ .vmem, ⟨10, _⟩ => ⟨S2x3x256, .f32⟩
  | .local _ .vmem, ⟨11, _⟩ => ⟨S2x3x256, .f32⟩
  | .local _ .vmem, ⟨12, _⟩ => ⟨S2x1x256, .f32⟩
  | .local _ .vmem, ⟨13, _⟩ => ⟨S2x1x256, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S2x2048x5632 : Shape := ⟨3, ![2, 2048, 5632]⟩
abbrev S2x3x5632 : Shape := ⟨3, ![2, 3, 5632]⟩
abbrev S2x1x5632 : Shape := ⟨3, ![2, 1, 5632]⟩
abbrev S2048x5632 : Shape := ⟨2, ![2048, 5632]⟩
abbrev S_ : Shape := ⟨0, ![]⟩
abbrev S2x2x5632 : Shape := ⟨3, ![2, 2, 5632]⟩
abbrev S2x2050x5632 : Shape := ⟨3, ![2, 2050, 5632]⟩
abbrev S1x2048x5632 : Shape := ⟨3, ![1, 2048, 5632]⟩
abbrev S2x5632 : Shape := ⟨2, ![2, 5632]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2x3x5632, .f32⟩
  | .hbm, ⟨2, _⟩ => ⟨S2x1x5632, .f32⟩
  | .hbm, ⟨3, _⟩ => ⟨S2048x5632, .bf16⟩
  | .hbm, ⟨4, _⟩ => ⟨S2x2048x5632, .f32⟩
  | .hbm, ⟨5, _⟩ => ⟨S_, .f32⟩
  | .hbm, ⟨6, _⟩ => ⟨S2x2x5632, .f32⟩
  | .hbm, ⟨7, _⟩ => ⟨S2x2050x5632, .f32⟩
  | .hbm, ⟨8, _⟩ => ⟨S_, .f32⟩
  | .hbm, ⟨9, _⟩ => ⟨S2x2x5632, .f32⟩
  | .hbm, ⟨10, _⟩ => ⟨S2x2048x5632, .f32⟩
  | .hbm, ⟨11, _⟩ => ⟨S2x1x5632, .f32⟩
  | .hbm, ⟨12, _⟩ => ⟨S2x2048x5632, .f32⟩
  | .hbm, ⟨13, _⟩ => ⟨S2x2048x5632, .f32⟩
  | .hbm, ⟨14, _⟩ => ⟨S_, .f32⟩
  | .hbm, ⟨15, _⟩ => ⟨S2x2048x5632, .f32⟩
  | .hbm, ⟨16, _⟩ => ⟨S2x2048x5632, .f32⟩
  | .hbm, ⟨17, _⟩ => ⟨S2x2048x5632, .f32⟩
  | .hbm, ⟨18, _⟩ => ⟨S2x1x5632, .f32⟩
  | .hbm, ⟨19, _⟩ => ⟨S2x2048x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S2x1x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S1x2048x5632, .f32⟩
  | .hbm, ⟨30, _⟩ => ⟨S2048x5632, .f32⟩
  | .hbm, ⟨31, _⟩ => ⟨S1x2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S_, .f32⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S_, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S1x2048x5632, .f32⟩
  | .hbm, ⟨55, _⟩ => ⟨S1x2048x5632, .f32⟩
  | .hbm, ⟨56, _⟩ => ⟨S2x2048x5632, .f32⟩
  | .hbm, ⟨57, _⟩ => ⟨S_, .f32⟩
  | .hbm, ⟨58, _⟩ => ⟨S2x5632, .f32⟩
  | .hbm, ⟨59, _⟩ => ⟨S2x1x5632, .f32⟩
  | .hbm, ⟨60, _⟩ => ⟨S2x2048x5632, .f32⟩
  | .hbm, ⟨61, _⟩ => ⟨S_, .f32⟩
  | .hbm, ⟨62, _⟩ => ⟨S2x5632, .f32⟩
  | .hbm, ⟨63, _⟩ => ⟨S2x1x5632, .f32⟩
  | .hbm, ⟨64, _⟩ => ⟨S2x2048x5632, .f32⟩
  | .hbm, ⟨65, _⟩ => ⟨S2x2048x5632, .f32⟩
  | .hbm, ⟨66, _⟩ => ⟨S_, .f32⟩
  | .hbm, ⟨67, _⟩ => ⟨S2x3x5632, .f32⟩
  | .hbm, ⟨68, _⟩ => ⟨S_, .f32⟩
  | .hbm, ⟨69, _⟩ => ⟨S2x2050x5632, .f32⟩
  | .hbm, ⟨70, _⟩ => ⟨S2x2048x5632, .f32⟩
  | .hbm, ⟨71, _⟩ => ⟨S_, .f32⟩
  | .hbm, ⟨72, _⟩ => ⟨S2x5632, .f32⟩
  | .hbm, ⟨73, _⟩ => ⟨S2x1x5632, .f32⟩
  | .hbm, ⟨74, _⟩ => ⟨S2x2048x5632, .f32⟩
  | .hbm, ⟨75, _⟩ => ⟨S2x2048x5632, .f32⟩
  | .hbm, ⟨76, _⟩ => ⟨S_, .f32⟩
  | .hbm, ⟨77, _⟩ => ⟨S2x3x5632, .f32⟩
  | .hbm, ⟨78, _⟩ => ⟨S2x3x5632, .f32⟩
  | .hbm, ⟨79, _⟩ => ⟨S_, .f32⟩
  | .hbm, ⟨80, _⟩ => ⟨S2x2050x5632, .f32⟩
  | .hbm, ⟨81, _⟩ => ⟨S2x2050x5632, .f32⟩
  | .hbm, ⟨82, _⟩ => ⟨S2x2048x5632, .f32⟩
  | .hbm, ⟨83, _⟩ => ⟨S_, .f32⟩
  | .hbm, ⟨84, _⟩ => ⟨S2x5632, .f32⟩
  | .hbm, ⟨85, _⟩ => ⟨S2x1x5632, .f32⟩
  | .hbm, ⟨86, _⟩ => ⟨S2x2048x5632, .f32⟩
  | .hbm, ⟨87, _⟩ => ⟨S2x2048x5632, .f32⟩
  | .hbm, ⟨88, _⟩ => ⟨S_, .f32⟩
  | .hbm, ⟨89, _⟩ => ⟨S2x3x5632, .f32⟩
  | .hbm, ⟨90, _⟩ => ⟨S2x3x5632, .f32⟩
  | .hbm, ⟨91, _⟩ => ⟨S_, .f32⟩
  | .hbm, ⟨92, _⟩ => ⟨S2x2050x5632, .f32⟩
  | .hbm, ⟨93, _⟩ => ⟨S2x2050x5632, .f32⟩
  | .hbm, ⟨94, _⟩ => ⟨S2x2x5632, .f32⟩
  | .hbm, ⟨95, _⟩ => ⟨S2x2048x5632, .f32⟩
  | .hbm, ⟨96, _⟩ => ⟨S2x2048x5632, .bf16⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Proof.Fox.Spec.lean ====
/- The gradient of the forgetting attention of one head, over the real numbers.

   A head has 2048 positions and 128 lanes. `Q`, `K`, `V` are its queries, keys and values, `G` the gradient that
   arrives at its output, `c` its cumulated forget gates and `s` the scale of the scores. The definitions below are
   what both programs are shown to compute. -/
module

public import Idealize.ShloMosaic.Lib.Pointwise

@[expose] public section

noncomputable section

namespace Cert.Fox

open Idealize.ShloMosaic
open Finset

/-- The score of query `i` at key `j`: the scaled product less the key's cumulated gate. -/
def score (Q K : Fin 2048 → Fin 128 → ℝ) (c : Fin 2048 → ℝ) (s : ℝ) (i j : Fin 2048) : ℝ :=
  (∑ d, Q i d * K j d) * s - c j

/-- The exponential of `z j` where key `j` is visible to query `i`, else zero. -/
def weight (z : Fin 2048 → ℝ) (i j : Fin 2048) : ℝ := if j ≤ i then Real.exp (z j) else 0

/-- The softmax of the visible entries of `z`. -/
def soft (z : Fin 2048 → ℝ) (i j : Fin 2048) : ℝ := weight z i j / ∑ k, weight z i k

/-- The attention probabilities. -/
def prob (Q K : Fin 2048 → Fin 128 → ℝ) (c : Fin 2048 → ℝ) (s : ℝ) (i j : Fin 2048) : ℝ :=
  soft (score Q K c s i) i j

/-- The gradient at the probabilities. -/
def dprob (V G : Fin 2048 → Fin 128 → ℝ) (i j : Fin 2048) : ℝ := ∑ d, G i d * V j d

/-- The gradient at the scores. -/
def dscore (Q K V G : Fin 2048 → Fin 128 → ℝ) (c : Fin 2048 → ℝ) (s : ℝ) (i j : Fin 2048) : ℝ :=
  prob Q K c s i j * (dprob V G i j - ∑ k, prob Q K c s i k * dprob V G i k)

/-- The queries' gradient. -/
def gradQ (Q K V G : Fin 2048 → Fin 128 → ℝ) (c : Fin 2048 → ℝ) (s : ℝ) (i : Fin 2048) (d : Fin 128) : ℝ :=
  (∑ j, dscore Q K V G c s i j * K j d) * s

/-- The keys' gradient. -/
def gradK (Q K V G : Fin 2048 → Fin 128 → ℝ) (c : Fin 2048 → ℝ) (s : ℝ) (j : Fin 2048) (d : Fin 128) : ℝ :=
  (∑ i, dscore Q K V G c s i j * Q i d) * s

/-- The values' gradient. -/
def gradV (Q K G : Fin 2048 → Fin 128 → ℝ) (c : Fin 2048 → ℝ) (s : ℝ) (j : Fin 2048) (d : Fin 128) : ℝ :=
  ∑ i, prob Q K c s i j * G i d

/-- The gradient at the gates, where they enter as the keys', -/
def gradCk (Q K V G : Fin 2048 → Fin 128 → ℝ) (c : Fin 2048 → ℝ) (s : ℝ) (j : Fin 2048) : ℝ := -∑ i, dscore Q K V G c s i j

/-- and where they enter as the queries'. -/
def gradCq (Q K V G : Fin 2048 → Fin 128 → ℝ) (c : Fin 2048 → ℝ) (s : ℝ) (i : Fin 2048) : ℝ := ∑ j, dscore Q K V G c s i j

theorem weight_nonneg (z : Fin 2048 → ℝ) (i j : Fin 2048) : 0 ≤ weight z i j := by
  unfold weight; split
  · exact (Real.exp_pos _).le
  · exact le_rfl

/-- Each query sees itself, so the sum of the weights is positive. -/
theorem weight_sum_pos (z : Fin 2048 → ℝ) (i : Fin 2048) : 0 < ∑ k, weight z i k := by
  refine Finset.sum_pos' (fun k _ => weight_nonneg z i k) ⟨i, Finset.mem_univ _, ?_⟩
  simp [weight, Real.exp_pos]

/-- Adding a constant to the scores multiplies the weights by its exponential. -/
theorem weight_add (z : Fin 2048 → ℝ) (a : ℝ) (i j : Fin 2048) :
    weight (fun k => z k + a) i j = weight z i j * Real.exp a := by
  unfold weight; split
  · exact Real.exp_add _ _
  · simp

/-- The softmax doesn't change when a constant is added to all scores of a row. -/
theorem soft_add (z : Fin 2048 → ℝ) (a : ℝ) (i j : Fin 2048) : soft (fun k => z k + a) i j = soft z i j := by
  unfold soft
  simp only [weight_add, ← Finset.sum_mul]
  exact mul_div_mul_right _ _ (Real.exp_pos a).ne'

/-- The exponential of a visible score less the row's log-sum is the softmax. -/
theorem soft_eq_exp (z : Fin 2048 → ℝ) (a : ℝ) (i j : Fin 2048) (h : j ≤ i) :
    Real.exp (z j - (a + Real.log (∑ k, weight (fun k => z k + -a) i k))) = soft z i j := by
  have hp := weight_sum_pos (fun k => z k + -a) i
  rw [← soft_add z (-a), soft, show z j - (a + Real.log (∑ k, weight (fun k => z k + -a) i k))
    = (z j + -a) - Real.log (∑ k, weight (fun k => z k + -a) i k) by ring, Real.exp_sub, Real.exp_log hp]
  simp [weight, h]

theorem soft_of_not (z : Fin 2048 → ℝ) (i j : Fin 2048) (h : ¬ j ≤ i) : soft z i j = 0 := by
  simp [soft, weight, h]

/-- The real numbers' sums are the extended reals' sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A scaled sum of two scaled factors: the scale leaves a finite sum of reals. -/
theorem sum_scaled {ι : Type*} [Fintype ι] (f g : ι → ℝ) (s : ℝ) : ∑ d, f d * s * g d = (∑ d, f d * g d) * s := by
  rw [Finset.sum_mul]; exact Finset.sum_congr rfl fun d _ => by ring

/-- The product of the arriving gradient with the output is the mean of the gradient at the probabilities. -/
theorem delta_eq (p : Fin 2048 → ℝ) (V : Fin 2048 → Fin 128 → ℝ) (g : Fin 128 → ℝ) :
    ∑ d, g d * ∑ k, p k * V k d = ∑ k, p k * ∑ d, g d * V k d := by
  simp only [Finset.mul_sum]
  rw [Finset.sum_comm]
  exact Finset.sum_congr rfl fun k _ => Finset.sum_congr rfl fun d _ => by ring

/-- The maximum of a row that has a real entry and no infinite one is real. -/
theorem fold_max_real {n : ℕ} (f : Fin n → EReal) (h : ∀ j, f j ≠ ⊤) (i : Fin n) (hi : f i ≠ ⊥) :
    ∃ m : ℝ, Finset.univ.fold max ⊥ f = (m : EReal) := by
  have e : Finset.univ.fold max ⊥ f = Finset.univ.sup f := rfl
  obtain ⟨j, _, hj⟩ := Finset.exists_mem_eq_sup Finset.univ ⟨i, Finset.mem_univ i⟩ f
  have ht : Finset.univ.sup f ≠ ⊤ := hj ▸ h j
  have hb : Finset.univ.sup f ≠ ⊥ := fun e => hi (le_bot_iff.mp (e ▸ Finset.le_sup (Finset.mem_univ i)))
  exact ⟨(Finset.univ.sup f).toReal, by rw [e, EReal.coe_toReal ht hb]⟩

/-- The maximum of a row's visible scores is real. -/
theorem rowMax_real (z : Fin 2048 → ℝ) (i : Fin 2048) :
    ∃ m : ℝ, Finset.univ.fold max ⊥ (fun j => if j ≤ i then (z j : EReal) else ⊥) = (m : EReal) :=
  fold_max_real _ (fun j => by split <;> simp) i (by simp)

/-- The exponential of a masked row less a real. -/
theorem exp_masked (z : Fin 2048 → ℝ) (a : ℝ) (i j : Fin 2048) :
    Ideal.exp ((if j ≤ i then (z j : EReal) else ⊥) - (a : EReal)) = ((weight (fun k => z k + -a) i j : ℝ) : EReal) := by
  unfold weight
  split
  · rw [← EReal.coe_sub, Ideal.exp_coe, sub_eq_add_neg]
  · rw [EReal.bot_sub, Ideal.exp_bot, EReal.coe_zero]

/-- The backward pass through a softmax with row sum `L`, as a gradient at the weights, is the gradient at the scores. -/
theorem softmax_grad (w D : Fin 2048 → ℝ) (L : ℝ) (hL : L ≠ 0) (j : Fin 2048) :
    (D j * (1 / L) + -∑ k, D k * (1 * (1 / (L * L))) * w k) * w j = w j / L * (D j - ∑ k, w k / L * D k) := by
  have e : ∑ k, D k * (1 * (1 / (L * L))) * w k = (∑ k, w k / L * D k) / L := by
    rw [Finset.sum_div]
    exact Finset.sum_congr rfl fun k _ => by field_simp
  rw [e]
  field_simp
  ring

end Cert.Fox

end
-- ==== Proof.Fox.RowMax.lean ====
/- The host's row maximum read at an index. -/
module

public import proofs.«01_k».proof.Proof.Fox.Spec
public import Idealize.ShloMosaic.Lib.KernelVsHost
public import Idealize.ShloMosaic.Lib.Pointwise
public import Idealize.ShloMosaic.Lib.WordCmp

@[expose] public section

set_option maxRecDepth 16384

noncomputable section

namespace Cert.Fox

open Idealize.ShloMosaic

theorem negInf : Ideal.ofBits .f32 0xFF800000#32 = ⊥ := by simp [Ideal.ofBits, Ideal.ieee]

/-- The scale of the scores is a real number. -/
theorem scale_real : ((Ideal.ofBits .f32 0x3DB504F3#32).toReal : EReal) = Ideal.ofBits .f32 0x3DB504F3#32 := by
  apply EReal.coe_toReal <;> simp [Ideal.ofBits, Ideal.ieee, -EReal.coe_mul]

/-- The scale of the scores. -/
def scale : ℝ := (Ideal.ofBits .f32 0x3DB504F3#32).toReal

theorem scale_eq : Ideal.ofBits .f32 0x3DB504F3#32 = (scale : EReal) := scale_real.symm

/-- A choice by a signed comparison of two small words is a choice by the numbers' order. -/
theorem select_sle {α : Type} (a b : ℕ) (x y : α) (ha : a < 2 ^ 31) (hb : b < 2 ^ 31) :
    Scalar.select (IntOp.cmpi .sle (BitVec.ofNat 32 a) (BitVec.ofNat 32 b)) x y = if a ≤ b then x else y := by
  rw [WordCmp.cmpi_sle_ofNat (by simpa using ha) (by simpa using hb), WordCmp.select_ofBool]
  simp

/-- The host's maximum over the last of three axes, from minus infinity. -/
theorem hostMax_at {a b n : ℕ} (X : FVec Ideal ⟨3, ![a, b, n]⟩ .f32)
    (h : (⟨3, ![a, b, n]⟩ : Shape).ReducesTo [2] ⟨2, ![a, b]⟩) (h' : (⟨3, ![a, b, n]⟩ : Shape).Reduces [2] ⟨2, ![a, b]⟩)
    (hu : 0 < (⟨0, ![]⟩ : Shape).numel) (i : Fin a) (j : Fin b) :
    Host.reduce FloatOps.maximumf X (constant ⟨0, ![]⟩ .f32 0xFF800000#32) h hu (ix2 i j)
      = Finset.univ.fold max ⊥ fun k : Fin n => X (ix3 i j k) := by
  refine (congrFun (hostReduce_maximumf_eq_multiReduction X 0xFF800000#32 h hu h' (.inl rfl) rfl) _).trans
    ((Ideal.multiReduction_maximumf_single X 0xFF800000#32 h' (.inl rfl) rfl _).trans ?_)
  rw [Ideal.ofBits_def, negInf]
  have e : (X ∘ h'.lift (ix2 i j)) = fun k : Fin n => X (ix3 i j k) := by
    funext k
    show X _ = X _
    congr 1
    funext ax
    apply Fin.ext
    fin_cases ax <;> rfl
  rw [e]
  rfl

end Cert.Fox

end
-- ==== Proof.Fox.BlockPay.lean ====
/- What one grid point of the attention's backward kernel computes, entry by entry: the payloads of its stores.

   A grid point holds 512 queries of a head against all its 2048 keys, in four groups of 512 keys. -/
module

public import proofs.«01_k».proof.Proof.Gen.KernelIdeal.Skeleton
public import proofs.«01_k».proof.Proof.Fox.RowMax
public import Idealize.ShloMosaic.Lib.Pipeline.ValueKit
public import Idealize.ShloMosaic.Lib.Pointwise

@[expose] public section

set_option maxRecDepth 16384

noncomputable section

namespace Cert.Fox

open Cert.KernelIdeal Cert.KernelIdeal.Gen Idealize.ShloMosaic Idealize.ShloMosaic.TcCoe Idealize.SL.Sem

/-- A rectangle of a keys' (values') block, loaded. -/
def ldK (x : FVec Ideal S2048x128 .f32) (off size : Fin 2 → ℕ) (inb : ∀ a : Fin 2, off a + size a ≤ S2048x128.size a) :=
  View.ld (Val := Elt Ideal) (S := S2048x128) (e' := EltTy.f32) x (Rect.unit off size inb)
/-- A rectangle of a row of gates, loaded. -/
def ldC (x : FVec Ideal S1x1x2048 .f32) (off size : Fin 3 → ℕ) (inb : ∀ a : Fin 3, off a + size a ≤ S1x1x2048.size a) :=
  View.ld (Val := Elt Ideal) (S := S1x1x2048) (e' := EltTy.f32) x (Rect.unit off size inb)

theorem ldK_at (x : FVec Ideal S2048x128 .f32) (lo : ℕ) (hlo : lo + 512 ≤ 2048) (inb : ∀ a : Fin 2, ![lo, 0] a + ![512, 128] a ≤ S2048x128.size a)
    (j : Fin 512) (d : Fin 128) : ldK x ![lo, 0] ![512, 128] inb (ix2 j d : S512x128.Idx) = x (ix2 ⟨lo + j, by omega⟩ d) := by
  show x _ = x _
  congr 1
  funext a
  apply Fin.ext
  fin_cases a
  · show lo + 1 * (j : ℕ) = lo + j; omega
  · show 0 + 1 * (d : ℕ) = d; omega
theorem ldC_at (x : FVec Ideal S1x1x2048 .f32) (lo : ℕ) (hlo : lo + 512 ≤ 2048) (inb : ∀ a : Fin 3, ![0, 0, lo] a + ![1, 1, 512] a ≤ S1x1x2048.size a)
    (j : Fin 512) : ldC x ![0, 0, lo] ![1, 1, 512] inb (ix3 0 0 j) = x (ix3 0 0 ⟨lo + j, by omega⟩) := by
  show x _ = x _
  congr 1
  funext a
  apply Fin.ext
  fin_cases a
  · rfl
  · rfl
  · show lo + 1 * (j : ℕ) = lo + j; omega

variable (i : ℕ) (x0 : FVec Ideal S512x128 .f32) (x1 x2 : FVec Ideal S2048x128 .f32) (x3 : FVec Ideal S512x128 .f32)
  (x4 : FVec Ideal S512x128 .bf16) (x5 : FVec Ideal S1x1x2048 .f32) (x6 : FVec Ideal S1x512x1 .f32)

/-- The probability of query `r` of the `i`-th group of queries at key `j`: the exponential of the masked score less the row's log-sum. -/
def blockP (r : Fin 512) (j : Fin 2048) : EReal :=
  Ideal.exp ((if (j : ℕ) ≤ 512 * i + r then (∑ d : Fin 128, x0 (ix2 r d) * Ideal.ofBits .f32 0x3DB504F3#32 * x1 (ix2 j d)) - x5 (ix3 0 0 j) else ⊥)
    - x6 (ix3 0 r 0))

/-- The gradient at that probability, less the row's product of the output with its gradient. -/
def blockD (r : Fin 512) (j : Fin 2048) : EReal :=
  (∑ d : Fin 128, x3 (ix2 r d) * x2 (ix2 j d)) - ∑ d : Fin 128, x3 (ix2 r d) * x4 (ix2 r d)

/-- The gradient at the score. -/
def blockS (r : Fin 512) (j : Fin 2048) : EReal := blockP i x0 x1 x5 x6 r j * blockD x2 x3 x4 r j

/-- A key after the query has probability zero, -/
theorem blockP_masked (r : Fin 512) (j : Fin 2048) (h : ¬ (j : ℕ) ≤ 512 * i + r) : blockP i x0 x1 x5 x6 r j = 0 := by
  rw [blockP, if_neg h, EReal.bot_sub, Ideal.exp_bot]

/-- and gradient zero. -/
theorem blockS_masked (r : Fin 512) (j : Fin 2048) (h : ¬ (j : ℕ) ≤ 512 * i + r) : blockS i x0 x1 x2 x3 x4 x5 x6 r j = 0 := by
  rw [blockS, blockP_masked _ _ _ _ _ _ _ h, zero_mul]

/-- The kernel's mask on words is the order of the positions. -/
theorem select_pos {α : Type} (lo jj r : ℕ) (x y : α) (hlo : lo + jj < 2048) (hr : 512 * i + r < 2048) :
    Scalar.select (IntOp.cmpi .sle (IntOp.addi (BitVec.ofNat 32 lo) (BitVec.ofNat 32 jj))
      (IntOp.addi (Scalar.muli (BitVec.ofNat 32 i) 512#32) (BitVec.ofNat 32 r))) x y = if lo + jj ≤ 512 * i + r then x else y := by
  have e1 : IntOp.addi (BitVec.ofNat 32 lo) (BitVec.ofNat 32 jj) = BitVec.ofNat 32 (lo + jj) := (BitVec.ofNat_add lo jj).symm
  have e2 : IntOp.addi (Scalar.muli (BitVec.ofNat 32 i) 512#32) (BitVec.ofNat 32 r) = BitVec.ofNat 32 (512 * i + r) := by
    rw [BitVec.ofNat_add, BitVec.ofNat_mul, BitVec.mul_comm]; rfl
  rw [e1, e2, select_sle _ _ _ _ (by omega) (by omega)]

/-- The scaled queries. -/
theorem pay_q (r : Fin 512) (d : Fin 128) : k0_pay43 (F := Ideal) x0 (ix2 r d) = x0 (ix2 r d) * Ideal.ofBits .f32 0x3DB504F3#32 := by
  pointwise [k0_pay43]

/-! ## Keys 0 to 511 -/

theorem pay_p0 (hi : i < 4) (r jj : Fin 512) :
    k0_pay18 (F := Ideal) (BitVec.ofNat 32 i) (k0_pay43 x0) (k0_pay46 x6)
      (ldK x1 ![0, 0] ![512, 128] inb_S2048x128_S512x128_0_0)
      (ldC x5 ![0, 0, 0] ![1, 1, 512] inb_S1x1x2048_S1x1x512_0_0_0) (ix2 r jj) = blockP i x0 x1 x5 x6 r ⟨0 + jj, by omega⟩ := by
  pointwise [k0_pay18, k0_pay43, k0_pay46]
  rw [select_pos i 0 jj r _ _ (by omega) (by omega), negInf]
  unfold blockP
  simp only [ldK_at _ 0 (by omega), ldC_at _ 0 (by omega), Nat.zero_add]

theorem pay_s0 (hi : i < 4) (r jj : Fin 512) :
    k0_pay19 (F := Ideal) (BitVec.ofNat 32 i) (k0_pay43 x0) (k0_pay44 x3) (k0_pay45 x3 x4) (k0_pay46 x6)
      (ldK x1 ![0, 0] ![512, 128] inb_S2048x128_S512x128_0_0)
      (ldC x5 ![0, 0, 0] ![1, 1, 512] inb_S1x1x2048_S1x1x512_0_0_0)
      (ldK x2 ![0, 0] ![512, 128] inb_S2048x128_S512x128_0_0) (ix2 r jj) = blockS i x0 x1 x2 x3 x4 x5 x6 r ⟨0 + jj, by omega⟩ := by
  unfold blockS
  rw [← pay_p0 i x0 x1 x5 x6 hi r jj]
  pointwise [k0_pay19, k0_pay44, k0_pay45]
  unfold blockD
  simp only [ldK_at _ 0 (by omega), Nat.zero_add]

theorem pay_acc0 (v : FVec Ideal S512x128 .f32) (hi : i < 4) (r : Fin 512) (d : Fin 128) :
    k0_pay21 (F := Ideal) (BitVec.ofNat 32 i) (k0_pay43 x0) (k0_pay44 x3) (k0_pay45 x3 x4) (k0_pay46 x6)
      (ldK x1 ![0, 0] ![512, 128] inb_S2048x128_S512x128_0_0)
      (ldC x5 ![0, 0, 0] ![1, 1, 512] inb_S1x1x2048_S1x1x512_0_0_0)
      (ldK x2 ![0, 0] ![512, 128] inb_S2048x128_S512x128_0_0) v
      (ldK x1 ![0, 0] ![512, 128] inb_S2048x128_S512x128_0_0) (ix2 r d)
      = v (ix2 r d) + ∑ jj : Fin 512, blockS i x0 x1 x2 x3 x4 x5 x6 r ⟨0 + jj, by omega⟩ * x1 (ix2 ⟨0 + jj, by omega⟩ d) := by
  pointwise [k0_pay21, k0_pay20, pay_s0 i x0 x1 x2 x3 x4 x5 x6 hi]
  simp only [ldK_at _ 0 (by omega), Nat.zero_add]

theorem pay_dk0 (v : FVec Ideal S512x128 .f32) (hi : i < 4) (jj : Fin 512) (d : Fin 128) :
    k0_pay1 (F := Ideal) (k0_pay43 x0) (k0_pay20 (BitVec.ofNat 32 i) (k0_pay43 x0) (k0_pay44 x3) (k0_pay45 x3 x4) (k0_pay46 x6)
      (ldK x1 ![0, 0] ![512, 128] inb_S2048x128_S512x128_0_0)
      (ldC x5 ![0, 0, 0] ![1, 1, 512] inb_S1x1x2048_S1x1x512_0_0_0)
      (ldK x2 ![0, 0] ![512, 128] inb_S2048x128_S512x128_0_0)) (k0_pay22 v) (constant S512x128 .f32 0x00000000#32) (ix2 jj d)
      = v (ix2 jj d) + ∑ r : Fin 512, blockS i x0 x1 x2 x3 x4 x5 x6 r ⟨0 + jj, by omega⟩ * (x0 (ix2 r d) * Ideal.ofBits .f32 0x3DB504F3#32) := by
  pointwise [k0_pay1, k0_pay20, k0_pay22, pay_q, pay_s0 i x0 x1 x2 x3 x4 x5 x6 hi]

theorem pay_dv0 (v : FVec Ideal S512x128 .f32) (hi : i < 4) (jj : Fin 512) (d : Fin 128) :
    k0_pay2 (F := Ideal) (k0_pay44 x3) (k0_pay18 (BitVec.ofNat 32 i) (k0_pay43 x0) (k0_pay46 x6)
      (ldK x1 ![0, 0] ![512, 128] inb_S2048x128_S512x128_0_0)
      (ldC x5 ![0, 0, 0] ![1, 1, 512] inb_S1x1x2048_S1x1x512_0_0_0)) v (ix2 jj d)
      = v (ix2 jj d) + ∑ r : Fin 512, blockP i x0 x1 x5 x6 r ⟨0 + jj, by omega⟩ * x3 (ix2 r d) := by
  pointwise [k0_pay2, k0_pay44, pay_p0 i x0 x1 x5 x6 hi]

theorem pay_dck0 (v : FVec Ideal S1x1x512 .f32) (hi : i < 4) (jj : Fin 512) :
    k0_pay3 (F := Ideal) (k0_pay19 (BitVec.ofNat 32 i) (k0_pay43 x0) (k0_pay44 x3) (k0_pay45 x3 x4) (k0_pay46 x6)
      (ldK x1 ![0, 0] ![512, 128] inb_S2048x128_S512x128_0_0)
      (ldC x5 ![0, 0, 0] ![1, 1, 512] inb_S1x1x2048_S1x1x512_0_0_0)
      (ldK x2 ![0, 0] ![512, 128] inb_S2048x128_S512x128_0_0)) v (ix3 0 0 jj)
      = v (ix3 0 0 jj) - ∑ r : Fin 512, blockS i x0 x1 x2 x3 x4 x5 x6 r ⟨0 + jj, by omega⟩ := by
  pointwise [k0_pay3, pay_s0 i x0 x1 x2 x3 x4 x5 x6 hi]

theorem pay_dcq0 (v : FVec Ideal S1x512x1 .f32) (hi : i < 4) (r : Fin 512) :
    k0_pay4 (F := Ideal) (k0_pay19 (BitVec.ofNat 32 i) (k0_pay43 x0) (k0_pay44 x3) (k0_pay45 x3 x4) (k0_pay46 x6)
      (ldK x1 ![0, 0] ![512, 128] inb_S2048x128_S512x128_0_0)
      (ldC x5 ![0, 0, 0] ![1, 1, 512] inb_S1x1x2048_S1x1x512_0_0_0)
      (ldK x2 ![0, 0] ![512, 128] inb_S2048x128_S512x128_0_0)) v (ix3 0 r 0)
      = v (ix3 0 r 0) + ∑ jj : Fin 512, blockS i x0 x1 x2 x3 x4 x5 x6 r ⟨0 + jj, by omega⟩ := by
  pointwise [k0_pay4, pay_s0 i x0 x1 x2 x3 x4 x5 x6 hi]

/-! ## Keys 512 to 1023 -/

theorem pay_p1 (hi : i < 4) (r jj : Fin 512) :
    k0_pay23 (F := Ideal) (BitVec.ofNat 32 i) (k0_pay43 x0) (k0_pay46 x6)
      (ldK x1 ![512, 0] ![512, 128] inb_S2048x128_S512x128_512_0)
      (ldC x5 ![0, 0, 512] ![1, 1, 512] inb_S1x1x2048_S1x1x512_0_0_512) (ix2 r jj) = blockP i x0 x1 x5 x6 r ⟨512 + jj, by omega⟩ := by
  pointwise [k0_pay23, k0_pay43, k0_pay46]
  rw [select_pos i 512 jj r _ _ (by omega) (by omega), negInf]
  unfold blockP
  simp only [ldK_at _ 512 (by omega), ldC_at _ 512 (by omega)]

theorem pay_s1 (hi : i < 4) (r jj : Fin 512) :
    k0_pay24 (F := Ideal) (BitVec.ofNat 32 i) (k0_pay43 x0) (k0_pay44 x3) (k0_pay45 x3 x4) (k0_pay46 x6)
      (ldK x1 ![512, 0] ![512, 128] inb_S2048x128_S512x128_512_0)
      (ldC x5 ![0, 0, 512] ![1, 1, 512] inb_S1x1x2048_S1x1x512_0_0_512)
      (ldK x2 ![512, 0] ![512, 128] inb_S2048x128_S512x128_512_0) (ix2 r jj) = blockS i x0 x1 x2 x3 x4 x5 x6 r ⟨512 + jj, by omega⟩ := by
  unfold blockS
  rw [← pay_p1 i x0 x1 x5 x6 hi r jj]
  pointwise [k0_pay24, k0_pay44, k0_pay45]
  unfold blockD
  simp only [ldK_at _ 512 (by omega)]

theorem pay_acc1 (v : FVec Ideal S512x128 .f32) (hi : i < 4) (r : Fin 512) (d : Fin 128) :
    k0_pay26 (F := Ideal) (BitVec.ofNat 32 i) (k0_pay43 x0) (k0_pay44 x3) (k0_pay45 x3 x4) (k0_pay46 x6)
      (ldK x1 ![512, 0] ![512, 128] inb_S2048x128_S512x128_512_0)
      (ldC x5 ![0, 0, 512] ![1, 1, 512] inb_S1x1x2048_S1x1x512_0_0_512)
      (ldK x2 ![512, 0] ![512, 128] inb_S2048x128_S512x128_512_0) v
      (ldK x1 ![512, 0] ![512, 128] inb_S2048x128_S512x128_512_0) (ix2 r d)
      = v (ix2 r d) + ∑ jj : Fin 512, blockS i x0 x1 x2 x3 x4 x5 x6 r ⟨512 + jj, by omega⟩ * x1 (ix2 ⟨512 + jj, by omega⟩ d) := by
  pointwise [k0_pay26, k0_pay25, pay_s1 i x0 x1 x2 x3 x4 x5 x6 hi]
  simp only [ldK_at _ 512 (by omega)]

theorem pay_dk1 (v : FVec Ideal S512x128 .f32) (hi : i < 4) (jj : Fin 512) (d : Fin 128) :
    k0_pay5 (F := Ideal) (k0_pay43 x0) (k0_pay25 (BitVec.ofNat 32 i) (k0_pay43 x0) (k0_pay44 x3) (k0_pay45 x3 x4) (k0_pay46 x6)
      (ldK x1 ![512, 0] ![512, 128] inb_S2048x128_S512x128_512_0)
      (ldC x5 ![0, 0, 512] ![1, 1, 512] inb_S1x1x2048_S1x1x512_0_0_512)
      (ldK x2 ![512, 0] ![512, 128] inb_S2048x128_S512x128_512_0)) (k0_pay27 v) (constant S512x128 .f32 0x00000000#32) (ix2 jj d)
      = v (ix2 jj d) + ∑ r : Fin 512, blockS i x0 x1 x2 x3 x4 x5 x6 r ⟨512 + jj, by omega⟩ * (x0 (ix2 r d) * Ideal.ofBits .f32 0x3DB504F3#32) := by
  pointwise [k0_pay5, k0_pay25, k0_pay27, pay_q, pay_s1 i x0 x1 x2 x3 x4 x5 x6 hi]

theorem pay_dv1 (v : FVec Ideal S512x128 .f32) (hi : i < 4) (jj : Fin 512) (d : Fin 128) :
    k0_pay6 (F := Ideal) (k0_pay44 x3) (k0_pay23 (BitVec.ofNat 32 i) (k0_pay43 x0) (k0_pay46 x6)
      (ldK x1 ![512, 0] ![512, 128] inb_S2048x128_S512x128_512_0)
      (ldC x5 ![0, 0, 512] ![1, 1, 512] inb_S1x1x2048_S1x1x512_0_0_512)) v (ix2 jj d)
      = v (ix2 jj d) + ∑ r : Fin 512, blockP i x0 x1 x5 x6 r ⟨512 + jj, by omega⟩ * x3 (ix2 r d) := by
  pointwise [k0_pay6, k0_pay44, pay_p1 i x0 x1 x5 x6 hi]

theorem pay_dck1 (v : FVec Ideal S1x1x512 .f32) (hi : i < 4) (jj : Fin 512) :
    k0_pay7 (F := Ideal) (k0_pay24 (BitVec.ofNat 32 i) (k0_pay43 x0) (k0_pay44 x3) (k0_pay45 x3 x4) (k0_pay46 x6)
      (ldK x1 ![512, 0] ![512, 128] inb_S2048x128_S512x128_512_0)
      (ldC x5 ![0, 0, 512] ![1, 1, 512] inb_S1x1x2048_S1x1x512_0_0_512)
      (ldK x2 ![512, 0] ![512, 128] inb_S2048x128_S512x128_512_0)) v (ix3 0 0 jj)
      = v (ix3 0 0 jj) - ∑ r : Fin 512, blockS i x0 x1 x2 x3 x4 x5 x6 r ⟨512 + jj, by omega⟩ := by
  pointwise [k0_pay7, pay_s1 i x0 x1 x2 x3 x4 x5 x6 hi]

theorem pay_dcq1 (v : FVec Ideal S1x512x1 .f32) (hi : i < 4) (r : Fin 512) :
    k0_pay8 (F := Ideal) (k0_pay24 (BitVec.ofNat 32 i) (k0_pay43 x0) (k0_pay44 x3) (k0_pay45 x3 x4) (k0_pay46 x6)
      (ldK x1 ![512, 0] ![512, 128] inb_S2048x128_S512x128_512_0)
      (ldC x5 ![0, 0, 512] ![1, 1, 512] inb_S1x1x2048_S1x1x512_0_0_512)
      (ldK x2 ![512, 0] ![512, 128] inb_S2048x128_S512x128_512_0)) v (ix3 0 r 0)
      = v (ix3 0 r 0) + ∑ jj : Fin 512, blockS i x0 x1 x2 x3 x4 x5 x6 r ⟨512 + jj, by omega⟩ := by
  pointwise [k0_pay8, pay_s1 i x0 x1 x2 x3 x4 x5 x6 hi]

/-! ## Keys 1024 to 1535 -/

theorem pay_p2 (hi : i < 4) (r jj : Fin 512) :
    k0_pay28 (F := Ideal) (BitVec.ofNat 32 i) (k0_pay43 x0) (k0_pay46 x6)
      (ldK x1 ![1024, 0] ![512, 128] inb_S2048x128_S512x128_1024_0)
      (ldC x5 ![0, 0, 1024] ![1, 1, 512] inb_S1x1x2048_S1x1x512_0_0_1024) (ix2 r jj) = blockP i x0 x1 x5 x6 r ⟨1024 + jj, by omega⟩ := by
  pointwise [k0_pay28, k0_pay43, k0_pay46]
  rw [select_pos i 1024 jj r _ _ (by omega) (by omega), negInf]
  unfold blockP
  simp only [ldK_at _ 1024 (by omega), ldC_at _ 1024 (by omega)]

theorem pay_s2 (hi : i < 4) (r jj : Fin 512) :
    k0_pay29 (F := Ideal) (BitVec.ofNat 32 i) (k0_pay43 x0) (k0_pay44 x3) (k0_pay45 x3 x4) (k0_pay46 x6)
      (ldK x1 ![1024, 0] ![512, 128] inb_S2048x128_S512x128_1024_0)
      (ldC x5 ![0, 0, 1024] ![1, 1, 512] inb_S1x1x2048_S1x1x512_0_0_1024)
      (ldK x2 ![1024, 0] ![512, 128] inb_S2048x128_S512x128_1024_0) (ix2 r jj) = blockS i x0 x1 x2 x3 x4 x5 x6 r ⟨1024 + jj, by omega⟩ := by
  unfold blockS
  rw [← pay_p2 i x0 x1 x5 x6 hi r jj]
  pointwise [k0_pay29, k0_pay44, k0_pay45]
  unfold blockD
  simp only [ldK_at _ 1024 (by omega)]

theorem pay_acc2 (v : FVec Ideal S512x128 .f32) (hi : i < 4) (r : Fin 512) (d : Fin 128) :
    k0_pay31 (F := Ideal) (BitVec.ofNat 32 i) (k0_pay43 x0) (k0_pay44 x3) (k0_pay45 x3 x4) (k0_pay46 x6)
      (ldK x1 ![1024, 0] ![512, 128] inb_S2048x128_S512x128_1024_0)
      (ldC x5 ![0, 0, 1024] ![1, 1, 512] inb_S1x1x2048_S1x1x512_0_0_1024)
      (ldK x2 ![1024, 0] ![512, 128] inb_S2048x128_S512x128_1024_0) v
      (ldK x1 ![1024, 0] ![512, 128] inb_S2048x128_S512x128_1024_0) (ix2 r d)
      = v (ix2 r d) + ∑ jj : Fin 512, blockS i x0 x1 x2 x3 x4 x5 x6 r ⟨1024 + jj, by omega⟩ * x1 (ix2 ⟨1024 + jj, by omega⟩ d) := by
  pointwise [k0_pay31, k0_pay30, pay_s2 i x0 x1 x2 x3 x4 x5 x6 hi]
  simp only [ldK_at _ 1024 (by omega)]

theorem pay_dk2 (v : FVec Ideal S512x128 .f32) (hi : i < 4) (jj : Fin 512) (d : Fin 128) :
    k0_pay9 (F := Ideal) (k0_pay43 x0) (k0_pay30 (BitVec.ofNat 32 i) (k0_pay43 x0) (k0_pay44 x3) (k0_pay45 x3 x4) (k0_pay46 x6)
      (ldK x1 ![1024, 0] ![512, 128] inb_S2048x128_S512x128_1024_0)
      (ldC x5 ![0, 0, 1024] ![1, 1, 512] inb_S1x1x2048_S1x1x512_0_0_1024)
      (ldK x2 ![1024, 0] ![512, 128] inb_S2048x128_S512x128_1024_0)) (k0_pay32 v) (constant S512x128 .f32 0x00000000#32) (ix2 jj d)
      = v (ix2 jj d) + ∑ r : Fin 512, blockS i x0 x1 x2 x3 x4 x5 x6 r ⟨1024 + jj, by omega⟩ * (x0 (ix2 r d) * Ideal.ofBits .f32 0x3DB504F3#32) := by
  pointwise [k0_pay9, k0_pay30, k0_pay32, pay_q, pay_s2 i x0 x1 x2 x3 x4 x5 x6 hi]

theorem pay_dv2 (v : FVec Ideal S512x128 .f32) (hi : i < 4) (jj : Fin 512) (d : Fin 128) :
    k0_pay10 (F := Ideal) (k0_pay44 x3) (k0_pay28 (BitVec.ofNat 32 i) (k0_pay43 x0) (k0_pay46 x6)
      (ldK x1 ![1024, 0] ![512, 128] inb_S2048x128_S512x128_1024_0)
      (ldC x5 ![0, 0, 1024] ![1, 1, 512] inb_S1x1x2048_S1x1x512_0_0_1024)) v (ix2 jj d)
      = v (ix2 jj d) + ∑ r : Fin 512, blockP i x0 x1 x5 x6 r ⟨1024 + jj, by omega⟩ * x3 (ix2 r d) := by
  pointwise [k0_pay10, k0_pay44, pay_p2 i x0 x1 x5 x6 hi]

theorem pay_dck2 (v : FVec Ideal S1x1x512 .f32) (hi : i < 4) (jj : Fin 512) :
    k0_pay11 (F := Ideal) (k0_pay29 (BitVec.ofNat 32 i) (k0_pay43 x0) (k0_pay44 x3) (k0_pay45 x3 x4) (k0_pay46 x6)
      (ldK x1 ![1024, 0] ![512, 128] inb_S2048x128_S512x128_1024_0)
      (ldC x5 ![0, 0, 1024] ![1, 1, 512] inb_S1x1x2048_S1x1x512_0_0_1024)
      (ldK x2 ![1024, 0] ![512, 128] inb_S2048x128_S512x128_1024_0)) v (ix3 0 0 jj)
      = v (ix3 0 0 jj) - ∑ r : Fin 512, blockS i x0 x1 x2 x3 x4 x5 x6 r ⟨1024 + jj, by omega⟩ := by
  pointwise [k0_pay11, pay_s2 i x0 x1 x2 x3 x4 x5 x6 hi]

theorem pay_dcq2 (v : FVec Ideal S1x512x1 .f32) (hi : i < 4) (r : Fin 512) :
    k0_pay12 (F := Ideal) (k0_pay29 (BitVec.ofNat 32 i) (k0_pay43 x0) (k0_pay44 x3) (k0_pay45 x3 x4) (k0_pay46 x6)
      (ldK x1 ![1024, 0] ![512, 128] inb_S2048x128_S512x128_1024_0)
      (ldC x5 ![0, 0, 1024] ![1, 1, 512] inb_S1x1x2048_S1x1x512_0_0_1024)
      (ldK x2 ![1024, 0] ![512, 128] inb_S2048x128_S512x128_1024_0)) v (ix3 0 r 0)
      = v (ix3 0 r 0) + ∑ jj : Fin 512, blockS i x0 x1 x2 x3 x4 x5 x6 r ⟨1024 + jj, by omega⟩ := by
  pointwise [k0_pay12, pay_s2 i x0 x1 x2 x3 x4 x5 x6 hi]

/-! ## Keys 1536 to 2047 -/

theorem pay_p3 (hi : i < 4) (r jj : Fin 512) :
    k0_pay33 (F := Ideal) (BitVec.ofNat 32 i) (k0_pay43 x0) (k0_pay46 x6)
      (ldK x1 ![1536, 0] ![512, 128] inb_S2048x128_S512x128_1536_0)
      (ldC x5 ![0, 0, 1536] ![1, 1, 512] inb_S1x1x2048_S1x1x512_0_0_1536) (ix2 r jj) = blockP i x0 x1 x5 x6 r ⟨1536 + jj, by omega⟩ := by
  pointwise [k0_pay33, k0_pay43, k0_pay46]
  rw [select_pos i 1536 jj r _ _ (by omega) (by omega), negInf]
  unfold blockP
  simp only [ldK_at _ 1536 (by omega), ldC_at _ 1536 (by omega)]

theorem pay_s3 (hi : i < 4) (r jj : Fin 512) :
    k0_pay34 (F := Ideal) (BitVec.ofNat 32 i) (k0_pay43 x0) (k0_pay44 x3) (k0_pay45 x3 x4) (k0_pay46 x6)
      (ldK x1 ![1536, 0] ![512, 128] inb_S2048x128_S512x128_1536_0)
      (ldC x5 ![0, 0, 1536] ![1, 1, 512] inb_S1x1x2048_S1x1x512_0_0_1536)
      (ldK x2 ![1536, 0] ![512, 128] inb_S2048x128_S512x128_1536_0) (ix2 r jj) = blockS i x0 x1 x2 x3 x4 x5 x6 r ⟨1536 + jj, by omega⟩ := by
  unfold blockS
  rw [← pay_p3 i x0 x1 x5 x6 hi r jj]
  pointwise [k0_pay34, k0_pay44, k0_pay45]
  unfold blockD
  simp only [ldK_at _ 1536 (by omega)]

theorem pay_acc3 (v : FVec Ideal S512x128 .f32) (hi : i < 4) (r : Fin 512) (d : Fin 128) :
    k0_pay36 (F := Ideal) (BitVec.ofNat 32 i) (k0_pay43 x0) (k0_pay44 x3) (k0_pay45 x3 x4) (k0_pay46 x6)
      (ldK x1 ![1536, 0] ![512, 128] inb_S2048x128_S512x128_1536_0)
      (ldC x5 ![0, 0, 1536] ![1, 1, 512] inb_S1x1x2048_S1x1x512_0_0_1536)
      (ldK x2 ![1536, 0] ![512, 128] inb_S2048x128_S512x128_1536_0) v
      (ldK x1 ![1536, 0] ![512, 128] inb_S2048x128_S512x128_1536_0) (ix2 r d)
      = v (ix2 r d) + ∑ jj : Fin 512, blockS i x0 x1 x2 x3 x4 x5 x6 r ⟨1536 + jj, by omega⟩ * x1 (ix2 ⟨1536 + jj, by omega⟩ d) := by
  pointwise [k0_pay36, k0_pay35, pay_s3 i x0 x1 x2 x3 x4 x5 x6 hi]
  simp only [ldK_at _ 1536 (by omega)]

theorem pay_dk3 (v : FVec Ideal S512x128 .f32) (hi : i < 4) (jj : Fin 512) (d : Fin 128) :
    k0_pay13 (F := Ideal) (k0_pay43 x0) (k0_pay35 (BitVec.ofNat 32 i) (k0_pay43 x0) (k0_pay44 x3) (k0_pay45 x3 x4) (k0_pay46 x6)
      (ldK x1 ![1536, 0] ![512, 128] inb_S2048x128_S512x128_1536_0)
      (ldC x5 ![0, 0, 1536] ![1, 1, 512] inb_S1x1x2048_S1x1x512_0_0_1536)
      (ldK x2 ![1536, 0] ![512, 128] inb_S2048x128_S512x128_1536_0)) (k0_pay37 v) (constant S512x128 .f32 0x00000000#32) (ix2 jj d)
      = v (ix2 jj d) + ∑ r : Fin 512, blockS i x0 x1 x2 x3 x4 x5 x6 r ⟨1536 + jj, by omega⟩ * (x0 (ix2 r d) * Ideal.ofBits .f32 0x3DB504F3#32) := by
  pointwise [k0_pay13, k0_pay35, k0_pay37, pay_q, pay_s3 i x0 x1 x2 x3 x4 x5 x6 hi]

theorem pay_dv3 (v : FVec Ideal S512x128 .f32) (hi : i < 4) (jj : Fin 512) (d : Fin 128) :
    k0_pay14 (F := Ideal) (k0_pay44 x3) (k0_pay33 (BitVec.ofNat 32 i) (k0_pay43 x0) (k0_pay46 x6)
      (ldK x1 ![1536, 0] ![512, 128] inb_S2048x128_S512x128_1536_0)
      (ldC x5 ![0, 0, 1536] ![1, 1, 512] inb_S1x1x2048_S1x1x512_0_0_1536)) v (ix2 jj d)
      = v (ix2 jj d) + ∑ r : Fin 512, blockP i x0 x1 x5 x6 r ⟨1536 + jj, by omega⟩ * x3 (ix2 r d) := by
  pointwise [k0_pay14, k0_pay44, pay_p3 i x0 x1 x5 x6 hi]

theorem pay_dck3 (v : FVec Ideal S1x1x512 .f32) (hi : i < 4) (jj : Fin 512) :
    k0_pay15 (F := Ideal) (k0_pay34 (BitVec.ofNat 32 i) (k0_pay43 x0) (k0_pay44 x3) (k0_pay45 x3 x4) (k0_pay46 x6)
      (ldK x1 ![1536, 0] ![512, 128] inb_S2048x128_S512x128_1536_0)
      (ldC x5 ![0, 0, 1536] ![1, 1, 512] inb_S1x1x2048_S1x1x512_0_0_1536)
      (ldK x2 ![1536, 0] ![512, 128] inb_S2048x128_S512x128_1536_0)) v (ix3 0 0 jj)
      = v (ix3 0 0 jj) - ∑ r : Fin 512, blockS i x0 x1 x2 x3 x4 x5 x6 r ⟨1536 + jj, by omega⟩ := by
  pointwise [k0_pay15, pay_s3 i x0 x1 x2 x3 x4 x5 x6 hi]

theorem pay_dcq3 (v : FVec Ideal S1x512x1 .f32) (hi : i < 4) (r : Fin 512) :
    k0_pay16 (F := Ideal) (k0_pay34 (BitVec.ofNat 32 i) (k0_pay43 x0) (k0_pay44 x3) (k0_pay45 x3 x4) (k0_pay46 x6)
      (ldK x1 ![1536, 0] ![512, 128] inb_S2048x128_S512x128_1536_0)
      (ldC x5 ![0, 0, 1536] ![1, 1, 512] inb_S1x1x2048_S1x1x512_0_0_1536)
      (ldK x2 ![1536, 0] ![512, 128] inb_S2048x128_S512x128_1536_0)) v (ix3 0 r 0)
      = v (ix3 0 r 0) + ∑ jj : Fin 512, blockS i x0 x1 x2 x3 x4 x5 x6 r ⟨1536 + jj, by omega⟩ := by
  pointwise [k0_pay16, pay_s3 i x0 x1 x2 x3 x4 x5 x6 hi]

/-! ## The zeros, and the scaling of the queries' gradient -/

theorem pay_zero38 (j : Fin 2048) (d : Fin 128) : k0_pay38 (F := Ideal) (ix2 j d) = 0 := by pointwise [k0_pay38]
theorem pay_zero39 (j : Fin 2048) (d : Fin 128) : k0_pay39 (F := Ideal) (ix2 j d) = 0 := by pointwise [k0_pay39]
theorem pay_zero40 (j : Fin 2048) : k0_pay40 (F := Ideal) (ix3 0 0 j) = 0 := by pointwise [k0_pay40]
theorem pay_zero41 (r : Fin 512) (d : Fin 128) : k0_pay41 (F := Ideal) (ix2 r d) = 0 := by pointwise [k0_pay41]
theorem pay_zero42 (r : Fin 512) : k0_pay42 (F := Ideal) (ix3 0 r 0) = 0 := by pointwise [k0_pay42]
theorem pay_scale (v : FVec Ideal S512x128 .f32) (r : Fin 512) (d : Fin 128) :
    k0_pay17 (F := Ideal) v (ix2 r d) = v (ix2 r d) * Ideal.ofBits .f32 0x3DB504F3#32 := by pointwise [k0_pay17]

end Cert.Fox

end
-- ==== Proof.Fox.BlockOut.lean ====
/- What one grid point of the attention's backward kernel leaves in its output buffers, entry by entry.

   The four cases A, B, C, D are a head's four groups of queries: group `i` meets the first `i + 1` groups of keys; the
   keys after these contribute nothing. -/
module

public import proofs.«01_k».proof.Proof.Gen.KernelIdeal.Value
public import proofs.«01_k».proof.Proof.Fox.BlockPay
public import Idealize.ShloMosaic.Lib.Pipeline.ReadBack
public import Idealize.ShloMosaic.Lib.WritesUnit

@[expose] public section

set_option maxRecDepth 16384

noncomputable section

namespace Cert.Fox

open Cert.KernelIdeal Cert.KernelIdeal.Gen Idealize.ShloMosaic Idealize.ShloMosaic.TcCoe Idealize.SL.Sem
open Idealize.ShloMosaic.Pipeline (Dat)

section Rows

variable {sig' : RefSig} {κ : Kind} {sp : Space}

/-- After a store of 512 rows, a buffer holds `g` if the store's payload does and the buffer did elsewhere. -/
theorem rows_cons (v : View sig' κ sp S2048x128 .f32) (f : v.ty.Contents (Elt Ideal)) (lo : ℕ) (hlo : lo + 512 ≤ 2048)
    (inb : ∀ a : Fin 2, ![lo, 0] a + ![512, 128] a ≤ S2048x128.size a)
    (w : FVec Ideal S512x128 .f32) (L : List (View.Piece (Elt Ideal) S2048x128 .f32)) (g : Fin 2048 → Fin 128 → EReal) (j : Fin 2048) (d : Fin 128)
    (hw : ∀ (jj : Fin 512) (d : Fin 128), w (ix2 jj d) = g ⟨lo + jj, by omega⟩ d)
    (hL : ¬ (lo ≤ (j : ℕ) ∧ (j : ℕ) < lo + 512) → v.read (Elt Ideal) (v.writes (Elt Ideal) f L) (ix2 j d) = g j d) :
    v.read (Elt Ideal) (v.writes (Elt Ideal) f ((⟨Rect.unit ![lo, 0] ![512, 128] inb, w⟩ : View.Piece (Elt Ideal) S2048x128 .f32) :: L)) (ix2 j d) = g j d := by
  by_cases h : lo ≤ (j : ℕ) ∧ (j : ℕ) < lo + 512
  · refine (View.read_writes_cons_rows_of_mem (d := ![2048, 128]) v f (o := lo) inb w L (ix2 j d) (ix2 ⟨j - lo, by omega⟩ d) rfl ?_ rfl).trans
      ((hw _ _).trans (congrArg (fun j => g j d) (Fin.ext ?_)))
    · show (j : ℕ) = lo + (j - lo); omega
    · show lo + (j - lo) = (j : ℕ); omega
  · refine (View.read_writes_cons_rows_of_not_mem (d := ![2048, 128]) v f (o := lo) (W := 512) inb w L (ix2 j d) rfl rfl ?_).trans (hL h)
    show (j : ℕ) < lo ∨ lo + 512 ≤ (j : ℕ)
    omega

/-- The same for 512 entries of a row. -/
theorem lane_cons (v : View sig' κ sp S1x1x2048 .f32) (f : v.ty.Contents (Elt Ideal)) (lo : ℕ) (hlo : lo + 512 ≤ 2048)
    (inb : ∀ a : Fin 3, ![0, 0, lo] a + ![1, 1, 512] a ≤ S1x1x2048.size a)
    (w : FVec Ideal S1x1x512 .f32) (L : List (View.Piece (Elt Ideal) S1x1x2048 .f32)) (g : Fin 2048 → EReal) (j : Fin 2048)
    (hw : ∀ jj : Fin 512, w (ix3 0 0 jj) = g ⟨lo + jj, by omega⟩)
    (hL : ¬ (lo ≤ (j : ℕ) ∧ (j : ℕ) < lo + 512) → v.read (Elt Ideal) (v.writes (Elt Ideal) f L) (ix3 0 0 j) = g j) :
    v.read (Elt Ideal) (v.writes (Elt Ideal) f ((⟨Rect.unit ![0, 0, lo] ![1, 1, 512] inb, w⟩ : View.Piece (Elt Ideal) S1x1x2048 .f32) :: L)) (ix3 0 0 j) = g j := by
  by_cases h : lo ≤ (j : ℕ) ∧ (j : ℕ) < lo + 512
  · refine (View.read_writes_cons_unit_of_mem v f (off' := ![0, 0, lo]) inb w L (ix3 0 0 j) (ix3 0 0 ⟨j - lo, by omega⟩) rfl fun a => ?_).trans
      ((hw _).trans (congrArg g (Fin.ext ?_)))
    · fin_cases a
      · rfl
      · rfl
      · show (j : ℕ) = lo + (j - lo); omega
    · show lo + (j - lo) = (j : ℕ); omega
  · refine (View.read_writes_cons_unit_of_not_mem v f (off' := ![0, 0, lo]) inb w L (ix3 0 0 j) rfl 2 ?_).trans (hL h)
    show (j : ℕ) < lo ∨ lo + 512 ≤ (j : ℕ)
    omega

/-- A sum over all keys is the sum over their four groups. -/
theorem sum_groups (f : Fin 2048 → EReal) :
    ∑ j, f j = ((((0 + ∑ jj : Fin 512, f ⟨0 + jj, by omega⟩) + ∑ jj : Fin 512, f ⟨512 + jj, by omega⟩)
      + ∑ jj : Fin 512, f ⟨1024 + jj, by omega⟩) + ∑ jj : Fin 512, f ⟨1536 + jj, by omega⟩) := by
  rw [Fin.sum_congr' f (show 1536 + 512 = 2048 from rfl) |>.symm, Fin.sum_univ_add]
  rw [Fin.sum_congr' (fun i : Fin 1536 => f (Fin.cast rfl (Fin.castAdd 512 i))) (show 1024 + 512 = 1536 from rfl) |>.symm, Fin.sum_univ_add]
  rw [Fin.sum_congr' (fun i : Fin 1024 => f (Fin.cast rfl (Fin.castAdd 512 (Fin.cast (show 1024 + 512 = 1536 from rfl) (Fin.castAdd 512 i))))) (show 512 + 512 = 1024 from rfl) |>.symm, Fin.sum_univ_add]
  rw [zero_add]
  congr 1

/-- The same where the later groups are zero. -/
theorem sum_groups1 (f : Fin 2048 → EReal) (h : ∀ j : Fin 2048, 512 ≤ (j : ℕ) → f j = 0) :
    ∑ j, f j = 0 + ∑ jj : Fin 512, f ⟨0 + jj, by omega⟩ := by
  have e1 : (∑ jj : Fin 512, f ⟨512 + jj, by omega⟩) = 0 := Finset.sum_eq_zero fun jj _ => h _ (by show 512 ≤ 512 + (jj : ℕ); omega)
  have e2 : (∑ jj : Fin 512, f ⟨1024 + jj, by omega⟩) = 0 := Finset.sum_eq_zero fun jj _ => h _ (by show 512 ≤ 1024 + (jj : ℕ); omega)
  have e3 : (∑ jj : Fin 512, f ⟨1536 + jj, by omega⟩) = 0 := Finset.sum_eq_zero fun jj _ => h _ (by show 512 ≤ 1536 + (jj : ℕ); omega)
  rw [sum_groups, e1, e2, e3, add_zero, add_zero, add_zero]
theorem sum_groups2 (f : Fin 2048 → EReal) (h : ∀ j : Fin 2048, 1024 ≤ (j : ℕ) → f j = 0) :
    ∑ j, f j = (0 + ∑ jj : Fin 512, f ⟨0 + jj, by omega⟩) + ∑ jj : Fin 512, f ⟨512 + jj, by omega⟩ := by
  have e2 : (∑ jj : Fin 512, f ⟨1024 + jj, by omega⟩) = 0 := Finset.sum_eq_zero fun jj _ => h _ (by show 1024 ≤ 1024 + (jj : ℕ); omega)
  have e3 : (∑ jj : Fin 512, f ⟨1536 + jj, by omega⟩) = 0 := Finset.sum_eq_zero fun jj _ => h _ (by show 1024 ≤ 1536 + (jj : ℕ); omega)
  rw [sum_groups, e2, e3, add_zero, add_zero]
theorem sum_groups3 (f : Fin 2048 → EReal) (h : ∀ j : Fin 2048, 1536 ≤ (j : ℕ) → f j = 0) :
    ∑ j, f j = ((0 + ∑ jj : Fin 512, f ⟨0 + jj, by omega⟩) + ∑ jj : Fin 512, f ⟨512 + jj, by omega⟩) + ∑ jj : Fin 512, f ⟨1024 + jj, by omega⟩ := by
  have e3 : (∑ jj : Fin 512, f ⟨1536 + jj, by omega⟩) = 0 := Finset.sum_eq_zero fun jj _ => h _ (by show 1536 ≤ 1536 + (jj : ℕ); omega)
  rw [sum_groups, e3, add_zero]

end Rows

variable (m : (ℓ : Loc nD τ sig) → Buf (Elt Ideal) ℓ) (c : Dev nD) (t : Fin cfg0.N)

/-- The second grid coordinate is the group of queries. -/
theorem coord_val : ∀ t : Fin cfg0.N, ((grid0.coords t 1 : ℕ)) = t.val % 4 :=
  (by decide +kernel : ∀ t : Fin grid0.N, ((grid0.coords t 1 : ℕ)) = t.val % 4)

/-- The point's queries, keys and gradients. -/
abbrev ptQ : FVec Ideal S512x128 .f32 := iblk m c 0 t
abbrev ptK : FVec Ideal S2048x128 .f32 := iblk m c 1 t
abbrev ptG : FVec Ideal S512x128 .f32 := iblk m c 3 t
/-- The probabilities of a grid point's block, -/
abbrev ptP (r : Fin 512) (j : Fin 2048) : EReal :=
  blockP (grid0.coords t 1 : ℕ) (iblk m c 0 t) (iblk m c 1 t) (iblk m c 5 t) (iblk m c 6 t) r j
/-- and the gradients at its scores. -/
abbrev ptS (r : Fin 512) (j : Fin 2048) : EReal :=
  blockS (grid0.coords t 1 : ℕ) (iblk m c 0 t) (iblk m c 1 t) (iblk m c 2 t) (iblk m c 3 t) (iblk m c 4 t) (iblk m c 5 t) (iblk m c 6 t) r j

/-- Keys after the point's queries have probability and gradient zero. -/
theorem ptP_masked (r : Fin 512) (j : Fin 2048) (h : 512 * (t.val % 4) + 512 ≤ (j : ℕ)) : ptP m c t r j = 0 :=
  blockP_masked _ _ _ _ _ _ _ (by rw [coord_val]; omega)
theorem ptS_masked (r : Fin 512) (j : Fin 2048) (h : 512 * (t.val % 4) + 512 ≤ (j : ℕ)) : ptS m c t r j = 0 :=
  blockS_masked _ _ _ _ _ _ _ _ _ _ (by rw [coord_val]; omega)

/-- What the point adds to the keys' gradient, -/
def addK (j : Fin 2048) (d : Fin 128) : EReal :=
  ∑ r : Fin 512, ptS m c t r j * (ptQ m c t (ix2 r d) * Ideal.ofBits .f32 0x3DB504F3#32)
/-- to the values' gradient, -/
def addV (j : Fin 2048) (d : Fin 128) : EReal := ∑ r : Fin 512, ptP m c t r j * ptG m c t (ix2 r d)
/-- and to the gradient at the keys' gates. -/
def addC (j : Fin 2048) : EReal := - ∑ r : Fin 512, ptS m c t r j

/-- Keys after the point's queries get nothing. -/
theorem addK_masked (j : Fin 2048) (d : Fin 128) (h : 512 * (t.val % 4) + 512 ≤ (j : ℕ)) : addK m c t j d = 0 :=
  Finset.sum_eq_zero fun r _ => by rw [ptS_masked m c t r j h, zero_mul]
theorem addV_masked (j : Fin 2048) (d : Fin 128) (h : 512 * (t.val % 4) + 512 ≤ (j : ℕ)) : addV m c t j d = 0 :=
  Finset.sum_eq_zero fun r _ => by rw [ptP_masked m c t r j h, zero_mul]
theorem addC_masked (j : Fin 2048) (h : 512 * (t.val % 4) + 512 ≤ (j : ℕ)) : addC m c t j = 0 := by
  unfold addC
  rw [Finset.sum_eq_zero fun r _ => ptS_masked m c t r j h, neg_zero]

theorem coord_lt : (grid0.coords t 1 : ℕ) < 4 := by rw [coord_val]; omega

theorem dk_A (j : Fin 2048) (d : Fin 128) (h0 : t.val % 4 = 0) (h2 : ¬1 ≤ t.val % 4) (h3 : ¬2 ≤ t.val % 4) (h4 : ¬t.val % 4 = 3) :
    (outsAt0 m c t.val t.isLt).2.1 (ix2 j d) = addK m c t j d := by
  rw [outsAt0_A m c t h0 h2 h3 h4]
  frame_out
  rw [← View.read_writes_junk_apply_eq_canon (ms0_8 t).view]
  refine rows_cons _ _ 0 (by omega) _ _ _ (fun j d => addK m c t j d) j d (fun jj d => ?_) fun hj => ?_
  · refine (pay_dk0 _ _ _ _ _ _ _ _ _ (coord_lt t) jj d).trans ?_
    rw [View.readCov_fill _ _ _ _ _ (by decide)]
    refine (congrArg (· + _) ((ldK_at _ 0 (by omega) inb_S2048x128_S512x128_0_0 jj d).trans (pay_zero38 _ _))).trans ?_
    rw [zero_add]
    rfl
  · rw [View.read_writes_junk_apply_eq_canon, View.canon_cons_unit_lit _ _ _ (by decide), addK_masked m c t j d (by omega)]
    exact pay_zero38 _ _

theorem dk_B (j : Fin 2048) (d : Fin 128) (h0 : ¬t.val % 4 = 0) (h2 : 1 ≤ t.val % 4) (h3 : ¬2 ≤ t.val % 4) (h4 : ¬t.val % 4 = 3) :
    (outsAt0 m c t.val t.isLt).2.1 (ix2 j d) = (outsAt0 m c (t.val - 1) (by have := t.isLt; omega)).2.1 (ix2 j d) + addK m c t j d := by
  rw [outsAt0_B m c t h0 h2 h3 h4]
  frame_out
  refine rows_cons _ _ 512 (by omega) _ _ _ (fun j d => (outsAt0 m c (t.val - 1) _).2.1 (ix2 j d) + addK m c t j d) j d (fun jj d => ?_) fun hj1 => ?_
  · refine (pay_dk1 _ _ _ _ _ _ _ _ _ (coord_lt t) jj d).trans (congrArg (· + _) (ldK_at _ 512 (by omega) _ jj d))
  refine rows_cons _ _ 0 (by omega) _ _ _ (fun j d => (outsAt0 m c (t.val - 1) _).2.1 (ix2 j d) + addK m c t j d) j d (fun jj d => ?_) fun hj0 => ?_
  · refine (pay_dk0 _ _ _ _ _ _ _ _ _ (coord_lt t) jj d).trans (congrArg (· + _) (ldK_at _ 0 (by omega) _ jj d))
  rw [addK_masked m c t j d (by omega), add_zero]
  exact congrFun ((hs0_8 t).read_unread _) _

theorem dk_C (j : Fin 2048) (d : Fin 128) (h0 : ¬t.val % 4 = 0) (h2 : 1 ≤ t.val % 4) (h3 : 2 ≤ t.val % 4) (h4 : ¬t.val % 4 = 3) :
    (outsAt0 m c t.val t.isLt).2.1 (ix2 j d) = (outsAt0 m c (t.val - 1) (by have := t.isLt; omega)).2.1 (ix2 j d) + addK m c t j d := by
  rw [outsAt0_C m c t h0 h2 h3 h4]
  frame_out
  refine rows_cons _ _ 1024 (by omega) _ _ _ (fun j d => (outsAt0 m c (t.val - 1) _).2.1 (ix2 j d) + addK m c t j d) j d (fun jj d => ?_) fun hj2 => ?_
  · refine (pay_dk2 _ _ _ _ _ _ _ _ _ (coord_lt t) jj d).trans (congrArg (· + _) (ldK_at _ 1024 (by omega) _ jj d))
  refine rows_cons _ _ 512 (by omega) _ _ _ (fun j d => (outsAt0 m c (t.val - 1) _).2.1 (ix2 j d) + addK m c t j d) j d (fun jj d => ?_) fun hj1 => ?_
  · refine (pay_dk1 _ _ _ _ _ _ _ _ _ (coord_lt t) jj d).trans (congrArg (· + _) (ldK_at _ 512 (by omega) _ jj d))
  refine rows_cons _ _ 0 (by omega) _ _ _ (fun j d => (outsAt0 m c (t.val - 1) _).2.1 (ix2 j d) + addK m c t j d) j d (fun jj d => ?_) fun hj0 => ?_
  · refine (pay_dk0 _ _ _ _ _ _ _ _ _ (coord_lt t) jj d).trans (congrArg (· + _) (ldK_at _ 0 (by omega) _ jj d))
  rw [addK_masked m c t j d (by omega), add_zero]
  exact congrFun ((hs0_8 t).read_unread _) _

theorem dk_D (j : Fin 2048) (d : Fin 128) (h0 : ¬t.val % 4 = 0) (h2 : 1 ≤ t.val % 4) (h3 : 2 ≤ t.val % 4) (h4 : t.val % 4 = 3) :
    (outsAt0 m c t.val t.isLt).2.1 (ix2 j d) = (outsAt0 m c (t.val - 1) (by have := t.isLt; omega)).2.1 (ix2 j d) + addK m c t j d := by
  rw [outsAt0_D m c t h0 h2 h3 h4]
  frame_out
  rw [← View.read_writes_junk_apply_eq_canon (ms0_8 t).view]
  refine rows_cons _ _ 1536 (by omega) _ _ _ (fun j d => (outsAt0 m c (t.val - 1) _).2.1 (ix2 j d) + addK m c t j d) j d (fun jj d => ?_) fun hj3 => ?_
  · refine (pay_dk3 _ _ _ _ _ _ _ _ _ (coord_lt t) jj d).trans (congrArg (· + _) (ldK_at _ 1536 (by omega) _ jj d))
  refine rows_cons _ _ 1024 (by omega) _ _ _ (fun j d => (outsAt0 m c (t.val - 1) _).2.1 (ix2 j d) + addK m c t j d) j d (fun jj d => ?_) fun hj2 => ?_
  · refine (pay_dk2 _ _ _ _ _ _ _ _ _ (coord_lt t) jj d).trans (congrArg (· + _) (ldK_at _ 1024 (by omega) _ jj d))
  refine rows_cons _ _ 512 (by omega) _ _ _ (fun j d => (outsAt0 m c (t.val - 1) _).2.1 (ix2 j d) + addK m c t j d) j d (fun jj d => ?_) fun hj1 => ?_
  · refine (pay_dk1 _ _ _ _ _ _ _ _ _ (coord_lt t) jj d).trans (congrArg (· + _) (ldK_at _ 512 (by omega) _ jj d))
  refine rows_cons _ _ 0 (by omega) _ _ _ (fun j d => (outsAt0 m c (t.val - 1) _).2.1 (ix2 j d) + addK m c t j d) j d (fun jj d => ?_) fun hj0 => ?_
  · refine (pay_dk0 _ _ _ _ _ _ _ _ _ (coord_lt t) jj d).trans (congrArg (· + _) (ldK_at _ 0 (by omega) _ jj d))
  exact absurd j.isLt (by omega)

theorem dv_A (j : Fin 2048) (d : Fin 128) (h0 : t.val % 4 = 0) (h2 : ¬1 ≤ t.val % 4) (h3 : ¬2 ≤ t.val % 4) (h4 : ¬t.val % 4 = 3) :
    (outsAt0 m c t.val t.isLt).2.2.1 (ix2 j d) = addV m c t j d := by
  rw [outsAt0_A m c t h0 h2 h3 h4]
  frame_out
  rw [← View.read_writes_junk_apply_eq_canon (ms0_9 t).view]
  refine rows_cons _ _ 0 (by omega) _ _ _ (fun j d => addV m c t j d) j d (fun jj d => ?_) fun hj => ?_
  · refine (pay_dv0 _ _ _ _ _ _ _ (coord_lt t) jj d).trans ?_
    rw [View.readCov_fill _ _ _ _ _ (by decide)]
    refine (congrArg (· + _) ((ldK_at _ 0 (by omega) inb_S2048x128_S512x128_0_0 jj d).trans (pay_zero39 _ _))).trans ?_
    rw [zero_add]
    rfl
  · rw [View.read_writes_junk_apply_eq_canon, View.canon_cons_unit_lit _ _ _ (by decide), addV_masked m c t j d (by omega)]
    exact pay_zero39 _ _

theorem dv_B (j : Fin 2048) (d : Fin 128) (h0 : ¬t.val % 4 = 0) (h2 : 1 ≤ t.val % 4) (h3 : ¬2 ≤ t.val % 4) (h4 : ¬t.val % 4 = 3) :
    (outsAt0 m c t.val t.isLt).2.2.1 (ix2 j d) = (outsAt0 m c (t.val - 1) (by have := t.isLt; omega)).2.2.1 (ix2 j d) + addV m c t j d := by
  rw [outsAt0_B m c t h0 h2 h3 h4]
  frame_out
  refine rows_cons _ _ 512 (by omega) _ _ _ (fun j d => (outsAt0 m c (t.val - 1) _).2.2.1 (ix2 j d) + addV m c t j d) j d (fun jj d => ?_) fun hj1 => ?_
  · refine (pay_dv1 _ _ _ _ _ _ _ (coord_lt t) jj d).trans (congrArg (· + _) (ldK_at _ 512 (by omega) _ jj d))
  refine rows_cons _ _ 0 (by omega) _ _ _ (fun j d => (outsAt0 m c (t.val - 1) _).2.2.1 (ix2 j d) + addV m c t j d) j d (fun jj d => ?_) fun hj0 => ?_
  · refine (pay_dv0 _ _ _ _ _ _ _ (coord_lt t) jj d).trans (congrArg (· + _) (ldK_at _ 0 (by omega) _ jj d))
  rw [addV_masked m c t j d (by omega), add_zero]
  exact congrFun ((hs0_9 t).read_unread _) _

theorem dv_C (j : Fin 2048) (d : Fin 128) (h0 : ¬t.val % 4 = 0) (h2 : 1 ≤ t.val % 4) (h3 : 2 ≤ t.val % 4) (h4 : ¬t.val % 4 = 3) :
    (outsAt0 m c t.val t.isLt).2.2.1 (ix2 j d) = (outsAt0 m c (t.val - 1) (by have := t.isLt; omega)).2.2.1 (ix2 j d) + addV m c t j d := by
  rw [outsAt0_C m c t h0 h2 h3 h4]
  frame_out
  refine rows_cons _ _ 1024 (by omega) _ _ _ (fun j d => (outsAt0 m c (t.val - 1) _).2.2.1 (ix2 j d) + addV m c t j d) j d (fun jj d => ?_) fun hj2 => ?_
  · refine (pay_dv2 _ _ _ _ _ _ _ (coord_lt t) jj d).trans (congrArg (· + _) (ldK_at _ 1024 (by omega) _ jj d))
  refine rows_cons _ _ 512 (by omega) _ _ _ (fun j d => (outsAt0 m c (t.val - 1) _).2.2.1 (ix2 j d) + addV m c t j d) j d (fun jj d => ?_) fun hj1 => ?_
  · refine (pay_dv1 _ _ _ _ _ _ _ (coord_lt t) jj d).trans (congrArg (· + _) (ldK_at _ 512 (by omega) _ jj d))
  refine rows_cons _ _ 0 (by omega) _ _ _ (fun j d => (outsAt0 m c (t.val - 1) _).2.2.1 (ix2 j d) + addV m c t j d) j d (fun jj d => ?_) fun hj0 => ?_
  · refine (pay_dv0 _ _ _ _ _ _ _ (coord_lt t) jj d).trans (congrArg (· + _) (ldK_at _ 0 (by omega) _ jj d))
  rw [addV_masked m c t j d (by omega), add_zero]
  exact congrFun ((hs0_9 t).read_unread _) _

theorem dv_D (j : Fin 2048) (d : Fin 128) (h0 : ¬t.val % 4 = 0) (h2 : 1 ≤ t.val % 4) (h3 : 2 ≤ t.val % 4) (h4 : t.val % 4 = 3) :
    (outsAt0 m c t.val t.isLt).2.2.1 (ix2 j d) = (outsAt0 m c (t.val - 1) (by have := t.isLt; omega)).2.2.1 (ix2 j d) + addV m c t j d := by
  rw [outsAt0_D m c t h0 h2 h3 h4]
  frame_out
  rw [← View.read_writes_junk_apply_eq_canon (ms0_9 t).view]
  refine rows_cons _ _ 1536 (by omega) _ _ _ (fun j d => (outsAt0 m c (t.val - 1) _).2.2.1 (ix2 j d) + addV m c t j d) j d (fun jj d => ?_) fun hj3 => ?_
  · refine (pay_dv3 _ _ _ _ _ _ _ (coord_lt t) jj d).trans (congrArg (· + _) (ldK_at _ 1536 (by omega) _ jj d))
  refine rows_cons _ _ 1024 (by omega) _ _ _ (fun j d => (outsAt0 m c (t.val - 1) _).2.2.1 (ix2 j d) + addV m c t j d) j d (fun jj d => ?_) fun hj2 => ?_
  · refine (pay_dv2 _ _ _ _ _ _ _ (coord_lt t) jj d).trans (congrArg (· + _) (ldK_at _ 1024 (by omega) _ jj d))
  refine rows_cons _ _ 512 (by omega) _ _ _ (fun j d => (outsAt0 m c (t.val - 1) _).2.2.1 (ix2 j d) + addV m c t j d) j d (fun jj d => ?_) fun hj1 => ?_
  · refine (pay_dv1 _ _ _ _ _ _ _ (coord_lt t) jj d).trans (congrArg (· + _) (ldK_at _ 512 (by omega) _ jj d))
  refine rows_cons _ _ 0 (by omega) _ _ _ (fun j d => (outsAt0 m c (t.val - 1) _).2.2.1 (ix2 j d) + addV m c t j d) j d (fun jj d => ?_) fun hj0 => ?_
  · refine (pay_dv0 _ _ _ _ _ _ _ (coord_lt t) jj d).trans (congrArg (· + _) (ldK_at _ 0 (by omega) _ jj d))
  exact absurd j.isLt (by omega)

theorem dck_A (j : Fin 2048) (h0 : t.val % 4 = 0) (h2 : ¬1 ≤ t.val % 4) (h3 : ¬2 ≤ t.val % 4) (h4 : ¬t.val % 4 = 3) :
    (outsAt0 m c t.val t.isLt).2.2.2.1 (ix3 0 0 j) = addC m c t j := by
  rw [outsAt0_A m c t h0 h2 h3 h4]
  frame_out
  rw [← View.read_writes_junk_apply_eq_canon (ms0_10 t).view]
  refine lane_cons _ _ 0 (by omega) _ _ _ (fun j => addC m c t j) j (fun jj => ?_) fun hj => ?_
  · refine (pay_dck0 _ _ _ _ _ _ _ _ _ (coord_lt t) jj).trans ?_
    rw [View.readCov_fill _ _ _ _ _ (by decide)]
    refine (congrArg (· - _) ((ldC_at _ 0 (by omega) inb_S1x1x2048_S1x1x512_0_0_0 jj).trans (pay_zero40 _))).trans ?_
    rw [zero_sub]
    rfl
  · rw [View.read_writes_junk_apply_eq_canon, View.canon_cons_unit_lit _ _ _ (by decide), addC_masked m c t j (by omega)]
    exact pay_zero40 _

theorem dck_B (j : Fin 2048) (h0 : ¬t.val % 4 = 0) (h2 : 1 ≤ t.val % 4) (h3 : ¬2 ≤ t.val % 4) (h4 : ¬t.val % 4 = 3) :
    (outsAt0 m c t.val t.isLt).2.2.2.1 (ix3 0 0 j) = (outsAt0 m c (t.val - 1) (by have := t.isLt; omega)).2.2.2.1 (ix3 0 0 j) + addC m c t j := by
  rw [outsAt0_B m c t h0 h2 h3 h4]
  frame_out
  refine lane_cons _ _ 512 (by omega) _ _ _ (fun j => (outsAt0 m c (t.val - 1) _).2.2.2.1 (ix3 0 0 j) + addC m c t j) j (fun jj => ?_) fun hj1 => ?_
  · refine (pay_dck1 _ _ _ _ _ _ _ _ _ (coord_lt t) jj).trans ((congrArg (· - _) (ldC_at _ 512 (by omega) _ jj)).trans (sub_eq_add_neg _ _))
  refine lane_cons _ _ 0 (by omega) _ _ _ (fun j => (outsAt0 m c (t.val - 1) _).2.2.2.1 (ix3 0 0 j) + addC m c t j) j (fun jj => ?_) fun hj0 => ?_
  · refine (pay_dck0 _ _ _ _ _ _ _ _ _ (coord_lt t) jj).trans ((congrArg (· - _) (ldC_at _ 0 (by omega) _ jj)).trans (sub_eq_add_neg _ _))
  rw [addC_masked m c t j (by omega), add_zero]
  exact congrFun ((hs0_10 t).read_unread _) _

theorem dck_C (j : Fin 2048) (h0 : ¬t.val % 4 = 0) (h2 : 1 ≤ t.val % 4) (h3 : 2 ≤ t.val % 4) (h4 : ¬t.val % 4 = 3) :
    (outsAt0 m c t.val t.isLt).2.2.2.1 (ix3 0 0 j) = (outsAt0 m c (t.val - 1) (by have := t.isLt; omega)).2.2.2.1 (ix3 0 0 j) + addC m c t j := by
  rw [outsAt0_C m c t h0 h2 h3 h4]
  frame_out
  refine lane_cons _ _ 1024 (by omega) _ _ _ (fun j => (outsAt0 m c (t.val - 1) _).2.2.2.1 (ix3 0 0 j) + addC m c t j) j (fun jj => ?_) fun hj2 => ?_
  · refine (pay_dck2 _ _ _ _ _ _ _ _ _ (coord_lt t) jj).trans ((congrArg (· - _) (ldC_at _ 1024 (by omega) _ jj)).trans (sub_eq_add_neg _ _))
  refine lane_cons _ _ 512 (by omega) _ _ _ (fun j => (outsAt0 m c (t.val - 1) _).2.2.2.1 (ix3 0 0 j) + addC m c t j) j (fun jj => ?_) fun hj1 => ?_
  · refine (pay_dck1 _ _ _ _ _ _ _ _ _ (coord_lt t) jj).trans ((congrArg (· - _) (ldC_at _ 512 (by omega) _ jj)).trans (sub_eq_add_neg _ _))
  refine lane_cons _ _ 0 (by omega) _ _ _ (fun j => (outsAt0 m c (t.val - 1) _).2.2.2.1 (ix3 0 0 j) + addC m c t j) j (fun jj => ?_) fun hj0 => ?_
  · refine (pay_dck0 _ _ _ _ _ _ _ _ _ (coord_lt t) jj).trans ((congrArg (· - _) (ldC_at _ 0 (by omega) _ jj)).trans (sub_eq_add_neg _ _))
  rw [addC_masked m c t j (by omega), add_zero]
  exact congrFun ((hs0_10 t).read_unread _) _

theorem dck_D (j : Fin 2048) (h0 : ¬t.val % 4 = 0) (h2 : 1 ≤ t.val % 4) (h3 : 2 ≤ t.val % 4) (h4 : t.val % 4 = 3) :
    (outsAt0 m c t.val t.isLt).2.2.2.1 (ix3 0 0 j) = (outsAt0 m c (t.val - 1) (by have := t.isLt; omega)).2.2.2.1 (ix3 0 0 j) + addC m c t j := by
  rw [outsAt0_D m c t h0 h2 h3 h4]
  frame_out
  rw [← View.read_writes_junk_apply_eq_canon (ms0_10 t).view]
  refine lane_cons _ _ 1536 (by omega) _ _ _ (fun j => (outsAt0 m c (t.val - 1) _).2.2.2.1 (ix3 0 0 j) + addC m c t j) j (fun jj => ?_) fun hj3 => ?_
  · refine (pay_dck3 _ _ _ _ _ _ _ _ _ (coord_lt t) jj).trans ((congrArg (· - _) (ldC_at _ 1536 (by omega) _ jj)).trans (sub_eq_add_neg _ _))
  refine lane_cons _ _ 1024 (by omega) _ _ _ (fun j => (outsAt0 m c (t.val - 1) _).2.2.2.1 (ix3 0 0 j) + addC m c t j) j (fun jj => ?_) fun hj2 => ?_
  · refine (pay_dck2 _ _ _ _ _ _ _ _ _ (coord_lt t) jj).trans ((congrArg (· - _) (ldC_at _ 1024 (by omega) _ jj)).trans (sub_eq_add_neg _ _))
  refine lane_cons _ _ 512 (by omega) _ _ _ (fun j => (outsAt0 m c (t.val - 1) _).2.2.2.1 (ix3 0 0 j) + addC m c t j) j (fun jj => ?_) fun hj1 => ?_
  · refine (pay_dck1 _ _ _ _ _ _ _ _ _ (coord_lt t) jj).trans ((congrArg (· - _) (ldC_at _ 512 (by omega) _ jj)).trans (sub_eq_add_neg _ _))
  refine lane_cons _ _ 0 (by omega) _ _ _ (fun j => (outsAt0 m c (t.val - 1) _).2.2.2.1 (ix3 0 0 j) + addC m c t j) j (fun jj => ?_) fun hj0 => ?_
  · refine (pay_dck0 _ _ _ _ _ _ _ _ _ (coord_lt t) jj).trans ((congrArg (· - _) (ldC_at _ 0 (by omega) _ jj)).trans (sub_eq_add_neg _ _))
  exact absurd j.isLt (by omega)

theorem dq_A (r : Fin 512) (d : Fin 128) (h0 : t.val % 4 = 0) (h2 : ¬1 ≤ t.val % 4) (h3 : ¬2 ≤ t.val % 4) (h4 : ¬t.val % 4 = 3) :
    (outsAt0 m c t.val t.isLt).1 (ix2 r d) = (∑ j : Fin 2048, ptS m c t r j * ptK m c t (ix2 j d)) * Ideal.ofBits .f32 0x3DB504F3#32 := by
  rw [outsAt0_A m c t h0 h2 h3 h4]
  frame_out
  refine (pay_scale _ r d).trans (congrArg (· * _) ?_)
  refine Eq.trans ?_ (sum_groups1 _ (fun j hj => (show ptS m c t r j * _ = 0 by rw [ptS_masked m c t r j (by omega), zero_mul]))).symm
  refine (pay_acc0 _ _ _ _ _ _ _ _ _ (coord_lt t) r d).trans (congrArg (· + _) ?_)
  exact pay_zero41 r d

theorem dq_B (r : Fin 512) (d : Fin 128) (h0 : ¬t.val % 4 = 0) (h2 : 1 ≤ t.val % 4) (h3 : ¬2 ≤ t.val % 4) (h4 : ¬t.val % 4 = 3) :
    (outsAt0 m c t.val t.isLt).1 (ix2 r d) = (∑ j : Fin 2048, ptS m c t r j * ptK m c t (ix2 j d)) * Ideal.ofBits .f32 0x3DB504F3#32 := by
  rw [outsAt0_B m c t h0 h2 h3 h4]
  frame_out
  refine (pay_scale _ r d).trans (congrArg (· * _) ?_)
  refine Eq.trans ?_ (sum_groups2 _ (fun j hj => (show ptS m c t r j * _ = 0 by rw [ptS_masked m c t r j (by omega), zero_mul]))).symm
  refine (pay_acc1 _ _ _ _ _ _ _ _ _ (coord_lt t) r d).trans (congrArg (· + _) ?_)
  refine (pay_acc0 _ _ _ _ _ _ _ _ _ (coord_lt t) r d).trans (congrArg (· + _) ?_)
  exact pay_zero41 r d

theorem dq_C (r : Fin 512) (d : Fin 128) (h0 : ¬t.val % 4 = 0) (h2 : 1 ≤ t.val % 4) (h3 : 2 ≤ t.val % 4) (h4 : ¬t.val % 4 = 3) :
    (outsAt0 m c t.val t.isLt).1 (ix2 r d) = (∑ j : Fin 2048, ptS m c t r j * ptK m c t (ix2 j d)) * Ideal.ofBits .f32 0x3DB504F3#32 := by
  rw [outsAt0_C m c t h0 h2 h3 h4]
  frame_out
  refine (pay_scale _ r d).trans (congrArg (· * _) ?_)
  refine Eq.trans ?_ (sum_groups3 _ (fun j hj => (show ptS m c t r j * _ = 0 by rw [ptS_masked m c t r j (by omega), zero_mul]))).symm
  refine (pay_acc2 _ _ _ _ _ _ _ _ _ (coord_lt t) r d).trans (congrArg (· + _) ?_)
  refine (pay_acc1 _ _ _ _ _ _ _ _ _ (coord_lt t) r d).trans (congrArg (· + _) ?_)
  refine (pay_acc0 _ _ _ _ _ _ _ _ _ (coord_lt t) r d).trans (congrArg (· + _) ?_)
  exact pay_zero41 r d

theorem dq_D (r : Fin 512) (d : Fin 128) (h0 : ¬t.val % 4 = 0) (h2 : 1 ≤ t.val % 4) (h3 : 2 ≤ t.val % 4) (h4 : t.val % 4 = 3) :
    (outsAt0 m c t.val t.isLt).1 (ix2 r d) = (∑ j : Fin 2048, ptS m c t r j * ptK m c t (ix2 j d)) * Ideal.ofBits .f32 0x3DB504F3#32 := by
  rw [outsAt0_D m c t h0 h2 h3 h4]
  frame_out
  refine (pay_scale _ r d).trans (congrArg (· * _) ?_)
  refine Eq.trans ?_ (sum_groups _).symm
  refine (pay_acc3 _ _ _ _ _ _ _ _ _ (coord_lt t) r d).trans (congrArg (· + _) ?_)
  refine (pay_acc2 _ _ _ _ _ _ _ _ _ (coord_lt t) r d).trans (congrArg (· + _) ?_)
  refine (pay_acc1 _ _ _ _ _ _ _ _ _ (coord_lt t) r d).trans (congrArg (· + _) ?_)
  refine (pay_acc0 _ _ _ _ _ _ _ _ _ (coord_lt t) r d).trans (congrArg (· + _) ?_)
  exact pay_zero41 r d

theorem dcq_A (r : Fin 512) (h0 : t.val % 4 = 0) (h2 : ¬1 ≤ t.val % 4) (h3 : ¬2 ≤ t.val % 4) (h4 : ¬t.val % 4 = 3) :
    (outsAt0 m c t.val t.isLt).2.2.2.2 (ix3 0 r 0) = ∑ j : Fin 2048, ptS m c t r j := by
  rw [outsAt0_A m c t h0 h2 h3 h4]
  frame_out
  refine Eq.trans ?_ (sum_groups1 _ (fun j hj => ptS_masked m c t r j (by omega))).symm
  refine (pay_dcq0 _ _ _ _ _ _ _ _ _ (coord_lt t) r).trans (congrArg (· + _) ?_)
  exact pay_zero42 r

theorem dcq_B (r : Fin 512) (h0 : ¬t.val % 4 = 0) (h2 : 1 ≤ t.val % 4) (h3 : ¬2 ≤ t.val % 4) (h4 : ¬t.val % 4 = 3) :
    (outsAt0 m c t.val t.isLt).2.2.2.2 (ix3 0 r 0) = ∑ j : Fin 2048, ptS m c t r j := by
  rw [outsAt0_B m c t h0 h2 h3 h4]
  frame_out
  refine Eq.trans ?_ (sum_groups2 _ (fun j hj => ptS_masked m c t r j (by omega))).symm
  refine (pay_dcq1 _ _ _ _ _ _ _ _ _ (coord_lt t) r).trans (congrArg (· + _) ?_)
  refine (pay_dcq0 _ _ _ _ _ _ _ _ _ (coord_lt t) r).trans (congrArg (· + _) ?_)
  exact pay_zero42 r

theorem dcq_C (r : Fin 512) (h0 : ¬t.val % 4 = 0) (h2 : 1 ≤ t.val % 4) (h3 : 2 ≤ t.val % 4) (h4 : ¬t.val % 4 = 3) :
    (outsAt0 m c t.val t.isLt).2.2.2.2 (ix3 0 r 0) = ∑ j : Fin 2048, ptS m c t r j := by
  rw [outsAt0_C m c t h0 h2 h3 h4]
  frame_out
  refine Eq.trans ?_ (sum_groups3 _ (fun j hj => ptS_masked m c t r j (by omega))).symm
  refine (pay_dcq2 _ _ _ _ _ _ _ _ _ (coord_lt t) r).trans (congrArg (· + _) ?_)
  refine (pay_dcq1 _ _ _ _ _ _ _ _ _ (coord_lt t) r).trans (congrArg (· + _) ?_)
  refine (pay_dcq0 _ _ _ _ _ _ _ _ _ (coord_lt t) r).trans (congrArg (· + _) ?_)
  exact pay_zero42 r

theorem dcq_D (r : Fin 512) (h0 : ¬t.val % 4 = 0) (h2 : 1 ≤ t.val % 4) (h3 : 2 ≤ t.val % 4) (h4 : t.val % 4 = 3) :
    (outsAt0 m c t.val t.isLt).2.2.2.2 (ix3 0 r 0) = ∑ j : Fin 2048, ptS m c t r j := by
  rw [outsAt0_D m c t h0 h2 h3 h4]
  frame_out
  refine Eq.trans ?_ (sum_groups _).symm
  refine (pay_dcq3 _ _ _ _ _ _ _ _ _ (coord_lt t) r).trans (congrArg (· + _) ?_)
  refine (pay_dcq2 _ _ _ _ _ _ _ _ _ (coord_lt t) r).trans (congrArg (· + _) ?_)
  refine (pay_dcq1 _ _ _ _ _ _ _ _ _ (coord_lt t) r).trans (congrArg (· + _) ?_)
  refine (pay_dcq0 _ _ _ _ _ _ _ _ _ (coord_lt t) r).trans (congrArg (· + _) ?_)
  exact pay_zero42 r

end Cert.Fox

end
-- ==== Proof.Fox.RefTerm.lean ====
/- What the reference computes, step by step: its results as a composition of named vector terms. -/
module

public import proofs.«01_k».proof.Proof.Gen.ReferenceIdeal.Run
public import proofs.«01_k».proof.Proof.Fox.Spec
public import Idealize.ShloMosaic.Lib.Pointwise

@[expose] public section

set_option maxRecDepth 16384

noncomputable section

namespace Cert.Fox

open Cert.ReferenceIdeal Cert.ReferenceIdeal.Gen Idealize.ShloMosaic Idealize.ShloMosaic.TcCoe Idealize.SL.Sem

/-- The queries, one row per position and head. -/
def refQ (A : FVec Ideal S2048x6272 .f32) : FVec Ideal S2048x16x128 .f32 :=
  shapeCast _ (extractStridedSlice S2048x2048 ![0, 0] A slices_S2048x6272_S2048x2048_0_0) shapeCasts_S2048x2048_S2048x16x128
/-- The keys. -/
def refK (A : FVec Ideal S2048x6272 .f32) : FVec Ideal S2048x16x128 .f32 :=
  shapeCast _ (extractStridedSlice S2048x2048 ![0, 2048] A slices_S2048x6272_S2048x2048_0_2048) shapeCasts_S2048x2048_S2048x16x128
/-- The values. -/
def refV (A : FVec Ideal S2048x6272 .f32) : FVec Ideal S2048x16x128 .f32 :=
  shapeCast _ (extractStridedSlice S2048x2048 ![0, 4096] A slices_S2048x6272_S2048x2048_0_4096) shapeCasts_S2048x2048_S2048x16x128
/-- The scores, with the query's and the key's cumulated gate. -/
def refScore (A : FVec Ideal S2048x6272 .f32) (C : FVec Ideal S16x2048 .f32) : FVec Ideal S16x2048x2048 .f32 :=
  subf (addf (mulf (Host.dotGeneral dot_S2048x16x128_S2048x16x128_S16x2048x2048_2_2_0_0_1_1 none (refQ A) (refK A))
      (broadcastInDim S16x2048x2048 ![] bcast_S_S16x2048x2048 (constant S_ .f32 0x3DB504F3#32)))
    (broadcastInDim S16x2048x2048 ![0, 1, 2] bcast_S16x2048x1_S16x2048x2048_0_1_2 (broadcastInDim S16x2048x1 ![0, 1] bcast_S16x2048_S16x2048x1_0_1 C)))
    (broadcastInDim S16x2048x2048 ![0, 1, 2] bcast_S16x1x2048_S16x2048x2048_0_1_2 (broadcastInDim S16x1x2048 ![0, 2] bcast_S16x2048_S16x1x2048_0_2 C))
/-- Which keys a query sees. -/
def refMask : IVec S16x2048x2048 1 :=
  broadcastInDim S16x2048x2048 ![1, 2] bcast_S2048x2048_S16x2048x2048_1_2
    (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))
/-- The masked scores. -/
def refMasked (A : FVec Ideal S2048x6272 .f32) (C : FVec Ideal S16x2048 .f32) : FVec Ideal S16x2048x2048 .f32 :=
  select refMask (refScore A C) (broadcastInDim S16x2048x2048 ![] bcast_S_S16x2048x2048 (constant S_ .f32 0xFF800000#32))
/-- Each row's maximum. -/
def refMax (X : FVec Ideal S16x2048x2048 .f32) : FVec Ideal S16x2048 .f32 :=
  maximumf (broadcastInDim S16x2048 ![] bcast_S_S16x2048 (constant S_ .f32 0xFF800000#32))
    (Host.reduce FloatOps.maximumf X (constant S_ .f32 0xFF800000#32) reducesTo_S16x2048x2048_S16x2048_d2 h_S_)
/-- The exponentials of the masked scores less their row's maximum. -/
def refExp (X : FVec Ideal S16x2048x2048 .f32) : FVec Ideal S16x2048x2048 .f32 :=
  Host.exp (subf X (broadcastInDim S16x2048x2048 ![0, 1, 2] bcast_S16x2048x1_S16x2048x2048_0_1_2
    (broadcastInDim S16x2048x1 ![0, 1] bcast_S16x2048_S16x2048x1_0_1 (refMax X))))
/-- Their row sums. -/
def refSum (E : FVec Ideal S16x2048x2048 .f32) : FVec Ideal S16x2048x1 .f32 :=
  broadcastInDim S16x2048x1 ![0, 1] bcast_S16x2048_S16x2048x1_0_1
    (Host.reduceAdd E (constant S_ .f32 0x00000000#32) reducesTo_S16x2048x2048_S16x2048_d2 h_S_)
/-- The probabilities. -/
def refProb (E : FVec Ideal S16x2048x2048 .f32) : FVec Ideal S16x2048x2048 .f32 :=
  Host.divf E (broadcastInDim S16x2048x2048 ![0, 1, 2] bcast_S16x2048x1_S16x2048x2048_0_1_2 (refSum E))
/-- The arriving gradient, one row per head and lane. -/
def refG (G : FVec Ideal S2048x2048 .f32) : FVec Ideal S16x128x2048 .f32 :=
  transpose S16x128x2048 [1, 2, 0] (shapeCast S2048x16x128 G shapeCasts_S2048x2048_S2048x16x128) transposes_S2048x16x128_S16x128x2048_1_2_0
/-- The gradient at the probabilities. -/
def refDp (A : FVec Ideal S2048x6272 .f32) (G : FVec Ideal S2048x2048 .f32) : FVec Ideal S16x2048x2048 .f32 :=
  Host.dotGeneral dot_S16x128x2048_S2048x16x128_S16x2048x2048_1_2_2_0_0_1 none (refG G) (refV A)
/-- The gradient at the row sums. -/
def refDl (E D : FVec Ideal S16x2048x2048 .f32) : FVec Ideal S16x2048 .f32 :=
  Host.reduceAdd (Host.negf (shapeCast S16x2048x1 (Host.reduceAdd (mulf (mulf D
      (broadcastInDim S16x2048x2048 ![0, 1, 2] bcast_S16x2048x1_S16x2048x2048_0_1_2
        (Host.divf (broadcastInDim S16x2048x1 ![] bcast_S_S16x2048x1 (constant S_ .f32 0x3F800000#32)) (mulf (refSum E) (refSum E))))) E)
      (constant S_ .f32 0x00000000#32) reducesTo_S16x2048x2048_S16x2048_d2 h_S_) shapeCasts_S16x2048_S16x2048x1))
    (constant S_ .f32 0x00000000#32) reducesTo_S16x2048x1_S16x2048_d2 h_S_
/-- The gradient at the scores. -/
def refDs (E D : FVec Ideal S16x2048x2048 .f32) : FVec Ideal S16x2048x2048 .f32 :=
  select refMask
    (mulf (addf (Host.divf D (broadcastInDim S16x2048x2048 ![0, 1, 2] bcast_S16x2048x1_S16x2048x2048_0_1_2 (refSum E)))
      (broadcastInDim S16x2048x2048 ![0, 1] bcast_S16x2048_S16x2048x2048_0_1 (refDl E D))) E)
    (broadcastInDim S16x2048x2048 ![] bcast_S_S16x2048x2048 (constant S_ .f32 0x00000000#32))
/-- The gradient at the unscaled scores. -/
def refDsS (S : FVec Ideal S16x2048x2048 .f32) : FVec Ideal S16x2048x2048 .f32 :=
  mulf S (broadcastInDim S16x2048x2048 ![] bcast_S_S16x2048x2048 (constant S_ .f32 0x3DB504F3#32))
/-- The queries' gradient. -/
def refDq (S : FVec Ideal S16x2048x2048 .f32) (A : FVec Ideal S2048x6272 .f32) : FVec Ideal S2048x2048 .bf16 :=
  truncf .bf16 (shapeCast S2048x2048 (transpose S2048x16x128 [1, 0, 2]
    (Host.dotGeneral dot_S16x2048x2048_S2048x16x128_S16x2048x128_2_0_1_2_0_1 none (refDsS S) (refK A))
    transposes_S16x2048x128_S2048x16x128_1_0_2) shapeCasts_S2048x16x128_S2048x2048) bitsLt_bf16_f32
/-- The keys' gradient. -/
def refDk (S : FVec Ideal S16x2048x2048 .f32) (A : FVec Ideal S2048x6272 .f32) : FVec Ideal S2048x2048 .f32 :=
  shapeCast S2048x2048 (transpose S2048x16x128 [1, 0, 2]
    (Host.dotGeneral dot_S16x2048x2048_S2048x16x128_S16x2048x128_1_0_2_2_0_1 none (refDsS S) (refQ A))
    transposes_S16x2048x128_S2048x16x128_1_0_2) shapeCasts_S2048x16x128_S2048x2048
/-- The values' gradient. -/
def refDv (P : FVec Ideal S16x2048x2048 .f32) (G : FVec Ideal S2048x2048 .f32) : FVec Ideal S2048x2048 .f32 :=
  shapeCast S2048x2048 (transpose S2048x16x128 [2, 0, 1]
    (Host.dotGeneral dot_S16x128x2048_S16x2048x2048_S16x128x2048_2_1_1_2_0_0 none (refG G) P)
    transposes_S16x128x2048_S2048x16x128_2_0_1) shapeCasts_S2048x16x128_S2048x2048
/-- The gradient at the keys' cumulated gates. -/
def refDck (S : FVec Ideal S16x2048x2048 .f32) : FVec Ideal S16x1x2048 .f32 :=
  shapeCast S16x1x2048 (Host.reduceAdd (Host.negf S) (constant S_ .f32 0x00000000#32) reducesTo_S16x2048x2048_S16x2048_d1 h_S_) shapeCasts_S16x2048_S16x1x2048
/-- The gradient at the queries' cumulated gates. -/
def refDcq (S : FVec Ideal S16x2048x2048 .f32) : FVec Ideal S16x2048x1 .f32 :=
  shapeCast S16x2048x1 (Host.reduceAdd S (constant S_ .f32 0x00000000#32) reducesTo_S16x2048x2048_S16x2048_d2 h_S_) shapeCasts_S16x2048_S16x2048x1

/-- The exponentials as a function of the arguments. -/
abbrev refE (A : FVec Ideal S2048x6272 .f32) (C : FVec Ideal S16x2048 .f32) : FVec Ideal S16x2048x2048 .f32 := refExp (refMasked A C)
/-- The gradient at the scores as a function of the arguments. -/
abbrev refS (A : FVec Ideal S2048x6272 .f32) (C : FVec Ideal S16x2048 .f32) (G : FVec Ideal S2048x2048 .f32) : FVec Ideal S16x2048x2048 .f32 :=
  refDs (refE A C) (refDp A G)

variable (m : (ℓ : Loc nD τ sig) → Buf (Elt Ideal) ℓ) (c : Dev nD)

/-- The three arguments. -/
abbrev refA : FVec Ideal S2048x6272 .f32 := m ((c.tc : Thread nD τ).loc main_arg0)
abbrev refC : FVec Ideal S16x2048 .f32 := m ((c.tc : Thread nD τ).loc main_arg1)
abbrev refDo : FVec Ideal S2048x2048 .f32 := m ((c.tc : Thread nD τ).loc main_arg2)

theorem out0_eq : Cert.ReferenceIdeal.Value.res_out0 m c = refDq (refS (refA m c) (refC m c) (refDo m c)) (refA m c) := by
  unfold Cert.ReferenceIdeal.Value.res_out0 Cert.ReferenceIdeal.Value.res_main_v85; rfl
theorem out1_eq : Cert.ReferenceIdeal.Value.res_out1 m c = refDk (refS (refA m c) (refC m c) (refDo m c)) (refA m c) := by
  unfold Cert.ReferenceIdeal.Value.res_out1 Cert.ReferenceIdeal.Value.res_main_v83; rfl
theorem out2_eq : Cert.ReferenceIdeal.Value.res_out2 m c = refDv (refProb (refE (refA m c) (refC m c))) (refDo m c) := by
  unfold Cert.ReferenceIdeal.Value.res_out2 Cert.ReferenceIdeal.Value.res_main_v82; rfl
theorem out3_eq : Cert.ReferenceIdeal.Value.res_out3 m c = refDck (refS (refA m c) (refC m c) (refDo m c)) := by
  unfold Cert.ReferenceIdeal.Value.res_out3 Cert.ReferenceIdeal.Value.res_main_v73; rfl
theorem out4_eq : Cert.ReferenceIdeal.Value.res_out4 m c = refDcq (refS (refA m c) (refC m c) (refDo m c)) := by
  unfold Cert.ReferenceIdeal.Value.res_out4 Cert.ReferenceIdeal.Value.res_main_v75; rfl

end Cert.Fox

end
-- ==== Proof.Fox.HostTerm.lean ====
/- What the host prepares for the attention's backward kernel, as compositions of vector terms: the forward pass'
   output, each row's log-sum and the gates. -/
module

public import proofs.«01_k».proof.Proof.Gen.KernelIdeal.Frame
public import proofs.«01_k».proof.Proof.Fox.RefTerm
public import Idealize.ShloMosaic.Lib.Claim

@[expose] public section

set_option maxRecDepth 16384

noncomputable section

namespace Cert.Fox

open Cert.KernelIdeal Cert.KernelIdeal.Gen Idealize.ShloMosaic Idealize.ShloMosaic.TcCoe Idealize.SL.Sem

/-- The forward pass' scores. -/
def hostScore (A : FVec Ideal S2048x6272 .f32) (C : FVec Ideal S16x2048 .f32) : FVec Ideal S16x2048x2048 .f32 :=
  subf (mulf (Host.dotGeneral dot_S2048x16x128_S2048x16x128_S16x2048x2048_2_2_0_0_1_1 none (refQ A) (refK A))
      (broadcastInDim S16x2048x2048 ![] bcast_S_S16x2048x2048 (constant S_ .f32 0x3DB504F3#32)))
    (broadcastInDim S16x2048x2048 ![0, 1, 2] bcast_S16x1x2048_S16x2048x2048_0_1_2 (broadcastInDim S16x1x2048 ![0, 2] bcast_S16x2048_S16x1x2048_0_2 C))
/-- The masked scores. -/
def hostMasked (A : FVec Ideal S2048x6272 .f32) (C : FVec Ideal S16x2048 .f32) : FVec Ideal S16x2048x2048 .f32 :=
  select refMask (hostScore A C) (broadcastInDim S16x2048x2048 ![] bcast_S_S16x2048x2048 (constant S_ .f32 0xFF800000#32))
/-- Each row's maximum. -/
def hostMax (X : FVec Ideal S16x2048x2048 .f32) : FVec Ideal S16x2048x1 .f32 :=
  broadcastInDim S16x2048x1 ![0, 1] bcast_S16x2048_S16x2048x1_0_1
    (Host.reduce FloatOps.maximumf X (constant S_ .f32 0xFF800000#32) reducesTo_S16x2048x2048_S16x2048_d2 h_S_)
/-- The exponentials of the masked scores less their row's maximum. -/
def hostExp (X : FVec Ideal S16x2048x2048 .f32) : FVec Ideal S16x2048x2048 .f32 :=
  Host.exp (subf X (broadcastInDim S16x2048x2048 ![0, 1, 2] bcast_S16x2048x1_S16x2048x2048_0_1_2 (hostMax X)))
/-- The output of the attention, from the probabilities. -/
def hostOut (P : FVec Ideal S16x2048x2048 .f32) (V : FVec Ideal S2048x16x128 .f32) : FVec Ideal S2048x2048 .bf16 :=
  truncf .bf16 (shapeCast S2048x2048 (transpose S2048x16x128 [2, 0, 1]
    (Host.dotGeneral dot_S2048x16x128_S16x2048x2048_S16x128x2048_0_2_2_1_1_0 none V P)
    transposes_S16x128x2048_S2048x16x128_2_0_1) shapeCasts_S2048x16x128_S2048x2048) bitsLt_bf16_f32
/-- Each row's log-sum. -/
def hostLse (X : FVec Ideal S16x2048x2048 .f32) : FVec Ideal S16x2048x1 .f32 :=
  addf (hostMax X) (Host.log (refSum (hostExp X)))

section Stages

variable (σ : Valuation τ sig (Elt Ideal))

/-- The first line of host operations leaves the scores, the mask, the mask's value and the values; -/
theorem stage0_score : StableHlo.after hostOps0 σ (Proc.tc.devRef main_v11) = hostScore (σ (Proc.tc.devRef main_arg0)) (σ (Proc.tc.devRef main_arg1)) := by
  after_results
  rfl
theorem stage0_mask : (broadcastInDim S16x2048x2048 ![1, 2] bcast_S2048x2048_S16x2048x2048_1_2 (StableHlo.after hostOps0 σ (Proc.tc.devRef main_v17)) : IVec S16x2048x2048 1) = refMask := by
  after_results
  rfl
theorem stage0_cst : StableHlo.after hostOps0 σ (Proc.tc.devRef main_cst_0) = (constant S_ .f32 0xFF800000#32 : FVec Ideal S_ .f32) := by
  after_results
theorem stage0_values : StableHlo.after hostOps0 σ (Proc.tc.devRef main_v5) = refV (σ (Proc.tc.devRef main_arg0)) := by
  after_results
  rfl
theorem stage0_gates : StableHlo.after hostOps0 σ (Proc.tc.devRef main_arg1) = σ (Proc.tc.devRef main_arg1) := by
  after_results
/-- the second the masked scores; -/
theorem stage1_masked : StableHlo.after hostOps0_1 σ (Proc.tc.devRef main_v18)
    = select (broadcastInDim S16x2048x2048 ![1, 2] bcast_S2048x2048_S16x2048x2048_1_2 (σ (Proc.tc.devRef main_v17) : IVec S2048x2048 1))
      (σ (Proc.tc.devRef main_v11) : FVec Ideal S16x2048x2048 .f32)
      (broadcastInDim S16x2048x2048 ![] bcast_S_S16x2048x2048 (σ (Proc.tc.devRef main_cst_0) : FVec Ideal S_ .f32)) := by
  after_results
  rfl
theorem stage1_values : StableHlo.after hostOps0_1 σ (Proc.tc.devRef main_v5) = σ (Proc.tc.devRef main_v5) := by
  after_results
theorem stage1_gates : StableHlo.after hostOps0_1 σ (Proc.tc.devRef main_arg1) = σ (Proc.tc.devRef main_arg1) := by
  after_results
/-- the third the output, the log-sums and the gates. -/
theorem stage2_out : StableHlo.after hostOps0_2 σ (Proc.tc.devRef main_v31)
    = hostOut (refProb (hostExp (σ (Proc.tc.devRef main_v18)))) (σ (Proc.tc.devRef main_v5)) := by
  after_results
  rfl
theorem stage2_lse : StableHlo.after hostOps0_2 σ (Proc.tc.devRef main_v33) = hostLse (σ (Proc.tc.devRef main_v18)) := by
  after_results
  rfl
theorem stage2_gates : StableHlo.after hostOps0_2 σ (Proc.tc.devRef main_v35)
    = shapeCast S16x1x2048 (σ (Proc.tc.devRef main_arg1) : FVec Ideal S16x2048 .f32) shapeCasts_S16x2048_S16x1x2048 := by
  after_results
  rfl

end Stages

variable (m : (ℓ : Loc nD τ sig) → Buf (Elt Ideal) ℓ) (c : Dev nD)

/-- The three arguments. -/
abbrev kA : FVec Ideal S2048x6272 .f32 := m ((c.tc : Thread nD τ).loc main_arg0)
abbrev kC : FVec Ideal S16x2048 .f32 := m ((c.tc : Thread nD τ).loc main_arg1)
abbrev kDo : FVec Ideal S2048x2048 .f32 := m ((c.tc : Thread nD τ).loc main_arg2)

theorem V_stages (b : Ref sig .tc) : V m c b
    = StableHlo.after hostOps0_2 (StableHlo.after hostOps0_1 (StableHlo.after hostOps0 (fun b => m (c, b)))) (Proc.tc.devRef b) := by
  rw [← StableHlo.after_append, ← StableHlo.after_append]
  rfl

theorem masked_eq : StableHlo.after hostOps0_1 (StableHlo.after hostOps0 (fun b => m (c, b))) (Proc.tc.devRef main_v18)
    = hostMasked (kA m c) (kC m c) := by
  rw [stage1_masked, stage0_mask, stage0_score, stage0_cst]
  rfl

/-- The buffers that the kernel reads beside the arguments. -/
theorem V_o : V m c main_v31 = hostOut (refProb (hostExp (hostMasked (kA m c) (kC m c)))) (refV (kA m c)) := by
  rw [V_stages, stage2_out, masked_eq, stage1_values, stage0_values]
theorem V_lse : V m c main_v33 = hostLse (hostMasked (kA m c) (kC m c)) := by
  rw [V_stages, stage2_lse, masked_eq]
theorem V_ck : V m c main_v35 = shapeCast S16x1x2048 (kC m c) shapeCasts_S16x2048_S16x1x2048 := by
  rw [V_stages, stage2_gates, stage1_gates, stage0_gates]

end Cert.Fox

end
-- ==== Proof.Fox.RefIdx.lean ====
/- The reference's terms read at an index. -/
module

public import proofs.«01_k».proof.Proof.Fox.RefTerm
public import proofs.«01_k».proof.Proof.Fox.RowMax

@[expose] public section

set_option maxRecDepth 16384

noncomputable section

namespace Cert.Fox

open Cert.ReferenceIdeal Cert.ReferenceIdeal.Gen Idealize.ShloMosaic Idealize.ShloMosaic.TcCoe Idealize.SL.Sem

variable (A : FVec Ideal S2048x6272 .f32) (C : FVec Ideal S16x2048 .f32) (G : FVec Ideal S2048x2048 .f32)
variable (X E D S P : FVec Ideal S16x2048x2048 .f32)

theorem refQ_at (i : Fin 2048) (h : Fin 16) (d : Fin 128) : refQ A (ix3 i h d) = A (ix2 i ⟨h * 128 + d, by omega⟩) := by
  pointwise [refQ]
theorem refK_at (i : Fin 2048) (h : Fin 16) (d : Fin 128) : refK A (ix3 i h d) = A (ix2 i ⟨2048 + (h * 128 + d), by omega⟩) := by
  pointwise [refK]
theorem refScore_at (h : Fin 16) (i j : Fin 2048) :
    refScore A C (ix3 h i j) = (∑ d : Fin 128, refQ A (ix3 i h d) * refK A (ix3 j h d)) * Ideal.ofBits .f32 0x3DB504F3#32
      + C (ix2 h i) - C (ix2 h j) := by
  pointwise [refScore]
theorem refMasked_at (h : Fin 16) (i j : Fin 2048) :
    refMasked A C (ix3 h i j) = if j ≤ i then refScore A C (ix3 h i j) else ⊥ := by
  pointwise [refMasked, refMask]
  rw [select_sle _ _ _ _ (by omega) (by omega), negInf]
  rfl
theorem maximumf_bot (Y : FVec Ideal S16x2048 .f32) (y : S16x2048.Idx) :
    maximumf (broadcastInDim S16x2048 ![] bcast_S_S16x2048 (constant S_ .f32 0xFF800000#32)) Y y = Y y := by
  refine (show _ = max (Ideal.ofBits .f32 0xFF800000#32) (Y y) from rfl).trans ?_
  rw [negInf]
  exact max_eq_right bot_le
theorem refMax_at (h : Fin 16) (i : Fin 2048) :
    refMax X (ix2 h i) = Finset.univ.fold max ⊥ fun j : Fin 2048 => X (ix3 h i j) := by
  unfold refMax
  rw [maximumf_bot, hostMax_at X _ (by decide)]
theorem refExp_at (h : Fin 16) (i j : Fin 2048) :
    refExp X (ix3 h i j) = Ideal.exp (X (ix3 h i j) - refMax X (ix2 h i)) := by
  pointwise [refExp]
theorem refSum_at (h : Fin 16) (i : Fin 2048) (z : Fin 1) :
    refSum E (ix3 h i z) = ∑ j : Fin 2048, E (ix3 h i j) := by
  pointwise [refSum]
theorem refProb_at (h : Fin 16) (i j : Fin 2048) :
    refProb E (ix3 h i j) = Ideal.div (E (ix3 h i j)) (refSum E (ix3 h i 0)) := by
  pointwise [refProb]
theorem refDp_at (h : Fin 16) (i j : Fin 2048) :
    refDp A G (ix3 h i j) = ∑ d : Fin 128, G (ix2 i ⟨h * 128 + d, by omega⟩) * A (ix2 j ⟨4096 + (h * 128 + d), by omega⟩) := by
  pointwise [refDp, refG, refV]
theorem refDl_at (h : Fin 16) (i : Fin 2048) :
    refDl E D (ix2 h i) = - ∑ k : Fin 2048, D (ix3 h i k) * Ideal.div 1 (refSum E (ix3 h i 0) * refSum E (ix3 h i 0)) * E (ix3 h i k) := by
  pointwise [refDl]
  exact Fin.sum_univ_one _
theorem refDs_at (h : Fin 16) (i j : Fin 2048) :
    refDs E D (ix3 h i j) = if j ≤ i then (Ideal.div (D (ix3 h i j)) (refSum E (ix3 h i 0)) + refDl E D (ix2 h i)) * E (ix3 h i j) else 0 := by
  pointwise [refDs, refMask]
  rw [select_sle _ _ _ _ (by omega) (by omega)]
  rfl
theorem refDq_at (i : Fin 2048) (n : Fin 2048) :
    refDq S A (ix2 i n) = ∑ j : Fin 2048, S (ix3 ⟨n / 128, by omega⟩ i j) * Ideal.ofBits .f32 0x3DB504F3#32 * A (ix2 j ⟨2048 + n, by omega⟩) := by
  pointwise [refDq, refDsS, refK]
theorem refDk_at (j : Fin 2048) (n : Fin 2048) :
    refDk S A (ix2 j n) = ∑ i : Fin 2048, S (ix3 ⟨n / 128, by omega⟩ i j) * Ideal.ofBits .f32 0x3DB504F3#32 * A (ix2 i ⟨n, by omega⟩) := by
  pointwise [refDk, refDsS, refQ]
theorem refDv_at (j : Fin 2048) (n : Fin 2048) :
    refDv P G (ix2 j n) = ∑ i : Fin 2048, G (ix2 i n) * P (ix3 ⟨n / 128, by omega⟩ i j) := by
  pointwise [refDv, refG]
theorem refDck_at (h : Fin 16) (z : Fin 1) (j : Fin 2048) :
    refDck S (ix3 h z j) = ∑ i : Fin 2048, - S (ix3 h i j) := by
  pointwise [refDck]
theorem refDcq_at (h : Fin 16) (i : Fin 2048) (z : Fin 1) :
    refDcq S (ix3 h i z) = ∑ j : Fin 2048, S (ix3 h i j) := by
  pointwise [refDcq]

end Cert.Fox

end
-- ==== Proof.Fox.RefValue.lean ====
/- What the reference computes, as real numbers: the attention's gradient. -/
module

public import proofs.«01_k».proof.Proof.Fox.RefIdx

@[expose] public section

set_option maxRecDepth 16384

noncomputable section

namespace Cert.Fox

open Cert.ReferenceIdeal Cert.ReferenceIdeal.Gen Idealize.ShloMosaic Idealize.ShloMosaic.TcCoe Idealize.SL.Sem

/-- The head and the lane of a column. -/
def hd (n : Fin 2048) : Fin 16 := ⟨n / 128, by omega⟩
def ln (n : Fin 2048) : Fin 128 := ⟨n % 128, by omega⟩

variable (A : FVec Ideal S2048x6272 .f32) (C : FVec Ideal S16x2048 .f32) (G : FVec Ideal S2048x2048 .f32)

/-- A head's queries, keys, values, arriving gradient and gates, as real numbers. -/
def hQ (h : Fin 16) (i : Fin 2048) (d : Fin 128) : ℝ := (A (ix2 i ⟨h * 128 + d, by omega⟩)).toReal
def hK (h : Fin 16) (i : Fin 2048) (d : Fin 128) : ℝ := (A (ix2 i ⟨2048 + (h * 128 + d), by omega⟩)).toReal
def hV (h : Fin 16) (i : Fin 2048) (d : Fin 128) : ℝ := (A (ix2 i ⟨4096 + (h * 128 + d), by omega⟩)).toReal
def hG (h : Fin 16) (i : Fin 2048) (d : Fin 128) : ℝ := (G (ix2 i ⟨h * 128 + d, by omega⟩)).toReal
def hC (h : Fin 16) (j : Fin 2048) : ℝ := (C (ix2 h j)).toReal

/-- A head's scores, with the query's gate. -/
def zed (h : Fin 16) (i j : Fin 2048) : ℝ := score (hQ A h) (hK A h) (hC C h) scale i j + hC C h i

variable {A C G} (hA : ∀ y, A y = ((A y).toReal : EReal)) (hC' : ∀ y, C y = ((C y).toReal : EReal)) (hG' : ∀ y, G y = ((G y).toReal : EReal))

include hA hC' in
theorem refScore_real (h : Fin 16) (i j : Fin 2048) : refScore A C (ix3 h i j) = (zed A C h i j : EReal) := by
  rw [refScore_at, scale_eq, hC' (ix2 h i), hC' (ix2 h j)]
  have e : (∑ d : Fin 128, refQ A (ix3 i h d) * refK A (ix3 j h d)) = ((∑ d, hQ A h i d * hK A h j d : ℝ) : EReal) := by
    rw [coe_sum]
    refine Finset.sum_congr rfl fun d _ => ?_
    rw [refQ_at, refK_at, hA, hA (ix2 j _), EReal.coe_mul]
    rfl
  rw [e, ← EReal.coe_mul, ← EReal.coe_add, ← EReal.coe_sub]
  congr 1
  unfold zed score hC
  ring

include hA hC' in
/-- A row's maximum is real. -/
theorem refMax_real (h : Fin 16) (i : Fin 2048) : ∃ a : ℝ, refMax (refMasked A C) (ix2 h i) = (a : EReal) := by
  obtain ⟨a, ha⟩ := rowMax_real (zed A C h i) i
  refine ⟨a, (refMax_at _ h i).trans (Eq.trans ?_ ha)⟩
  congr 1
  funext j
  rw [refMasked_at, refScore_real hA hC']

include hA hC' in
theorem refE_real (h : Fin 16) (i : Fin 2048) (a : ℝ) (ha : refMax (refMasked A C) (ix2 h i) = (a : EReal)) (j : Fin 2048) :
    refE A C (ix3 h i j) = ((weight (fun k => zed A C h i k + -a) i j : ℝ) : EReal) := by
  rw [refE, refExp_at, ha, refMasked_at, refScore_real hA hC', exp_masked]

include hA hC' in
theorem refSum_real (h : Fin 16) (i : Fin 2048) (a : ℝ) (ha : refMax (refMasked A C) (ix2 h i) = (a : EReal)) :
    refSum (refE A C) (ix3 h i 0) = ((∑ j, weight (fun k => zed A C h i k + -a) i j : ℝ) : EReal) := by
  rw [refSum_at, coe_sum]
  exact Finset.sum_congr rfl fun j _ => refE_real hA hC' h i a ha j

/-- The probability from the weights. -/
theorem prob_eq (h : Fin 16) (i j : Fin 2048) (a : ℝ) :
    weight (fun k => zed A C h i k + -a) i j / (∑ j, weight (fun k => zed A C h i k + -a) i j) = prob (hQ A h) (hK A h) (hC C h) scale i j := by
  show soft (fun k => zed A C h i k + -a) i j = soft _ i j
  rw [soft_add (zed A C h i)]
  exact soft_add (score (hQ A h) (hK A h) (hC C h) scale i) _ i j

include hA hC' in
theorem refProb_real (h : Fin 16) (i j : Fin 2048) :
    refProb (refE A C) (ix3 h i j) = (prob (hQ A h) (hK A h) (hC C h) scale i j : EReal) := by
  obtain ⟨a, ha⟩ := refMax_real hA hC' h i
  rw [refProb_at, refSum_real hA hC' h i a ha, refE_real hA hC' h i a ha, Ideal.div_coe (weight_sum_pos _ i).ne',
    ← EReal.coe_mul, mul_one_div, prob_eq]

include hA hG' in
theorem refDp_real (h : Fin 16) (i j : Fin 2048) : refDp A G (ix3 h i j) = (dprob (hV A h) (hG G h) i j : EReal) := by
  rw [refDp_at, dprob, coe_sum]
  refine Finset.sum_congr rfl fun d _ => ?_
  rw [hA, hG', EReal.coe_mul]
  rfl

include hA hC' hG' in
theorem refS_real (h : Fin 16) (i j : Fin 2048) :
    refS A C G (ix3 h i j) = (dscore (hQ A h) (hK A h) (hV A h) (hG G h) (hC C h) scale i j : EReal) := by
  obtain ⟨a, ha⟩ := refMax_real hA hC' h i
  rw [refS, refDs_at]
  have hL := (weight_sum_pos (fun k => zed A C h i k + -a) i).ne'
  split
  · rename_i hji
    rw [refDl_at, refSum_real hA hC' h i a ha, refE_real hA hC' h i a ha, refDp_real hA hG']
    generalize hLd : (∑ j, weight (fun k => zed A C h i k + -a) i j) = L at hL ⊢
    have e : (∑ k : Fin 2048, refDp A G (ix3 h i k) * Ideal.div 1 ((L : EReal) * (L : EReal)) * refE A C (ix3 h i k))
        = ((∑ k, dprob (hV A h) (hG G h) i k * (1 * (1 / (L * L))) * weight (fun k => zed A C h i k + -a) i k : ℝ) : EReal) := by
      rw [coe_sum]
      refine Finset.sum_congr rfl fun k _ => ?_
      rw [refDp_real hA hG', refE_real hA hC' h i a ha, ← EReal.coe_mul, Ideal.div_coe (mul_ne_zero hL hL), ← EReal.coe_one, ← EReal.coe_mul,
        ← EReal.coe_mul, ← EReal.coe_mul]
    rw [e, Ideal.div_coe hL, ← EReal.coe_mul, ← EReal.coe_neg, ← EReal.coe_add, ← EReal.coe_mul, softmax_grad _ _ _ hL]
    subst hLd
    simp only [prob_eq]
    rfl
  · rename_i hji
    rw [dscore, prob, soft_of_not _ _ _ hji, zero_mul, EReal.coe_zero]

/-! ## The results -/

theorem col_eq (n : Fin 2048) : (hd n : ℕ) * 128 + (ln n : ℕ) = n := by
  show (n : ℕ) / 128 * 128 + n % 128 = n
  omega

include hA hC' hG' in
theorem refDq_real (i n : Fin 2048) : refDq (refS A C G) A (ix2 i n)
    = (gradQ (hQ A (hd n)) (hK A (hd n)) (hV A (hd n)) (hG G (hd n)) (hC C (hd n)) scale i (ln n) : EReal) := by
  rw [refDq_at, gradQ, ← sum_scaled, coe_sum]
  refine Finset.sum_congr rfl fun j _ => ?_
  rw [EReal.coe_mul, EReal.coe_mul, scale_eq]
  congr 1
  · congr 1
    exact refS_real hA hC' hG' (hd n) i j
  · rw [hA]
    unfold hK
    congr 4
    exact Fin.ext (congrArg (2048 + ·) (col_eq n).symm)

include hA hC' hG' in
theorem refDk_real (j n : Fin 2048) : refDk (refS A C G) A (ix2 j n)
    = (gradK (hQ A (hd n)) (hK A (hd n)) (hV A (hd n)) (hG G (hd n)) (hC C (hd n)) scale j (ln n) : EReal) := by
  rw [refDk_at, gradK, ← sum_scaled, coe_sum]
  refine Finset.sum_congr rfl fun i _ => ?_
  rw [EReal.coe_mul, EReal.coe_mul, scale_eq]
  congr 1
  · congr 1
    exact refS_real hA hC' hG' (hd n) i j
  · rw [hA]
    unfold hQ
    congr 4
    exact Fin.ext (col_eq n).symm

include hA hC' hG' in
theorem refDv_real (j n : Fin 2048) : refDv (refProb (refE A C)) G (ix2 j n)
    = (gradV (hQ A (hd n)) (hK A (hd n)) (hG G (hd n)) (hC C (hd n)) scale j (ln n) : EReal) := by
  rw [refDv_at, gradV, coe_sum]
  refine Finset.sum_congr rfl fun i _ => ?_
  rw [EReal.coe_mul, mul_comm]
  congr 1
  · exact refProb_real hA hC' (hd n) i j
  · rw [hG']
    unfold hG
    congr 4
    exact Fin.ext (col_eq n).symm

include hA hC' hG' in
theorem refDck_real (h : Fin 16) (j : Fin 2048) : refDck (refS A C G) (ix3 h 0 j)
    = (gradCk (hQ A h) (hK A h) (hV A h) (hG G h) (hC C h) scale j : EReal) := by
  rw [refDck_at, gradCk, ← Finset.sum_neg_distrib, coe_sum]
  exact Finset.sum_congr rfl fun i _ => by rw [refS_real hA hC' hG', EReal.coe_neg]

include hA hC' hG' in
theorem refDcq_real (h : Fin 16) (i : Fin 2048) : refDcq (refS A C G) (ix3 h i 0)
    = (gradCq (hQ A h) (hK A h) (hV A h) (hG G h) (hC C h) scale i : EReal) := by
  rw [refDcq_at, gradCq, coe_sum]
  exact Finset.sum_congr rfl fun j _ => refS_real hA hC' hG' h i j

end Cert.Fox

end
-- ==== Proof.Fox.Host.lean ====
/- What the host prepares for the attention's backward kernel, entry by entry and as real numbers. -/
module

public import proofs.«01_k».proof.Proof.Fox.HostTerm
public import proofs.«01_k».proof.Proof.Fox.RefValue

@[expose] public section

set_option maxRecDepth 16384

noncomputable section

namespace Cert.Fox

open Cert.KernelIdeal Cert.KernelIdeal.Gen Idealize.ShloMosaic Idealize.ShloMosaic.TcCoe Idealize.SL.Sem

section Idx

variable (A : FVec Ideal S2048x6272 .f32) (C : FVec Ideal S16x2048 .f32) (X P : FVec Ideal S16x2048x2048 .f32)
variable (M L : FVec Ideal S16x2048x1 .f32) (Y : FVec Ideal S16x2048 .f32) (V : FVec Ideal S2048x16x128 .f32)

theorem refV_at (i : Fin 2048) (h : Fin 16) (d : Fin 128) : refV A (ix3 i h d) = A (ix2 i ⟨4096 + (h * 128 + d), by omega⟩) := by
  pointwise [refV]
theorem hostScore_at (h : Fin 16) (i j : Fin 2048) :
    hostScore A C (ix3 h i j) = (∑ d : Fin 128, refQ A (ix3 i h d) * refK A (ix3 j h d)) * Ideal.ofBits .f32 0x3DB504F3#32
      - C (ix2 h j) := by
  pointwise [hostScore]
theorem hostMasked_at (h : Fin 16) (i j : Fin 2048) :
    hostMasked A C (ix3 h i j) = if j ≤ i then hostScore A C (ix3 h i j) else ⊥ := by
  pointwise [hostMasked, refMask]
  rw [select_sle _ _ _ _ (by omega) (by omega), negInf]
  rfl
theorem column_at (h : Fin 16) (i : Fin 2048) :
    (broadcastInDim S16x2048x1 ![0, 1] bcast_S16x2048_S16x2048x1_0_1 Y : FVec Ideal S16x2048x1 .f32) (ix3 h i 0) = Y (ix2 h i) := by
  pointwise []
theorem hostMax_row (h : Fin 16) (i : Fin 2048) :
    hostMax X (ix3 h i 0) = Finset.univ.fold max ⊥ fun j : Fin 2048 => X (ix3 h i j) := by
  unfold hostMax
  rw [column_at, hostMax_at X _ (by decide)]
theorem exp_less_at (h : Fin 16) (i j : Fin 2048) :
    (Host.exp (subf X (broadcastInDim S16x2048x2048 ![0, 1, 2] bcast_S16x2048x1_S16x2048x2048_0_1_2 M)) : FVec Ideal S16x2048x2048 .f32) (ix3 h i j)
      = Ideal.exp (X (ix3 h i j) - M (ix3 h i 0)) := by
  pointwise []
theorem hostExp_at (h : Fin 16) (i j : Fin 2048) :
    hostExp X (ix3 h i j) = Ideal.exp (X (ix3 h i j) - hostMax X (ix3 h i 0)) := by
  unfold hostExp
  rw [exp_less_at]
theorem hostOut_at (i : Fin 2048) (h : Fin 16) (d : Fin 128) :
    hostOut P V (ix2 i ⟨h * 128 + d, by omega⟩) = ∑ k : Fin 2048, V (ix3 k h d) * P (ix3 h i k) := by
  pointwise [hostOut]
theorem add_log_at (h : Fin 16) (i : Fin 2048) :
    (addf M (Host.log L) : FVec Ideal S16x2048x1 .f32) (ix3 h i 0) = M (ix3 h i 0) + Ideal.log (L (ix3 h i 0)) := by
  pointwise []
theorem hostLse_at (h : Fin 16) (i : Fin 2048) :
    hostLse X (ix3 h i 0) = hostMax X (ix3 h i 0) + Ideal.log (refSum (hostExp X) (ix3 h i 0)) := by
  unfold hostLse
  rw [add_log_at]

end Idx

section Real

variable {A : FVec Ideal S2048x6272 .f32} {C : FVec Ideal S16x2048 .f32}
variable (hA : ∀ y, A y = ((A y).toReal : EReal)) (hC' : ∀ y, C y = ((C y).toReal : EReal))

include hA hC' in
theorem hostScore_real (h : Fin 16) (i j : Fin 2048) :
    hostScore A C (ix3 h i j) = (score (hQ A h) (hK A h) (hC C h) scale i j : EReal) := by
  rw [hostScore_at, scale_eq, hC' (ix2 h j)]
  have e : (∑ d : Fin 128, refQ A (ix3 i h d) * refK A (ix3 j h d)) = ((∑ d, hQ A h i d * hK A h j d : ℝ) : EReal) := by
    rw [coe_sum]
    refine Finset.sum_congr rfl fun d _ => ?_
    rw [refQ_at, refK_at, hA, hA (ix2 j _), EReal.coe_mul]
    rfl
  rw [e, ← EReal.coe_mul, ← EReal.coe_sub]
  rfl

include hA hC' in
/-- A row's maximum is real, -/
theorem hostMax_real (h : Fin 16) (i : Fin 2048) : ∃ a : ℝ, hostMax (hostMasked A C) (ix3 h i 0) = (a : EReal) := by
  obtain ⟨a, ha⟩ := rowMax_real (score (hQ A h) (hK A h) (hC C h) scale i) i
  refine ⟨a, (hostMax_row _ h i).trans (Eq.trans ?_ ha)⟩
  congr 1
  funext j
  rw [hostMasked_at, hostScore_real hA hC']

include hA hC' in
/-- the exponentials are the weights, -/
theorem hostExp_real (h : Fin 16) (i : Fin 2048) (a : ℝ) (ha : hostMax (hostMasked A C) (ix3 h i 0) = (a : EReal)) (j : Fin 2048) :
    hostExp (hostMasked A C) (ix3 h i j) = ((weight (fun k => score (hQ A h) (hK A h) (hC C h) scale i k + -a) i j : ℝ) : EReal) := by
  rw [hostExp_at, ha, hostMasked_at, hostScore_real hA hC', exp_masked]

include hA hC' in
theorem hostSum_real (h : Fin 16) (i : Fin 2048) (a : ℝ) (ha : hostMax (hostMasked A C) (ix3 h i 0) = (a : EReal)) :
    refSum (hostExp (hostMasked A C)) (ix3 h i 0)
      = ((∑ j, weight (fun k => score (hQ A h) (hK A h) (hC C h) scale i k + -a) i j : ℝ) : EReal) := by
  rw [refSum_at, coe_sum]
  exact Finset.sum_congr rfl fun j _ => hostExp_real hA hC' h i a ha j

include hA hC' in
/-- the quotients are the probabilities, -/
theorem hostProb_real (h : Fin 16) (i j : Fin 2048) :
    refProb (hostExp (hostMasked A C)) (ix3 h i j) = (prob (hQ A h) (hK A h) (hC C h) scale i j : EReal) := by
  obtain ⟨a, ha⟩ := hostMax_real hA hC' h i
  rw [refProb_at, hostSum_real hA hC' h i a ha, hostExp_real hA hC' h i a ha, Ideal.div_coe (weight_sum_pos _ i).ne',
    ← EReal.coe_mul, mul_one_div]
  exact congrArg (fun r : ℝ => (r : EReal)) (soft_add (score (hQ A h) (hK A h) (hC C h) scale i) _ i j)

include hA hC' in
/-- the output is their mean of the values, -/
theorem hostOut_real (h : Fin 16) (i : Fin 2048) (d : Fin 128) :
    hostOut (refProb (hostExp (hostMasked A C))) (refV A) (ix2 i ⟨h * 128 + d, by omega⟩)
      = ((∑ k, prob (hQ A h) (hK A h) (hC C h) scale i k * hV A h k d : ℝ) : EReal) := by
  rw [hostOut_at, coe_sum]
  refine Finset.sum_congr rfl fun k _ => ?_
  rw [hostProb_real hA hC', refV_at, hA, EReal.coe_mul, mul_comm]
  rfl

include hA hC' in
/-- and the log-sum takes a score to its probability. -/
theorem exp_lse (h : Fin 16) (i j : Fin 2048) :
    Ideal.exp ((if j ≤ i then ((score (hQ A h) (hK A h) (hC C h) scale i j : ℝ) : EReal) else ⊥) - hostLse (hostMasked A C) (ix3 h i 0))
      = (prob (hQ A h) (hK A h) (hC C h) scale i j : EReal) := by
  obtain ⟨a, ha⟩ := hostMax_real hA hC' h i
  have hp := weight_sum_pos (fun k => score (hQ A h) (hK A h) (hC C h) scale i k + -a) i
  rw [hostLse_at, hostSum_real hA hC' h i a ha, ha, Ideal.log_coe]
  split
  · rename_i hji
    rw [if_neg hp.not_ge, ← EReal.coe_add, ← EReal.coe_sub, Ideal.exp_coe, soft_eq_exp _ a i j hji]
    rfl
  · rename_i hji
    rw [EReal.bot_sub, Ideal.exp_bot, prob, soft_of_not _ _ _ hji, EReal.coe_zero]

end Real

end Cert.Fox

end
-- ==== Proof.Fox.Point.lean ====
/- A grid point's blocks as pieces of the arguments, and its probabilities and gradients at the scores as real numbers. -/
module

public import proofs.«01_k».proof.Proof.Fox.BlockOut
public import proofs.«01_k».proof.Proof.Fox.Host
public import Idealize.ShloMosaic.Lib.Pipeline.ValueKit

@[expose] public section

set_option maxRecDepth 16384

noncomputable section

namespace Cert.Fox

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The windows' block indices: the point is a head and a group of its queries. -/
theorem idx0 : ∀ t : Fin cfg0.N, win0_0.index t = ![t.val % 4, t.val / 4] := (by decide +kernel : ∀ t : Fin grid0.N, win0_0.index t = ![t.val % 4, t.val / 4])
theorem idx1 : ∀ t : Fin cfg0.N, win0_1.index t = ![0, 16 + t.val / 4] := (by decide +kernel : ∀ t : Fin grid0.N, win0_1.index t = ![0, 16 + t.val / 4])
theorem idx2 : ∀ t : Fin cfg0.N, win0_2.index t = ![0, 32 + t.val / 4] := (by decide +kernel : ∀ t : Fin grid0.N, win0_2.index t = ![0, 32 + t.val / 4])
theorem idx3 : ∀ t : Fin cfg0.N, win0_3.index t = ![t.val % 4, t.val / 4] := (by decide +kernel : ∀ t : Fin grid0.N, win0_3.index t = ![t.val % 4, t.val / 4])
theorem idx4 : ∀ t : Fin cfg0.N, win0_4.index t = ![t.val % 4, t.val / 4] := (by decide +kernel : ∀ t : Fin grid0.N, win0_4.index t = ![t.val % 4, t.val / 4])
theorem idx5 : ∀ t : Fin cfg0.N, win0_5.index t = ![t.val / 4, 0, 0] := (by decide +kernel : ∀ t : Fin grid0.N, win0_5.index t = ![t.val / 4, 0, 0])
theorem idx6 : ∀ t : Fin cfg0.N, win0_6.index t = ![t.val / 4, t.val % 4, 0] := (by decide +kernel : ∀ t : Fin grid0.N, win0_6.index t = ![t.val / 4, t.val % 4, 0])
theorem idx7 : ∀ t : Fin cfg0.N, win0_7.index t = ![t.val % 4, t.val / 4] := (by decide +kernel : ∀ t : Fin grid0.N, win0_7.index t = ![t.val % 4, t.val / 4])
theorem idx8 : ∀ t : Fin cfg0.N, win0_8.index t = ![0, t.val / 4] := (by decide +kernel : ∀ t : Fin grid0.N, win0_8.index t = ![0, t.val / 4])
theorem idx9 : ∀ t : Fin cfg0.N, win0_9.index t = ![0, t.val / 4] := (by decide +kernel : ∀ t : Fin grid0.N, win0_9.index t = ![0, t.val / 4])
theorem idx10 : ∀ t : Fin cfg0.N, win0_10.index t = ![t.val / 4, 0, 0] := (by decide +kernel : ∀ t : Fin grid0.N, win0_10.index t = ![t.val / 4, 0, 0])
theorem idx11 : ∀ t : Fin cfg0.N, win0_11.index t = ![t.val / 4, t.val % 4, 0] := (by decide +kernel : ∀ t : Fin grid0.N, win0_11.index t = ![t.val / 4, t.val % 4, 0])

theorem pt_lt (t : Fin cfg0.N) : t.val < 64 := t.isLt

/-- The point's head, -/
def ptH (t : Fin cfg0.N) : Fin 16 := ⟨t.val / 4, by have := pt_lt t; omega⟩
/-- and the position of its query `r`. -/
def ptI (t : Fin cfg0.N) (r : Fin 512) : Fin 2048 := ⟨t.val % 4 * 512 + r, by omega⟩

theorem ptH_val (t : Fin cfg0.N) : (ptH t : ℕ) = t.val / 4 := rfl
theorem ptI_val (t : Fin cfg0.N) (r : Fin 512) : (ptI t r : ℕ) = t.val % 4 * 512 + r := rfl

/-- The blocks' entries: the queries', keys' and values', -/
theorem blk_q (r : Fin 512) (d : Fin 128) : (iblk m c 0 t : FVec Ideal S512x128 .f32) (ix2 r d) = kA m c (ix2 (ptI t r) ⟨ptH t * 128 + d, by omega⟩) := by
  blk_ext [iblk, idx0 t, ptH_val, ptI_val]
theorem blk_k (j : Fin 2048) (d : Fin 128) : (iblk m c 1 t : FVec Ideal S2048x128 .f32) (ix2 j d) = kA m c (ix2 j ⟨2048 + (ptH t * 128 + d), by omega⟩) := by
  blk_ext [iblk, idx1 t, ptH_val, ptI_val]
theorem blk_v (j : Fin 2048) (d : Fin 128) : (iblk m c 2 t : FVec Ideal S2048x128 .f32) (ix2 j d) = kA m c (ix2 j ⟨4096 + (ptH t * 128 + d), by omega⟩) := by
  blk_ext [iblk, idx2 t, ptH_val, ptI_val]
/-- the arriving gradient's, -/
theorem blk_g (r : Fin 512) (d : Fin 128) : (iblk m c 3 t : FVec Ideal S512x128 .f32) (ix2 r d) = kDo m c (ix2 (ptI t r) ⟨ptH t * 128 + d, by omega⟩) := by
  blk_ext [iblk, idx3 t, ptH_val, ptI_val]
/-- the output's, the gates' and the log-sums', of whatever these arrays hold. -/
theorem read_o (X : FVec Ideal S2048x2048 .bf16) (r : Fin 512) (d : Fin 128) :
    (((cfg0.win 4).blk t).view.read (Elt Ideal) X : FVec Ideal S512x128 .bf16) (ix2 r d) = X (ix2 (ptI t r) ⟨ptH t * 128 + d, by omega⟩) := by
  blk_ext [idx4 t, ptH_val, ptI_val]
theorem read_c (X : FVec Ideal S16x1x2048 .f32) (j : Fin 2048) :
    (((cfg0.win 5).blk t).view.read (Elt Ideal) X : FVec Ideal S1x1x2048 .f32) (ix3 0 0 j) = X (ix3 (ptH t) 0 j) := by
  blk_ext [idx5 t, ptH_val, ptI_val]
theorem read_l (X : FVec Ideal S16x2048x1 .f32) (r : Fin 512) :
    (((cfg0.win 6).blk t).view.read (Elt Ideal) X : FVec Ideal S1x512x1 .f32) (ix3 0 r 0) = X (ix3 (ptH t) (ptI t r) 0) := by
  blk_ext [idx6 t, ptH_val, ptI_val]
theorem blk_o (r : Fin 512) (d : Fin 128) : (iblk m c 4 t : FVec Ideal S512x128 .bf16) (ix2 r d)
    = hostOut (refProb (hostExp (hostMasked (kA m c) (kC m c)))) (refV (kA m c)) (ix2 (ptI t r) ⟨ptH t * 128 + d, by omega⟩) := by
  unfold iblk
  rw [V_o]
  exact read_o t _ r d
theorem blk_c (j : Fin 2048) : (iblk m c 5 t : FVec Ideal S1x1x2048 .f32) (ix3 0 0 j)
    = (shapeCast S16x1x2048 (kC m c) shapeCasts_S16x2048_S16x1x2048 : FVec Ideal S16x1x2048 .f32) (ix3 (ptH t) 0 j) := by
  unfold iblk
  rw [V_ck]
  exact read_c t _ j
theorem blk_l (r : Fin 512) : (iblk m c 6 t : FVec Ideal S1x512x1 .f32) (ix3 0 r 0) = hostLse (hostMasked (kA m c) (kC m c)) (ix3 (ptH t) (ptI t r) 0) := by
  unfold iblk
  rw [V_lse]
  exact read_l t _ r

end Cert.Fox

end
-- ==== Proof.Fox.PointReal.lean ====
/- A grid point's probabilities and gradients at the scores, as real numbers. -/
module

public import proofs.«01_k».proof.Proof.Fox.Point

@[expose] public section

set_option maxRecDepth 16384

noncomputable section

namespace Cert.Fox

open Cert.KernelIdeal Cert.KernelIdeal.Gen Idealize.ShloMosaic Idealize.ShloMosaic.TcCoe Idealize.SL.Sem

section Block

variable (i : ℕ) (x0 : FVec Ideal S512x128 .f32) (x1 x2 : FVec Ideal S2048x128 .f32) (x3 : FVec Ideal S512x128 .f32) (x4 : FVec Ideal S512x128 .bf16)
  (x5 : FVec Ideal S1x1x2048 .f32) (x6 : FVec Ideal S1x512x1 .f32) (r : Fin 512) (j : Fin 2048)

/-- A block's probability, where its entries are real numbers; -/
theorem blockP_real (q k : Fin 128 → ℝ) (g : ℝ) (L : EReal) (hq : ∀ d, x0 (ix2 r d) = (q d : EReal)) (hk : ∀ d, x1 (ix2 j d) = (k d : EReal))
    (hc : x5 (ix3 0 0 j) = (g : EReal)) (hl : x6 (ix3 0 r 0) = L) :
    blockP i x0 x1 x5 x6 r j
      = Ideal.exp ((if (j : ℕ) ≤ 512 * i + r then (((∑ d, q d * k d) * scale - g : ℝ) : EReal) else ⊥) - L) := by
  have e : (∑ d : Fin 128, x0 (ix2 r d) * Ideal.ofBits .f32 0x3DB504F3#32 * x1 (ix2 j d)) = (((∑ d, q d * k d) * scale : ℝ) : EReal) := by
    rw [← sum_scaled, coe_sum]
    exact Finset.sum_congr rfl fun d _ => by rw [hq, hk, scale_eq, EReal.coe_mul, EReal.coe_mul]
  rw [blockP, e, hc, hl, EReal.coe_sub]

/-- the gradient there, less the row's product of the output with its gradient. -/
theorem blockD_real (v g o : Fin 128 → ℝ) (hv : ∀ d, x2 (ix2 j d) = (v d : EReal)) (hg : ∀ d, x3 (ix2 r d) = (g d : EReal))
    (ho : ∀ d, x4 (ix2 r d) = (o d : EReal)) : blockD x2 x3 x4 r j = (((∑ d, g d * v d) - ∑ d, g d * o d : ℝ) : EReal) := by
  rw [blockD, EReal.coe_sub, coe_sum, coe_sum]
  refine congrArg₂ (· - ·) ?_ ?_
  · exact Finset.sum_congr rfl fun d _ => by rw [hv, hg, EReal.coe_mul]
  · exact Finset.sum_congr rfl fun d _ => by rw [ho, hg, EReal.coe_mul]

end Block

theorem gate_at (C : FVec Ideal S16x2048 .f32) (h : Fin 16) (j : Fin 2048) :
    (shapeCast S16x1x2048 C shapeCasts_S16x2048_S16x1x2048 : FVec Ideal S16x1x2048 .f32) (ix3 h 0 j) = C (ix2 h j) := by
  pointwise []

variable {m : (ℓ : Loc nD τ sig) → Buf (Elt Ideal) ℓ} {c : Dev nD} (t : Fin cfg0.N)
variable (hA : ∀ y, kA m c y = ((kA m c y).toReal : EReal)) (hC' : ∀ y, kC m c y = ((kC m c y).toReal : EReal))
  (hG' : ∀ y, kDo m c y = ((kDo m c y).toReal : EReal))

include hA hC' in
/-- A point's probabilities are the attention's, -/
theorem ptP_real (r : Fin 512) (j : Fin 2048) :
    ptP m c t r j = (prob (hQ (kA m c) (ptH t)) (hK (kA m c) (ptH t)) (hC (kC m c) (ptH t)) scale (ptI t r) j : EReal) := by
  have e2 : (j : ℕ) ≤ 512 * (grid0.coords t 1 : ℕ) + r ↔ j ≤ ptI t r := by
    rw [coord_val, Fin.le_def, ptI_val]
    omega
  refine (blockP_real _ _ _ _ _ r j (hQ (kA m c) (ptH t) (ptI t r)) (hK (kA m c) (ptH t) j) (hC (kC m c) (ptH t) j) _
    (fun d => (blk_q m c t r d).trans (hA _)) (fun d => (blk_k m c t j d).trans (hA _))
    ((blk_c m c t j).trans ((gate_at _ _ _).trans (hC' _))) (blk_l m c t r)).trans ?_
  refine Eq.trans ?_ (exp_lse hA hC' (ptH t) (ptI t r) j)
  exact congrArg (fun x => Ideal.exp (x - _)) (if_congr e2 rfl rfl)

include hA hC' hG' in
/-- and so are its gradients at the scores. -/
theorem ptS_real (r : Fin 512) (j : Fin 2048) :
    ptS m c t r j = (dscore (hQ (kA m c) (ptH t)) (hK (kA m c) (ptH t)) (hV (kA m c) (ptH t)) (hG (kDo m c) (ptH t)) (hC (kC m c) (ptH t)) scale (ptI t r) j : EReal) := by
  have e := blockD_real _ _ _ r j (hV (kA m c) (ptH t) j) (hG (kDo m c) (ptH t) (ptI t r)) _
    (fun d => (blk_v m c t j d).trans (hA _)) (fun d => (blk_g m c t r d).trans (hG' _))
    (fun d => (blk_o m c t r d).trans (hostOut_real hA hC' (ptH t) (ptI t r) d))
  refine (congrArg₂ (· * ·) (ptP_real t hA hC' r j) e).trans ((EReal.coe_mul _ _).symm.trans (congrArg (fun r : ℝ => (r : EReal)) ?_))
  rw [delta_eq]
  rfl

end Cert.Fox

end
-- ==== Proof.Fox.Sums.lean ====
/- What a grid point leaves in its output buffers, as the attention's gradients: the queries' gradient at every point, the
   keys' and the values' at a head's last point. -/
module

public import proofs.«01_k».proof.Proof.Fox.PointReal

@[expose] public section

set_option maxRecDepth 16384

noncomputable section

namespace Cert.Fox

open Cert.KernelIdeal Cert.KernelIdeal.Gen Idealize.ShloMosaic Idealize.ShloMosaic.TcCoe Idealize.SL.Sem

section Cases

variable (m : (ℓ : Loc nD τ sig) → Buf (Elt Ideal) ℓ) (c : Dev nD) (t : Fin cfg0.N)

/-- A point belongs to one of a head's four groups of queries. -/
theorem by_group {P : Prop}
    (hA : t.val % 4 = 0 → ¬1 ≤ t.val % 4 → ¬2 ≤ t.val % 4 → ¬t.val % 4 = 3 → P)
    (hB : ¬t.val % 4 = 0 → 1 ≤ t.val % 4 → ¬2 ≤ t.val % 4 → ¬t.val % 4 = 3 → P)
    (hC : ¬t.val % 4 = 0 → 1 ≤ t.val % 4 → 2 ≤ t.val % 4 → ¬t.val % 4 = 3 → P)
    (hD : ¬t.val % 4 = 0 → 1 ≤ t.val % 4 → 2 ≤ t.val % 4 → t.val % 4 = 3 → P) : P := by
  by_cases h0 : t.val % 4 = 0
  · exact hA h0 (by omega) (by omega) (by omega)
  by_cases h2 : 2 ≤ t.val % 4
  · by_cases h3 : t.val % 4 = 3
    · exact hD h0 (by omega) h2 h3
    · exact hC h0 (by omega) h2 h3
  · exact hB h0 (by omega) h2 (by omega)

theorem dq_pt (r : Fin 512) (d : Fin 128) :
    (outsAt0 m c t.val t.isLt).1 (ix2 r d) = (∑ j : Fin 2048, ptS m c t r j * ptK m c t (ix2 j d)) * Ideal.ofBits .f32 0x3DB504F3#32 :=
  by_group t (dq_A m c t r d) (dq_B m c t r d) (dq_C m c t r d) (dq_D m c t r d)
theorem dcq_pt (r : Fin 512) : (outsAt0 m c t.val t.isLt).2.2.2.2 (ix3 0 r 0) = ∑ j : Fin 2048, ptS m c t r j :=
  by_group t (dcq_A m c t r) (dcq_B m c t r) (dcq_C m c t r) (dcq_D m c t r)

/-- A head's first group starts the sums and each later one adds to them. -/
theorem dk_first (h : t.val % 4 = 0) (j : Fin 2048) (d : Fin 128) : (outsAt0 m c t.val t.isLt).2.1 (ix2 j d) = addK m c t j d :=
  dk_A m c t j d h (by omega) (by omega) (by omega)
theorem dk_next (h : ¬t.val % 4 = 0) (j : Fin 2048) (d : Fin 128) : (outsAt0 m c t.val t.isLt).2.1 (ix2 j d)
    = (outsAt0 m c (t.val - 1) (by have := t.isLt; omega)).2.1 (ix2 j d) + addK m c t j d :=
  by_group t (fun h' => absurd h' h) (dk_B m c t j d) (dk_C m c t j d) (dk_D m c t j d)
theorem dv_first (h : t.val % 4 = 0) (j : Fin 2048) (d : Fin 128) : (outsAt0 m c t.val t.isLt).2.2.1 (ix2 j d) = addV m c t j d :=
  dv_A m c t j d h (by omega) (by omega) (by omega)
theorem dv_next (h : ¬t.val % 4 = 0) (j : Fin 2048) (d : Fin 128) : (outsAt0 m c t.val t.isLt).2.2.1 (ix2 j d)
    = (outsAt0 m c (t.val - 1) (by have := t.isLt; omega)).2.2.1 (ix2 j d) + addV m c t j d :=
  by_group t (fun h' => absurd h' h) (dv_B m c t j d) (dv_C m c t j d) (dv_D m c t j d)
theorem dck_first (h : t.val % 4 = 0) (j : Fin 2048) : (outsAt0 m c t.val t.isLt).2.2.2.1 (ix3 0 0 j) = addC m c t j :=
  dck_A m c t j h (by omega) (by omega) (by omega)
theorem dck_next (h : ¬t.val % 4 = 0) (j : Fin 2048) : (outsAt0 m c t.val t.isLt).2.2.2.1 (ix3 0 0 j)
    = (outsAt0 m c (t.val - 1) (by have := t.isLt; omega)).2.2.2.1 (ix3 0 0 j) + addC m c t j :=
  by_group t (fun h' => absurd h' h) (dck_B m c t j) (dck_C m c t j) (dck_D m c t j)

/-- The points of a head. -/
def runPt (h : t.val % 4 = 3) (s : Fin 4) : Fin cfg0.N := ⟨4 * (t.val / 4) + s.val, Pipeline.run_point_lt_of_flush (J := 4) t h s⟩

theorem dk_sum (h : t.val % 4 = 3) (j : Fin 2048) (d : Fin 128) :
    (outsAt0 m c t.val t.isLt).2.1 (ix2 j d) = ∑ s : Fin 4, addK m c (runPt t h s) j d :=
  (Pipeline.eq_sum_fin_of_reset_step_apply_of_flush (N := cfg0.N) (M := EReal) (ι := Unit) (fun n h _ => (outsAt0 m c n h).2.1 (ix2 j d)) 4 (fun _ => 0)
    (fun t _ => addK m c t j d) (fun t h _ => (dk_first m c t h j d).trans (zero_add _).symm) (fun t h _ => dk_next m c t h j d) t h ()).trans (zero_add _)
theorem dv_sum (h : t.val % 4 = 3) (j : Fin 2048) (d : Fin 128) :
    (outsAt0 m c t.val t.isLt).2.2.1 (ix2 j d) = ∑ s : Fin 4, addV m c (runPt t h s) j d :=
  (Pipeline.eq_sum_fin_of_reset_step_apply_of_flush (N := cfg0.N) (M := EReal) (ι := Unit) (fun n h _ => (outsAt0 m c n h).2.2.1 (ix2 j d)) 4 (fun _ => 0)
    (fun t _ => addV m c t j d) (fun t h _ => (dv_first m c t h j d).trans (zero_add _).symm) (fun t h _ => dv_next m c t h j d) t h ()).trans (zero_add _)
theorem dck_sum (h : t.val % 4 = 3) (j : Fin 2048) :
    (outsAt0 m c t.val t.isLt).2.2.2.1 (ix3 0 0 j) = ∑ s : Fin 4, addC m c (runPt t h s) j :=
  (Pipeline.eq_sum_fin_of_reset_step_apply_of_flush (N := cfg0.N) (M := EReal) (ι := Unit) (fun n h _ => (outsAt0 m c n h).2.2.2.1 (ix3 0 0 j)) 4 (fun _ => 0)
    (fun t _ => addC m c t j) (fun t h _ => (dck_first m c t h j).trans (zero_add _).symm) (fun t h _ => dck_next m c t h j) t h ()).trans (zero_add _)

theorem ptH_run (h : t.val % 4 = 3) (s : Fin 4) : ptH (runPt t h s) = ptH t :=
  Fin.ext (by show (4 * (t.val / 4) + s.val) / 4 = t.val / 4; omega)

/-- The sum over a head's queries, group by group. -/
theorem sum_run (h : t.val % 4 = 3) (f : Fin 2048 → ℝ) : ∑ s : Fin 4, ∑ r : Fin 512, f (ptI (runPt t h s) r) = ∑ i, f i :=
  Fin.sum_mul_add_congr fun s r hl => congrArg f (Fin.ext (by
    show (4 * (t.val / 4) + s.val) % 4 * 512 + (r : ℕ) = s.val * 512 + r
    omega))

end Cases

section Real

variable {m : (ℓ : Loc nD τ sig) → Buf (Elt Ideal) ℓ} {c : Dev nD} (t : Fin cfg0.N)
variable (hA : ∀ y, kA m c y = ((kA m c y).toReal : EReal)) (hC' : ∀ y, kC m c y = ((kC m c y).toReal : EReal))
  (hG' : ∀ y, kDo m c y = ((kDo m c y).toReal : EReal))

include hA hC' hG' in
/-- The queries' gradient at a point, -/
theorem dq_real (r : Fin 512) (d : Fin 128) : (outsAt0 m c t.val t.isLt).1 (ix2 r d)
    = (gradQ (hQ (kA m c) (ptH t)) (hK (kA m c) (ptH t)) (hV (kA m c) (ptH t)) (hG (kDo m c) (ptH t)) (hC (kC m c) (ptH t)) scale (ptI t r) d : EReal) := by
  rw [dq_pt, gradQ, EReal.coe_mul, coe_sum, scale_eq]
  refine congrArg (· * _) (Finset.sum_congr rfl fun j _ => ?_)
  rw [EReal.coe_mul]
  exact congrArg₂ (· * ·) (ptS_real t hA hC' hG' r j) ((blk_k m c t j d).trans (hA _))

include hA hC' hG' in
theorem dcq_real (r : Fin 512) : (outsAt0 m c t.val t.isLt).2.2.2.2 (ix3 0 r 0)
    = (gradCq (hQ (kA m c) (ptH t)) (hK (kA m c) (ptH t)) (hV (kA m c) (ptH t)) (hG (kDo m c) (ptH t)) (hC (kC m c) (ptH t)) scale (ptI t r) : EReal) := by
  rw [dcq_pt, gradCq, coe_sum]
  exact Finset.sum_congr rfl fun j _ => ptS_real t hA hC' hG' r j

include hA hC' hG' in
/-- and the keys', the values' and the gates' at a head's last point. -/
theorem dk_real (h : t.val % 4 = 3) (j : Fin 2048) (d : Fin 128) : (outsAt0 m c t.val t.isLt).2.1 (ix2 j d)
    = (gradK (hQ (kA m c) (ptH t)) (hK (kA m c) (ptH t)) (hV (kA m c) (ptH t)) (hG (kDo m c) (ptH t)) (hC (kC m c) (ptH t)) scale j d : EReal) := by
  rw [dk_sum m c t h, gradK, ← sum_scaled, ← sum_run t h, coe_sum]
  refine Finset.sum_congr rfl fun s _ => ?_
  rw [addK, coe_sum]
  refine Finset.sum_congr rfl fun r _ => ?_
  rw [mul_right_comm, mul_assoc, EReal.coe_mul, EReal.coe_mul, scale_eq, ← ptH_run t h s]
  exact congrArg₂ (· * ·) (ptS_real _ hA hC' hG' r j) (congrArg (· * _) ((blk_q m c _ r d).trans (hA _)))

include hA hC' hG' in
theorem dv_real (h : t.val % 4 = 3) (j : Fin 2048) (d : Fin 128) : (outsAt0 m c t.val t.isLt).2.2.1 (ix2 j d)
    = (gradV (hQ (kA m c) (ptH t)) (hK (kA m c) (ptH t)) (hG (kDo m c) (ptH t)) (hC (kC m c) (ptH t)) scale j d : EReal) := by
  rw [dv_sum m c t h, gradV, ← sum_run t h, coe_sum]
  refine Finset.sum_congr rfl fun s _ => ?_
  rw [addV, coe_sum]
  refine Finset.sum_congr rfl fun r _ => ?_
  rw [EReal.coe_mul, ← ptH_run t h s]
  exact congrArg₂ (· * ·) (ptP_real _ hA hC' r j) ((blk_g m c _ r d).trans (hG' _))

include hA hC' hG' in
theorem dck_real (h : t.val % 4 = 3) (j : Fin 2048) : (outsAt0 m c t.val t.isLt).2.2.2.1 (ix3 0 0 j)
    = (gradCk (hQ (kA m c) (ptH t)) (hK (kA m c) (ptH t)) (hV (kA m c) (ptH t)) (hG (kDo m c) (ptH t)) (hC (kC m c) (ptH t)) scale j : EReal) := by
  rw [dck_sum m c t h, gradCk, ← sum_run t h, ← Finset.sum_neg_distrib, coe_sum]
  refine Finset.sum_congr rfl fun s _ => ?_
  rw [addC, EReal.coe_neg, coe_sum, ← ptH_run t h s]
  exact congrArg _ (Finset.sum_congr rfl fun r _ => ptS_real _ hA hC' hG' r j)

end Real

end Cert.Fox

end
-- ==== Proof.Fox.Arrays.lean ====
/- What the kernel's arrays hold at the end: the reference's gradients. -/
module

public import proofs.«01_k».proof.Proof.Fox.Sums

@[expose] public section

set_option maxRecDepth 16384

noncomputable section

namespace Cert.Fox

open Cert.KernelIdeal Cert.KernelIdeal.Gen Idealize.ShloMosaic Idealize.ShloMosaic.TcCoe Idealize.SL.Sem

/-- A column's head and lane. -/
theorem hd_col (h : Fin 16) (d : Fin 128) (p : (h : ℕ) * 128 + d < 2048) : hd ⟨h * 128 + d, p⟩ = h := Fin.ext (by show ((h : ℕ) * 128 + d) / 128 = h; omega)
theorem ln_col (h : Fin 16) (d : Fin 128) (p : (h : ℕ) * 128 + d < 2048) : ln ⟨h * 128 + d, p⟩ = d := Fin.ext (by show ((h : ℕ) * 128 + d) % 128 = d; omega)

section Places

variable (t : Fin cfg0.N)

theorem col_lt (t : Fin cfg0.N) (d : Fin 128) : (ptH t : ℕ) * 128 + d < 2048 := by omega

/-- Where a point's output blocks lie in their arrays. -/
theorem place7 (r : Fin 512) (d : Fin 128) : ((win0_7.blk t).view.emb (ix2 r d) : S2048x2048.Idx) = ix2 (ptI t r) ⟨ptH t * 128 + d, col_lt t d⟩ := by
  blk_ext [idx7 t, ptH_val, ptI_val]
theorem place8 (j : Fin 2048) (d : Fin 128) : ((win0_8.blk t).view.emb (ix2 j d) : S2048x2048.Idx) = ix2 j ⟨ptH t * 128 + d, col_lt t d⟩ := by
  blk_ext [idx8 t, ptH_val, ptI_val]
theorem place9 (j : Fin 2048) (d : Fin 128) : ((win0_9.blk t).view.emb (ix2 j d) : S2048x2048.Idx) = ix2 j ⟨ptH t * 128 + d, col_lt t d⟩ := by
  blk_ext [idx9 t, ptH_val, ptI_val]
theorem place10 (j : Fin 2048) : ((win0_10.blk t).view.emb (ix3 0 0 j) : S16x1x2048.Idx) = ix3 (ptH t) 0 j := by
  blk_ext [idx10 t, ptH_val, ptI_val]
theorem place11 (r : Fin 512) : ((win0_11.blk t).view.emb (ix3 0 r 0) : S16x2048x1.Idx) = ix3 (ptH t) (ptI t r) 0 := by
  blk_ext [idx11 t, ptH_val, ptI_val]

end Places

theorem exists_ix2 {n0 n1 : ℕ} (y : (⟨2, ![n0, n1]⟩ : Shape).Idx) : ∃ (a : Fin n0) (b : Fin n1), y = ix2 a b := ⟨y 0, y 1, eq_ix2 y⟩
theorem row_idx (y : S1x1x2048.Idx) : ∃ j : Fin 2048, y = ix3 0 0 j :=
  ⟨y 2, (eq_ix3 y).trans (by
    rw [show y 0 = (0 : Fin 1) from Subsingleton.elim (α := Fin 1) _ _, show y 1 = (0 : Fin 1) from Subsingleton.elim (α := Fin 1) _ _])⟩
theorem column_idx (y : S1x512x1.Idx) : ∃ r : Fin 512, y = ix3 0 r 0 :=
  ⟨y 1, (eq_ix3 y).trans (by
    rw [show y 0 = (0 : Fin 1) from Subsingleton.elim (α := Fin 1) _ _, show y 2 = (0 : Fin 1) from Subsingleton.elim (α := Fin 1) _ _])⟩

variable {m : (ℓ : Loc nD τ sig) → Buf (Elt Ideal) ℓ} {c : Dev nD}
variable (hA : ∀ y, kA m c y = ((kA m c y).toReal : EReal)) (hC' : ∀ y, kC m c y = ((kC m c y).toReal : EReal))
  (hG' : ∀ y, kDo m c y = ((kDo m c y).toReal : EReal))

include hA hC' hG' in
/-- The queries' gradient, -/
theorem arr_dq : (dats m 0 c).arrAt 7 cfg0.N = refDq (refS (kA m c) (kC m c) (kDo m c)) (kA m c) := by
  refine (dats m 0 c).arrAt_eq_of_covers 7 _ (by decide +kernel) fun t hf y => ?_
  blk_simp
  rw [after0_7]
  obtain ⟨r, d, rfl⟩ := exists_ix2 (n0 := 512) (n1 := 128) y
  exact (dq_real t hA hC' hG' r d).trans (Eq.trans (by rw [refDq_real hA hC' hG', hd_col, ln_col]) (congrArg (refDq (refS (kA m c) (kC m c) (kDo m c)) (kA m c)) (place7 t r d).symm))

include hA hC' hG' in
/-- the keys', -/
theorem arr_dk : (dats m 0 c).arrAt 8 cfg0.N = refDk (refS (kA m c) (kC m c) (kDo m c)) (kA m c) := by
  refine (dats m 0 c).arrAt_eq_of_covers 8 _ (by decide +kernel) fun t hf y => ?_
  blk_simp
  rw [after0_8]
  obtain ⟨j, d, rfl⟩ := exists_ix2 (n0 := 2048) (n1 := 128) y
  exact (dk_real t hA hC' hG' ((flush0_8 t).mp hf) j d).trans (Eq.trans (by rw [refDk_real hA hC' hG', hd_col, ln_col]) (congrArg (refDk (refS (kA m c) (kC m c) (kDo m c)) (kA m c)) (place8 t j d).symm))

include hA hC' hG' in
/-- the values', -/
theorem arr_dv : (dats m 0 c).arrAt 9 cfg0.N = refDv (refProb (refE (kA m c) (kC m c))) (kDo m c) := by
  refine (dats m 0 c).arrAt_eq_of_covers 9 _ (by decide +kernel) fun t hf y => ?_
  blk_simp
  rw [after0_9]
  obtain ⟨j, d, rfl⟩ := exists_ix2 (n0 := 2048) (n1 := 128) y
  exact (dv_real t hA hC' hG' ((flush0_9 t).mp hf) j d).trans (Eq.trans (by rw [refDv_real hA hC' hG', hd_col, ln_col]) (congrArg (refDv (refProb (refE (kA m c) (kC m c))) (kDo m c)) (place9 t j d).symm))

include hA hC' hG' in
/-- and the gates', as the keys' and as the queries'. -/
theorem arr_dck : (dats m 0 c).arrAt 10 cfg0.N = refDck (refS (kA m c) (kC m c) (kDo m c)) := by
  refine (dats m 0 c).arrAt_eq_of_covers 10 _ (by decide +kernel) fun t hf y => ?_
  blk_simp
  rw [after0_10]
  obtain ⟨j, rfl⟩ := row_idx y
  exact (dck_real t hA hC' hG' ((flush0_10 t).mp hf) j).trans (Eq.trans (by rw [refDck_real hA hC' hG']) (congrArg (refDck (refS (kA m c) (kC m c) (kDo m c))) (place10 t j).symm))

include hA hC' hG' in
theorem arr_dcq : (dats m 0 c).arrAt 11 cfg0.N = refDcq (refS (kA m c) (kC m c) (kDo m c)) := by
  refine (dats m 0 c).arrAt_eq_of_covers 11 _ (by decide +kernel) fun t hf y => ?_
  blk_simp
  rw [after0_11]
  obtain ⟨r, rfl⟩ := column_idx y
  exact (dcq_real t hA hC' hG' r).trans (Eq.trans (by rw [refDcq_real hA hC' hG']) (congrArg (refDcq (refS (kA m c) (kC m c) (kDo m c))) (place11 t r).symm))

end Cert.Fox

end
-- ==== Proof.Fox.Finite.lean ====
/- What the precondition says: every element of the three arguments is a real number. -/
module

public import proofs.«01_k».proof.Proof.Gen.Pre_finite
public import Idealize.ShloMosaic.Lib.ReduceAll
public import Idealize.ShloMosaic.PureOps.Ideal.Laws

@[expose] public section

noncomputable section

namespace Cert.Fox

open Idealize.ShloMosaic Cert.Pre_finite

/-- The word of the positive infinity. -/
theorem ofBits_inf : Ideal.ofBits .f32 0x7F800000#32 = ⊤ := by simp [Ideal.ofBits, Ideal.ieee]

/-- A value whose absolute value lies below infinity is a real number. -/
theorem real_of_abs_lt (x : EReal) (h : Ideal.cmp .olt (max x (-x)) (Ideal.ofBits .f32 0x7F800000#32) = 1#1) : x = (x.toReal : EReal) := by
  rw [ofBits_inf] at h
  have h' : max x (-x) < ⊤ := by
    by_contra hn
    simp [Ideal.cmp, hn] at h
  refine (EReal.coe_toReal ?_ ?_).symm
  · rintro rfl; simp at h'
  · rintro rfl; simp at h'

instance : Subsingleton S_.Idx := ⟨fun a b => funext fun d => d.elim0⟩

/-- The three arguments' elements are real numbers where the precondition holds. -/
theorem finite_args (A : FVec Ideal S2048x6272 .f32) (C : FVec Ideal S16x2048 .f32) (G : FVec Ideal S2048x2048 .f32)
    (h : Cert.Pre_finite.fn (F := Ideal) A C G = fun _ => 1#1) :
    (∀ y, A y = ((A y).toReal : EReal)) ∧ (∀ y, C y = ((C y).toReal : EReal)) ∧ ∀ y, G y = ((G y).toReal : EReal) := by
  have h0 := congrFun h (fun d => d.elim0)
  unfold Cert.Pre_finite.fn at h0
  obtain ⟨h1, hG⟩ := IntOp.andi_eq_one.1 h0
  obtain ⟨hA, hC⟩ := IntOp.andi_eq_one.1 h1
  exact ⟨fun y => real_of_abs_lt _ (Host.reduce_andi_all _ _ _ _ _ hA y), fun y => real_of_abs_lt _ (Host.reduce_andi_all _ _ _ _ _ hC y),
    fun y => real_of_abs_lt _ (Host.reduce_andi_all _ _ _ _ _ hG y)⟩

end Cert.Fox

end
-- ==== Proof.Fox.Claims.lean ====
/- The claims about the forgetting attention's backward call. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Fox.Arrays
public import proofs.«01_k».proof.Proof.Fox.RefTerm
public import proofs.«01_k».proof.Proof.Fox.Finite
public import Idealize.ShloMosaic.Adequacy
public import Idealize.ShloMosaic.Init

@[expose] public section

noncomputable section

namespace Cert.Fox

open Idealize.ShloMosaic Idealize.SL.Sem

/-- The kernel ends on every memory, its arguments unchanged and its counters at zero; -/
theorem frame_p : Cert.quiescent_Kernel := fun m ρ _ => Cert.Kernel.Gen.frame m ρ
/-- so over the ideal values, with the precondition or without it. -/
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

/-- The reference ends on every memory, its arguments unchanged. -/
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
theorem frame_ri_finite : Cert.quiescent_ReferenceIdeal_pre_finite := fun m ρ _ => frame_ri m ρ trivial

/-- On finite arguments the kernel's five arrays are the reference's five gradients. -/
theorem algebraic : Cert.algebraic_KernelIdeal_ReferenceIdeal_pre_finite := by
  intro m g m' g' hp hargs
  have hfin := fun c => finite_args _ _ _ (hp c)
  refine ⟨fun c => refDq (refS (kA m c) (kC m c) (kDo m c)) (kA m c), fun c => refDk (refS (kA m c) (kC m c) (kDo m c)) (kA m c),
    fun c => refDv (refProb (refE (kA m c) (kC m c))) (kDo m c), fun c => refDck (refS (kA m c) (kC m c) (kDo m c)),
    fun c => refDcq (refS (kA m c) (kC m c) (kDo m c)), ?_, ?_⟩
  · refine (θ_run Cert.KernelIdeal.defs _ _).mono (fun r h c => ?_) (Cert.KernelIdeal.Value.run_blocks m g)
    obtain ⟨hA, hC, hG⟩ := hfin c
    obtain ⟨h0, h1, h2, h3, h4, ha⟩ := h c
    exact ⟨h0.trans (arr_dq hA hC hG), h1.trans (arr_dk hA hC hG), h2.trans (arr_dv hA hC hG), h3.trans (arr_dck hA hC hG),
      h4.trans (arr_dcq hA hC hG), ha⟩
  · refine (θ_run Cert.ReferenceIdeal.defs _ _).mono (fun r h c => ?_) (Cert.ReferenceIdeal.Value.run (F := Ideal) m' g')
    obtain ⟨h0, h1, h2, h3, h4, ha⟩ := h c
    obtain ⟨e0, e1, e2⟩ := hargs c
    have eA : refA m' c = kA m c := e0
    have eC : refC m' c = kC m c := e1
    have eG : refDo m' c = kDo m c := e2
    refine ⟨h0.trans ((out0_eq m' c).trans ?_), h1.trans ((out1_eq m' c).trans ?_), h2.trans ((out2_eq m' c).trans ?_),
      h3.trans ((out3_eq m' c).trans ?_), h4.trans ((out4_eq m' c).trans ?_), ha⟩ <;> simp only [eA, eC, eG]

end Cert.Fox

end
-- ==== Proof.Product.Agree.lean ====
/- From a kernel's run and its reference's to the claims about both. -/
module

public import Idealize.ShloMosaic.Lib.Quiescent
public import Idealize.ShloMosaic.Adequacy

@[expose] public section

namespace Cert.Product

open Idealize.ShloMosaic Idealize.SL.Sem

/-- Two runs that end with a device's results `u` and `v`, both of them `w`, agree on `w`. -/
theorem agree {ρ₁ ρ₂ C : Type} {V : C → Type} (W₁ : WPT ρ₁) (W₂ : WPT ρ₂) {x₁ : ρ₁ → (c : C) → V c} {x₂ : ρ₂ → (c : C) → V c}
    {A₁ : ρ₁ → C → Prop} {A₂ : ρ₂ → C → Prop} {u v : (c : C) → V c} (w : (c : C) → V c)
    (h₁ : W₁ fun r => ∀ c, x₁ r c = u c ∧ A₁ r c) (h₂ : W₂ fun r => ∀ c, x₂ r c = v c ∧ A₂ r c) (e₁ : ∀ c, u c = w c) (e₂ : ∀ c, v c = w c) :
    ∃ w : (c : C) → V c, W₁ (fun r => ∀ c, x₁ r c = w c ∧ A₁ r c) ∧ W₂ (fun r => ∀ c, x₂ r c = w c ∧ A₂ r c) :=
  ⟨w, W₁.mono (fun _ h c => ⟨(h c).1.trans (e₁ c), (h c).2⟩) h₁, W₂.mono (fun _ h c => ⟨(h c).1.trans (e₂ c), (h c).2⟩) h₂⟩

/-- A run of a program without counters that ends with its arguments unchanged ends, with its arguments unchanged, at rest. -/
theorem at_rest {nD : ℕ} {τ : Topo} {sig : RefSig} {Val : EltTy → Type} (h0 : sig.nSem + sig.nDmaSem = 0) {α C : Type}
    (W : WPT (α × MemSt nD τ sig Val)) {X A : α × MemSt nD τ sig Val → C → Prop} (h : W fun r => ∀ c, X r c ∧ A r c) :
    W fun r => (∀ c, A r c) ∧ r.2.sem = fun _ => 0 :=
  W.mono (fun r h => ⟨fun c => (h c).2, sem_eq_zero_of_no_sems h0 r.2⟩) h

end Cert.Product
-- ==== Proof.Product.Index.lean ====
/- What every product's proof uses: indices by their coordinates, an array under a leading axis of length one, and
what a block accumulated over a run of points holds. -/
module

public import Idealize.ShloMosaic.Lib.Pipeline.ValueKit
public import Idealize.ShloMosaic.Lib.Pointwise

@[expose] public section

namespace Cert.Product

open Idealize.ShloMosaic

theorem exists_ix2 {n0 n1 : ℕ} (y : (⟨2, ![n0, n1]⟩ : Shape).Idx) : ∃ (a : Fin n0) (b : Fin n1), y = ix2 a b := ⟨y 0, y 1, eq_ix2 y⟩
/-- An index of a block with one row along its first axis. -/
theorem exists_ix3 {n1 n2 : ℕ} (y : (⟨3, ![1, n1, n2]⟩ : Shape).Idx) : ∃ (a : Fin n1) (b : Fin n2), y = ix3 0 a b :=
  ⟨y 1, y 2, (eq_ix3 y).trans (by rw [show y 0 = (0 : Fin 1) from Subsingleton.elim (α := Fin 1) _ _])⟩

/-- An array under a leading axis of length one. -/
theorem lead_at {α : Type} {a b : ℕ} (h : (⟨2, ![a, b]⟩ : Shape).BroadcastsInDim ⟨3, ![1, a, b]⟩ ![1, 2]) (X : (⟨2, ![a, b]⟩ : Shape).Idx → α)
    (i : Fin a) (j : Fin b) : broadcastInDim ⟨3, ![1, a, b]⟩ ![1, 2] h X (ix3 0 i j) = X (ix2 i j) := by
  refine broadcastInDim_apply _ h X _ _ fun d => ?_
  fin_cases d
  · show i.val = if a = 1 then 0 else i.val
    have := i.isLt
    split <;> omega
  · show j.val = if b = 1 then 0 else j.val
    have := j.isLt
    split <;> omega

/-- The place of a run's point in the run, and the run's number. -/
theorem point_mod {J : ℕ} (q : ℕ) (s : Fin J) : (J * q + s.val) % J = s.val := by
  rw [Nat.mul_add_mod, Nat.mod_eq_of_lt s.isLt]
theorem point_div {J : ℕ} (q : ℕ) (s : Fin J) : (J * q + s.val) / J = q := by
  rw [Nat.mul_add_div (by have := s.isLt; omega), Nat.div_eq_of_lt s.isLt, Nat.add_zero]

/-- A value set to `0` plus a term at the first point of each run of `J` points, and increased by a term at each other, is
    after a run's last point the sum of the run's terms. -/
theorem run_sum {N : ℕ} (J : ℕ) [NeZero J] (acc : (k : ℕ) → k < N → EReal) (term : Fin N → EReal)
    (h0 : ∀ t : Fin N, t.val % J = 0 → acc t.val t.isLt = 0 + term t)
    (h1 : ∀ t : Fin N, ¬t.val % J = 0 → acc t.val t.isLt = acc (t.val - 1) (Nat.lt_of_le_of_lt (Nat.sub_le _ _) t.isLt) + term t)
    (t : Fin N) (h : t.val % J = J - 1) :
    acc t.val t.isLt = ∑ s : Fin J, term ⟨J * (t.val / J) + s.val, Pipeline.run_point_lt_of_flush t h s⟩ :=
  (Pipeline.eq_sum_fin_of_reset_step_apply_of_flush (N := N) (M := EReal) (ι := Unit) (fun k h _ => acc k h) J (fun _ => 0)
    (fun t _ => term t) (fun t h _ => h0 t h) (fun t h _ => h1 t h) t h ()).trans (zero_add _)

theorem run_lt {J B L : ℕ} (hL : L = J * B) (s : Fin J) (k : Fin B) : s.val * B + k.val < L := by
  have := Nat.mul_le_mul_right B (Nat.succ_le_of_lt s.isLt)
  rw [Nat.succ_mul] at this
  have := k.isLt
  omega

/-- If the run's terms sum the successive pieces of length `B` of an axis, the value is the sum along the whole axis. -/
theorem run_dot {N : ℕ} (J : ℕ) [NeZero J] {B L : ℕ} (hL : L = J * B) (acc : (k : ℕ) → k < N → EReal) (term : Fin N → EReal)
    (h0 : ∀ t : Fin N, t.val % J = 0 → acc t.val t.isLt = 0 + term t)
    (h1 : ∀ t : Fin N, ¬t.val % J = 0 → acc t.val t.isLt = acc (t.val - 1) (Nat.lt_of_le_of_lt (Nat.sub_le _ _) t.isLt) + term t)
    (t : Fin N) (h : t.val % J = J - 1) (f : Fin L → EReal)
    (hf : ∀ (u : Fin N) (s : Fin J), u.val % J = s.val → u.val / J = t.val / J → term u = ∑ k : Fin B, f ⟨s.val * B + k.val, run_lt hL s k⟩) :
    acc t.val t.isLt = ∑ k, f k :=
  (run_sum J acc term h0 h1 t h).trans
    ((Finset.sum_congr rfl fun s _ => hf _ s (point_mod _ s) (point_div _ s)).trans (Fin.sum_mul_add_congr (fun s k hl => rfl) hL))

end Cert.Product
-- ==== Proof.Product.DownGrad.lean ====
/- The down product's gradient in its argument: the kernel's array is the reference's product `dy · wᵀ`. -/
module

public import proofs.«01_k».proof.Proof.Gen.DownGradIdeal.Value
public import proofs.«01_k».proof.Proof.Gen.DownGradRefIdeal.Run
public import proofs.«01_k».proof.Proof.Product.Index

@[expose] public section

set_option maxRecDepth 16384

noncomputable section

namespace Cert.Product.DownGrad

open Cert.DownGradIdeal Cert.DownGradIdeal.Gen Idealize.ShloMosaic Idealize.ShloMosaic.TcCoe Idealize.SL.Sem

/-- The reference's gradient of the down product in its argument. -/
def ref (D : FVec Ideal S2048x2048 .bf16) (W : FVec Ideal S5632x2048 .bf16) : FVec Ideal S2048x5632 .bf16 :=
  truncf .bf16 (Host.dotGeneral Cert.DownGradRefIdeal.dot_S2048x2048_S5632x2048_S2048x5632_1_1_0_0_n_n none
    (extf .f32 D Cert.DownGradRefIdeal.Facts₀.bitsLt_bf16_f32) (extf .f32 W Cert.DownGradRefIdeal.Facts₀.bitsLt_bf16_f32)) Cert.DownGradRefIdeal.Facts₀.bitsLt_bf16_f32

/-- Its entries: a row of `D` times a row of `W`. -/
theorem ref_at (D : FVec Ideal S2048x2048 .bf16) (W : FVec Ideal S5632x2048 .bf16) (r : Fin 2048) (n : Fin 5632) :
    ref D W (ix2 r n) = ∑ k : Fin 2048, D (ix2 r k) * W (ix2 n k) := by
  pointwise [ref]

/-- A point's block: the same of its blocks of the arguments. -/
theorem out_at (x0 : FVec Ideal S1x2048x2048 .bf16) (x1 : FVec Ideal S1x512x2048 .bf16) (r : Fin 2048) (n : Fin 512) :
    out0_2 (F := Ideal) x0 x1 (ix2 r n) = ∑ k : Fin 2048, x0 (ix3 0 r k) * x1 (ix3 0 n k) := by
  frame_out
  pointwise [k0_pay1]

theorem idx0 : ∀ t : Fin cfg0.N, win0_0.index t = ![0, 0, 0] := (by decide +kernel : ∀ t : Fin grid0.N, win0_0.index t = ![0, 0, 0])
theorem idx1 : ∀ t : Fin cfg0.N, win0_1.index t = ![0, t.val, 0] := (by decide +kernel : ∀ t : Fin grid0.N, win0_1.index t = ![0, t.val, 0])
theorem idx2 : ∀ t : Fin cfg0.N, win0_2.index t = ![0, t.val] := (by decide +kernel : ∀ t : Fin grid0.N, win0_2.index t = ![0, t.val])

variable (m : (ℓ : Loc nD τ sig) → Buf (Elt Ideal) ℓ) (c : Dev nD)

/-- The arguments: the gradient arriving at the product, and the weights. -/
abbrev kD : FVec Ideal S2048x2048 .bf16 := m ((c : Thread nD τ).loc main_arg0)
abbrev kW : FVec Ideal S5632x2048 .bf16 := m ((c : Thread nD τ).loc main_arg1)

theorem V_d : V m c main_v0 = broadcastInDim S1x2048x2048 ![1, 2] bcast_S2048x2048_S1x2048x2048_1_2 (kD m c) := by
  after_results; rfl
theorem V_w : V m c main_v1 = broadcastInDim S1x5632x2048 ![1, 2] bcast_S5632x2048_S1x5632x2048_1_2 (kW m c) := by
  after_results; rfl

theorem lt_N (t : Fin cfg0.N) : (t : ℕ) < 11 := lt_of_lt_of_eq t.isLt N_0

theorem read_d (t : Fin cfg0.N) (X : FVec Ideal S1x2048x2048 .bf16) (r k : Fin 2048) :
    (((cfg0.win 0).blk t).view.read (Elt Ideal) X : FVec Ideal S1x2048x2048 .bf16) (ix3 0 r k) = X (ix3 0 r k) := by
  blk_ext [idx0 t]
theorem read_w (t : Fin cfg0.N) (X : FVec Ideal S1x5632x2048 .bf16) (n : Fin 512) (k : Fin 2048) :
    (((cfg0.win 1).blk t).view.read (Elt Ideal) X : FVec Ideal S1x512x2048 .bf16) (ix3 0 n k)
      = X (ix3 0 ⟨t * 512 + n, by have := lt_N t; omega⟩ k) := by
  blk_ext [idx1 t]
/-- The blocks a point reads, in the arguments. -/
theorem blk_d (t : Fin cfg0.N) (r k : Fin 2048) : (iblk m c 0 t : FVec Ideal S1x2048x2048 .bf16) (ix3 0 r k) = kD m c (ix2 r k) :=
  (read_d t (V m c main_v0) r k).trans (V_d m c ▸ lead_at _ _ _ _)
theorem blk_w (t : Fin cfg0.N) (n : Fin 512) (k : Fin 2048) : (iblk m c 1 t : FVec Ideal S1x512x2048 .bf16) (ix3 0 n k)
    = kW m c (ix2 ⟨t * 512 + n, by have := lt_N t; omega⟩ k) :=
  (read_w t (V m c main_v1) n k).trans (V_w m c ▸ lead_at _ _ _ _)
/-- Where its output block lies. -/
theorem place (t : Fin cfg0.N) (r : Fin 2048) (n : Fin 512) : ((win0_2.blk t).view.emb (ix2 r n) : S2048x5632.Idx)
    = ix2 r ⟨t * 512 + n, by have := lt_N t; omega⟩ := by
  blk_ext [idx2 t]

/-- The kernel's array is the reference's. -/
theorem arr : (dats m 0 c).arrAt 2 cfg0.N = ref (kD m c) (kW m c) := by
  refine (dats m 0 c).arrAt_eq_of_covers 2 _ (by decide +kernel) fun t hf y => ?_
  blk_simp
  rw [after0_2]
  obtain ⟨r, n, rfl⟩ := exists_ix2 (n0 := 2048) (n1 := 512) y
  refine (out_at _ _ r n).trans (Eq.trans ?_ (congrArg (ref (kD m c) (kW m c)) (place t r n).symm))
  rw [ref_at]
  exact Finset.sum_congr rfl fun k _ => congrArg₂ (· * ·) (blk_d m c t r k) (blk_w m c t n k)

end Cert.Product.DownGrad

end
-- ==== Proof.Product.DownWeight.lean ====
/- The down product's gradient in its weights: the kernel's array is the reference's product `aᵀ · dy`. -/
module

public import proofs.«01_k».proof.Proof.Gen.DownWeightIdeal.Value
public import proofs.«01_k».proof.Proof.Gen.DownWeightRefIdeal.Run
public import proofs.«01_k».proof.Proof.Product.Index

@[expose] public section

set_option maxRecDepth 16384

noncomputable section

namespace Cert.Product.DownWeight

open Cert.DownWeightIdeal Cert.DownWeightIdeal.Gen Idealize.ShloMosaic Idealize.ShloMosaic.TcCoe Idealize.SL.Sem

/-- The reference's gradient of the down product in its weights. -/
def ref (A : FVec Ideal S2048x5632 .bf16) (D : FVec Ideal S2048x2048 .bf16) : FVec Ideal S1x5632x2048 .bf16 :=
  truncf .bf16 (broadcastInDim S1x5632x2048 ![1, 2] Cert.DownWeightRefIdeal.Facts₀.bcast_S5632x2048_S1x5632x2048_1_2
    (transpose Cert.DownWeightRefIdeal.S5632x2048 [1, 0] (Host.dotGeneral Cert.DownWeightRefIdeal.dot_S2048x2048_S2048x5632_S2048x5632_0_0_1_1_n_n none
      (extf .f32 D Cert.DownWeightRefIdeal.Facts₀.bitsLt_bf16_f32) (extf .f32 A Cert.DownWeightRefIdeal.Facts₀.bitsLt_bf16_f32))
      Cert.DownWeightRefIdeal.Facts₀.transposes_S2048x5632_S5632x2048_1_0)) Cert.DownWeightRefIdeal.Facts₀.bitsLt_bf16_f32

/-- Its entries: a column of `A` times a column of `D`. -/
theorem ref_at (A : FVec Ideal S2048x5632 .bf16) (D : FVec Ideal S2048x2048 .bf16) (r : Fin 5632) (n : Fin 2048) :
    ref A D (ix3 0 r n) = ∑ k : Fin 2048, A (ix2 k r) * D (ix2 k n) := by
  pointwise [ref]
  exact Finset.sum_congr rfl fun k _ => mul_comm (G := EReal) _ _

/-- A point's block: the same of its blocks of the arguments. -/
theorem out_at (x0 : FVec Ideal S2048x1408 .bf16) (x1 : FVec Ideal S1x2048x1024 .bf16) (r : Fin 1408) (n : Fin 1024) :
    out0_2 (F := Ideal) x0 x1 (ix3 0 r n) = ∑ k : Fin 2048, x0 (ix2 k r) * x1 (ix3 0 k n) := by
  frame_out
  pointwise [k0_pay1]

theorem idx0 : ∀ t : Fin cfg0.N, win0_0.index t = ![0, t.val / 2] := (by decide +kernel : ∀ t : Fin grid0.N, win0_0.index t = ![0, t.val / 2])
theorem idx1 : ∀ t : Fin cfg0.N, win0_1.index t = ![0, 0, t.val % 2] := (by decide +kernel : ∀ t : Fin grid0.N, win0_1.index t = ![0, 0, t.val % 2])
theorem idx2 : ∀ t : Fin cfg0.N, win0_2.index t = ![0, t.val / 2, t.val % 2] := (by decide +kernel : ∀ t : Fin grid0.N, win0_2.index t = ![0, t.val / 2, t.val % 2])

variable (m : (ℓ : Loc nD τ sig) → Buf (Elt Ideal) ℓ) (c : Dev nD)

/-- The arguments: the product's argument, and the gradient arriving at it. -/
abbrev kA : FVec Ideal S2048x5632 .bf16 := m ((c : Thread nD τ).loc main_arg0)
abbrev kD : FVec Ideal S2048x2048 .bf16 := m ((c : Thread nD τ).loc main_arg1)

theorem V_a : V m c main_arg0 = kA m c := by
  rfl
theorem V_d : V m c main_v0 = broadcastInDim S1x2048x2048 ![1, 2] bcast_S2048x2048_S1x2048x2048_1_2 (kD m c) := by
  after_results; rfl

theorem lt_N (t : Fin cfg0.N) : (t : ℕ) < 8 := lt_of_lt_of_eq t.isLt N_0

theorem read_a (t : Fin cfg0.N) (X : FVec Ideal S2048x5632 .bf16) (k : Fin 2048) (r : Fin 1408) :
    (((cfg0.win 0).blk t).view.read (Elt Ideal) X : FVec Ideal S2048x1408 .bf16) (ix2 k r)
      = X (ix2 k ⟨t / 2 * 1408 + r, by have := lt_N t; omega⟩) := by
  blk_ext [idx0 t]
theorem read_d (t : Fin cfg0.N) (X : FVec Ideal S1x2048x2048 .bf16) (k : Fin 2048) (n : Fin 1024) :
    (((cfg0.win 1).blk t).view.read (Elt Ideal) X : FVec Ideal S1x2048x1024 .bf16) (ix3 0 k n)
      = X (ix3 0 k ⟨t % 2 * 1024 + n, by omega⟩) := by
  blk_ext [idx1 t]
/-- The blocks a point reads, in the arguments. -/
theorem blk_a (t : Fin cfg0.N) (k : Fin 2048) (r : Fin 1408) : (iblk m c 0 t : FVec Ideal S2048x1408 .bf16) (ix2 k r)
    = kA m c (ix2 k ⟨t / 2 * 1408 + r, by have := lt_N t; omega⟩) := by
  unfold iblk
  rw [V_a]
  exact read_a t _ k r
theorem blk_d (t : Fin cfg0.N) (k : Fin 2048) (n : Fin 1024) : (iblk m c 1 t : FVec Ideal S1x2048x1024 .bf16) (ix3 0 k n)
    = kD m c (ix2 k ⟨t % 2 * 1024 + n, by omega⟩) :=
  (read_d t (V m c main_v0) k n).trans (V_d m c ▸ lead_at _ _ _ _)
/-- Where its output block lies. -/
theorem place (t : Fin cfg0.N) (r : Fin 1408) (n : Fin 1024) : ((win0_2.blk t).view.emb (ix3 0 r n) : S1x5632x2048.Idx)
    = ix3 0 ⟨t / 2 * 1408 + r, by have := lt_N t; omega⟩ ⟨t % 2 * 1024 + n, by omega⟩ := by
  blk_ext [idx2 t]

/-- The kernel's array is the reference's. -/
theorem arr : (dats m 0 c).arrAt 2 cfg0.N = ref (kA m c) (kD m c) := by
  refine (dats m 0 c).arrAt_eq_of_covers 2 _ (by decide +kernel) fun t hf y => ?_
  blk_simp
  rw [after0_2]
  obtain ⟨r, n, rfl⟩ := exists_ix3 (n1 := 1408) (n2 := 1024) y
  refine (out_at _ _ r n).trans (Eq.trans ?_ (congrArg (ref (kA m c) (kD m c)) (place t r n).symm))
  rw [ref_at]
  exact Finset.sum_congr rfl fun k _ => congrArg₂ (· * ·) (blk_a m c t k r) (blk_d m c t k n)

end Cert.Product.DownWeight

end
-- ==== Proof.Product.UpGrad.lean ====
/- The up products' gradient in their argument: the kernel's array is the reference's sum over both halves of `du · wᵀ`.

   Four points add into one block: a half's lower and upper columns, for either half. -/
module

public import proofs.«01_k».proof.Proof.Gen.UpGradIdeal.Value
public import proofs.«01_k».proof.Proof.Gen.UpGradRefIdeal.Run
public import proofs.«01_k».proof.Proof.Product.Index
public import Idealize.ShloMosaic.Lib.Pipeline.ReadBack

@[expose] public section

set_option maxRecDepth 16384

noncomputable section

namespace Cert.Product.UpGrad

open Cert.UpGradIdeal Cert.UpGradIdeal.Gen Idealize.ShloMosaic Idealize.ShloMosaic.TcCoe Idealize.SL.Sem

/-- The reference's gradient of the up products in their argument. -/
def ref (D W : FVec Ideal S2x2048x5632 .bf16) : FVec Ideal S2048x2048 .f32 :=
  Host.dotGeneral Cert.UpGradRefIdeal.dot_S2x5632x2048_S2x2048x5632_S2048x2048_01_02_2_1_n_n none
    (transpose Cert.UpGradRefIdeal.S2x5632x2048 [0, 2, 1] (extf .f32 D Cert.UpGradRefIdeal.Facts₀.bitsLt_bf16_f32) Cert.UpGradRefIdeal.Facts₀.transposes_S2x2048x5632_S2x5632x2048_0_2_1)
    (extf .f32 W Cert.UpGradRefIdeal.Facts₀.bitsLt_bf16_f32)

/-- Its entries: the sum over both halves of a row of `D` times a row of `W`. -/
theorem ref_at (D W : FVec Ideal S2x2048x5632 .bf16) (r n : Fin 2048) :
    ref D W (ix2 r n) = ∑ p : Fin 2, ∑ k : Fin 5632, D (ix3 p r k) * W (ix3 p n k) := by
  pointwise [ref]

/-- What a point adds. -/
def term (x0 : FVec Ideal S1x2048x2816 .bf16) (x1 : FVec Ideal S1x512x2816 .bf16) (r : Fin 2048) (n : Fin 512) : EReal :=
  ∑ k : Fin 2816, x0 (ix3 0 r k) * x1 (ix3 0 n k)

theorem pay2_at (v : FVec Ideal S2048x512 .f32) (x0 : FVec Ideal S1x2048x2816 .bf16) (x1 : FVec Ideal S1x512x2816 .bf16) (r : Fin 2048) (n : Fin 512) :
    k0_pay2 v x0 x1 (ix2 r n) = v (ix2 r n) + term x0 x1 r n := by
  pointwise [k0_pay2, term]
theorem pay1_at (y : S2048x512.Idx) : k0_pay1 (F := Ideal) y = 0 := by
  pointwise [k0_pay1]

theorem idx0 : ∀ t : Fin cfg0.N, win0_0.index t = ![t.val % 4 / 2, 0, t.val % 2] := (by decide +kernel : ∀ t : Fin grid0.N, win0_0.index t = ![t.val % 4 / 2, 0, t.val % 2])
theorem idx1 : ∀ t : Fin cfg0.N, win0_1.index t = ![t.val % 4 / 2, t.val / 4, t.val % 2] := (by decide +kernel : ∀ t : Fin grid0.N, win0_1.index t = ![t.val % 4 / 2, t.val / 4, t.val % 2])
theorem idx2 : ∀ t : Fin cfg0.N, win0_2.index t = ![0, t.val / 4] := (by decide +kernel : ∀ t : Fin grid0.N, win0_2.index t = ![0, t.val / 4])

variable (m : (ℓ : Loc nD τ sig) → Buf (Elt Ideal) ℓ) (c : Dev nD)

/-- The arguments: the gradient arriving at either product, and the weights. -/
abbrev kD : FVec Ideal S2x2048x5632 .bf16 := m ((c : Thread nD τ).loc main_arg0)
abbrev kW : FVec Ideal S2x2048x5632 .bf16 := m ((c : Thread nD τ).loc main_arg1)

theorem lt_N (t : Fin cfg0.N) : (t : ℕ) < 16 := lt_of_lt_of_eq t.isLt N_0

/-- The blocks a point reads, in the arguments. -/
theorem blk_d (t : Fin cfg0.N) (r : Fin 2048) (k : Fin 2816) : (iblk m c 0 t : FVec Ideal S1x2048x2816 .bf16) (ix3 0 r k)
    = kD m c (ix3 ⟨t % 4 / 2, by omega⟩ r ⟨t % 2 * 2816 + k, by omega⟩) := by
  blk_ext [iblk, V, idx0 t]
theorem blk_w (t : Fin cfg0.N) (n : Fin 512) (k : Fin 2816) : (iblk m c 1 t : FVec Ideal S1x512x2816 .bf16) (ix3 0 n k)
    = kW m c (ix3 ⟨t % 4 / 2, by omega⟩ ⟨t / 4 * 512 + n, by have := lt_N t; omega⟩ ⟨t % 2 * 2816 + k, by omega⟩) := by
  blk_ext [iblk, V, idx1 t]
/-- Where its output block lies. -/
theorem place (t : Fin cfg0.N) (r : Fin 2048) (n : Fin 512) : ((win0_2.blk t).view.emb (ix2 r n) : S2048x2048.Idx)
    = ix2 r ⟨t / 4 * 512 + n, by have := lt_N t; omega⟩ := by
  blk_ext [idx2 t]

/-- What the accumulated block holds after a run's first point, -/
theorem acc_first (t : Fin cfg0.N) (h : t.val % 4 = 0) (r : Fin 2048) (n : Fin 512) :
    (outsAt0 m c t.val t.isLt).2 (ix2 r n) = 0 + term (iblk m c 0 t) (iblk m c 1 t) r n := by
  rw [outsAt0_A m c t h (by omega)]
  frame_out
  rw [pay2_at, pay1_at]
/-- and after each of its others. -/
theorem acc_next (t : Fin cfg0.N) (h : ¬t.val % 4 = 0) (r : Fin 2048) (n : Fin 512) :
    (outsAt0 m c t.val t.isLt).2 (ix2 r n)
      = (outsAt0 m c (t.val - 1) (by have := t.isLt; omega)).2 (ix2 r n) + term (iblk m c 0 t) (iblk m c 1 t) r n := by
  by_cases h1 : t.val % 4 = 3
  · rw [outsAt0_C m c t h h1]
    frame_out
    rw [pay2_at, read_unread_whole]
  · rw [outsAt0_B m c t h h1]
    frame_out
    rw [pay2_at, read_unread_whole]
/-- The last point's output is what was accumulated. -/
theorem out_last (t : Fin cfg0.N) (h1 : t.val % 4 = 3) (r : Fin 2048) (n : Fin 512) :
    (outsAt0 m c t.val t.isLt).1 (ix2 r n) = (outsAt0 m c t.val t.isLt).2 (ix2 r n) := by
  rw [outsAt0_C m c t (by omega) h1]
  frame_out

/-- A run's last point puts out the reference's block: the run's four points sum both products' columns, in two pieces each. -/
theorem out_at (t : Fin cfg0.N) (h : t.val % 4 = 3) (r : Fin 2048) (n : Fin 512) :
    (outsAt0 m c t.val t.isLt).1 (ix2 r n) = ref (kD m c) (kW m c) (ix2 r ⟨t / 4 * 512 + n, by have := lt_N t; omega⟩) := by
  rw [out_last m c t h, ref_at]
  refine (run_dot 4 (show 11264 = 4 * 2816 by norm_num) (fun k h => (outsAt0 m c k h).2 (ix2 r n)) (fun t => term (iblk m c 0 t) (iblk m c 1 t) r n)
    (fun t h => acc_first m c t h r n) (fun t h => acc_next m c t h r n) t h
    (fun l => kD m c (ix3 ⟨l / 5632, by omega⟩ r ⟨l % 5632, by omega⟩)
      * kW m c (ix3 ⟨l / 5632, by omega⟩ ⟨t / 4 * 512 + n, by have := lt_N t; omega⟩ ⟨l % 5632, by omega⟩))
    fun u s hs hq => Finset.sum_congr rfl fun k _ => ?_).trans (Fin.sum_mul_add_congr (S := 2) (n := 5632) (fun p k hl => ?_) (by norm_num)).symm
  · rw [blk_d, blk_w]
    have ep : u.val % 4 / 2 = (s.val * 2816 + k.val) / 5632 := by omega
    have ek : u.val % 2 * 2816 + k.val = (s.val * 2816 + k.val) % 5632 := by omega
    simp only [ep, ek, hq]
  · have ep : (p.val * 5632 + k.val) / 5632 = p.val := by omega
    have ek : (p.val * 5632 + k.val) % 5632 = k.val := by omega
    simp only [ep, ek]

/-- The kernel's array is the reference's. -/
theorem arr : (dats m 0 c).arrAt 2 cfg0.N = ref (kD m c) (kW m c) := by
  refine (dats m 0 c).arrAt_eq_of_covers 2 _ (by decide +kernel) fun t hf y => ?_
  blk_simp
  rw [after0_2]
  obtain ⟨r, n, rfl⟩ := exists_ix2 (n0 := 2048) (n1 := 512) y
  exact (out_at m c t ((flush0_2 t).mp hf) r n).trans (congrArg (ref (kD m c) (kW m c)) (place t r n).symm)

end Cert.Product.UpGrad

end
-- ==== Proof.Product.UpWeight.lean ====
/- The up products' gradient in their weights: the kernel's array is the reference's products `hᵀ · du`, one for either half. -/
module

public import proofs.«01_k».proof.Proof.Gen.UpWeightIdeal.Value
public import proofs.«01_k».proof.Proof.Gen.UpWeightRefIdeal.Run
public import proofs.«01_k».proof.Proof.Product.Index

@[expose] public section

set_option maxRecDepth 16384

noncomputable section

namespace Cert.Product.UpWeight

open Cert.UpWeightIdeal Cert.UpWeightIdeal.Gen Idealize.ShloMosaic Idealize.ShloMosaic.TcCoe Idealize.SL.Sem

/-- The reference's gradient of the up products in their weights. -/
def ref (H : FVec Ideal S2048x2048 .bf16) (D : FVec Ideal S2x2048x5632 .bf16) : FVec Ideal S2x2048x5632 .bf16 :=
  truncf .bf16 (transpose S2x2048x5632 [0, 2, 1] (Host.dotGeneral Cert.UpWeightRefIdeal.dot_S2x5632x2048_S2048x2048_S2x5632x2048_2_0_01_1_n_n none
    (transpose Cert.UpWeightRefIdeal.S2x5632x2048 [0, 2, 1] (extf .f32 D Cert.UpWeightRefIdeal.Facts₀.bitsLt_bf16_f32) Cert.UpWeightRefIdeal.Facts₀.transposes_S2x2048x5632_S2x5632x2048_0_2_1)
    (extf .f32 H Cert.UpWeightRefIdeal.Facts₀.bitsLt_bf16_f32)) Cert.UpWeightRefIdeal.Facts₀.transposes_S2x5632x2048_S2x2048x5632_0_2_1) Cert.UpWeightRefIdeal.Facts₀.bitsLt_bf16_f32

/-- Its entries: a column of `H` times a column of a half of `D`. -/
theorem ref_at (H : FVec Ideal S2048x2048 .bf16) (D : FVec Ideal S2x2048x5632 .bf16) (p : Fin 2) (r : Fin 2048) (n : Fin 5632) :
    ref H D (ix3 p r n) = ∑ k : Fin 2048, H (ix2 k r) * D (ix3 p k n) := by
  pointwise [ref]
  exact Finset.sum_congr rfl fun k _ => mul_comm (G := EReal) _ _

/-- A point's block: the same of its blocks of the arguments. -/
theorem out_at (x0 : FVec Ideal S2048x2048 .bf16) (x1 : FVec Ideal S1x2048x512 .bf16) (r : Fin 2048) (n : Fin 512) :
    out0_2 (F := Ideal) x0 x1 (ix3 0 r n) = ∑ k : Fin 2048, x0 (ix2 k r) * x1 (ix3 0 k n) := by
  frame_out
  pointwise [k0_pay1]

theorem idx0 : ∀ t : Fin cfg0.N, win0_0.index t = ![0, 0] := (by decide +kernel : ∀ t : Fin grid0.N, win0_0.index t = ![0, 0])
theorem idx1 : ∀ t : Fin cfg0.N, win0_1.index t = ![t.val / 11, 0, t.val % 11] := (by decide +kernel : ∀ t : Fin grid0.N, win0_1.index t = ![t.val / 11, 0, t.val % 11])
theorem idx2 : ∀ t : Fin cfg0.N, win0_2.index t = ![t.val / 11, 0, t.val % 11] := (by decide +kernel : ∀ t : Fin grid0.N, win0_2.index t = ![t.val / 11, 0, t.val % 11])

variable (m : (ℓ : Loc nD τ sig) → Buf (Elt Ideal) ℓ) (c : Dev nD)

/-- The arguments: the products' argument, and the gradient arriving at either. -/
abbrev kH : FVec Ideal S2048x2048 .bf16 := m ((c : Thread nD τ).loc main_arg0)
abbrev kD : FVec Ideal S2x2048x5632 .bf16 := m ((c : Thread nD τ).loc main_arg1)

theorem lt_N (t : Fin cfg0.N) : (t : ℕ) < 22 := lt_of_lt_of_eq t.isLt N_0

/-- The blocks a point reads, in the arguments. -/
theorem blk_h (t : Fin cfg0.N) (k r : Fin 2048) : (iblk m c 0 t : FVec Ideal S2048x2048 .bf16) (ix2 k r) = kH m c (ix2 k r) := by
  blk_ext [iblk, V, idx0 t]
theorem blk_d (t : Fin cfg0.N) (k : Fin 2048) (n : Fin 512) : (iblk m c 1 t : FVec Ideal S1x2048x512 .bf16) (ix3 0 k n)
    = kD m c (ix3 ⟨t / 11, by have := lt_N t; omega⟩ k ⟨t % 11 * 512 + n, by omega⟩) := by
  blk_ext [iblk, V, idx1 t]
/-- Where its output block lies. -/
theorem place (t : Fin cfg0.N) (r : Fin 2048) (n : Fin 512) : ((win0_2.blk t).view.emb (ix3 0 r n) : S2x2048x5632.Idx)
    = ix3 ⟨t / 11, by have := lt_N t; omega⟩ r ⟨t % 11 * 512 + n, by omega⟩ := by
  blk_ext [idx2 t]

/-- The kernel's array is the reference's. -/
theorem arr : (dats m 0 c).arrAt 2 cfg0.N = ref (kH m c) (kD m c) := by
  refine (dats m 0 c).arrAt_eq_of_covers 2 _ (by decide +kernel) fun t hf y => ?_
  blk_simp
  rw [after0_2]
  obtain ⟨r, n, rfl⟩ := exists_ix3 (n1 := 2048) (n2 := 512) y
  refine (out_at _ _ r n).trans (Eq.trans ?_ (congrArg (ref (kH m c) (kD m c)) (place t r n).symm))
  rw [ref_at]
  exact Finset.sum_congr rfl fun k _ => congrArg₂ (· * ·) (blk_h m c t k r) (blk_d m c t k n)

end Cert.Product.UpWeight

end
-- ==== Proof.Product.OutGrad.lean ====
/- The gradient of a mixer's last product in its argument: the kernel's array is the reference's product `dy · wᵀ`. -/
module

public import proofs.«01_k».proof.Proof.Gen.OutGradIdeal.Value
public import proofs.«01_k».proof.Proof.Gen.OutGradRefIdeal.Run
public import proofs.«01_k».proof.Proof.Product.Index

@[expose] public section

set_option maxRecDepth 16384

noncomputable section

namespace Cert.Product.OutGrad

open Cert.OutGradIdeal Cert.OutGradIdeal.Gen Idealize.ShloMosaic Idealize.ShloMosaic.TcCoe Idealize.SL.Sem

/-- The reference's gradient of the product in its argument. -/
def ref (D W : FVec Ideal S2048x2048 .bf16) : FVec Ideal S2048x2048 .f32 :=
  Host.dotGeneral Cert.OutGradRefIdeal.dot_S2048x2048_S2048x2048_S2048x2048_1_1_0_0_n_n none
    (extf .f32 D Cert.OutGradRefIdeal.Facts₀.bitsLt_bf16_f32) (extf .f32 W Cert.OutGradRefIdeal.Facts₀.bitsLt_bf16_f32)

/-- Its entries: a row of `D` times a row of `W`. -/
theorem ref_at (D W : FVec Ideal S2048x2048 .bf16) (r n : Fin 2048) : ref D W (ix2 r n) = ∑ k : Fin 2048, D (ix2 r k) * W (ix2 n k) := by
  pointwise [ref]

/-- A point's block: the same of its blocks of the arguments. -/
theorem out_at (x0 : FVec Ideal S1x2048x2048 .bf16) (x1 : FVec Ideal S1x512x2048 .bf16) (r : Fin 2048) (n : Fin 512) :
    out0_2 (F := Ideal) x0 x1 (ix2 r n) = ∑ k : Fin 2048, x0 (ix3 0 r k) * x1 (ix3 0 n k) := by
  frame_out
  pointwise [k0_pay1]

theorem idx0 : ∀ t : Fin cfg0.N, win0_0.index t = ![0, 0, 0] := (by decide +kernel : ∀ t : Fin grid0.N, win0_0.index t = ![0, 0, 0])
theorem idx1 : ∀ t : Fin cfg0.N, win0_1.index t = ![0, t.val, 0] := (by decide +kernel : ∀ t : Fin grid0.N, win0_1.index t = ![0, t.val, 0])
theorem idx2 : ∀ t : Fin cfg0.N, win0_2.index t = ![0, t.val] := (by decide +kernel : ∀ t : Fin grid0.N, win0_2.index t = ![0, t.val])

variable (m : (ℓ : Loc nD τ sig) → Buf (Elt Ideal) ℓ) (c : Dev nD)

/-- The arguments: the gradient arriving at the product, and the weights. -/
abbrev kD : FVec Ideal S2048x2048 .bf16 := m ((c : Thread nD τ).loc main_arg0)
abbrev kW : FVec Ideal S2048x2048 .bf16 := m ((c : Thread nD τ).loc main_arg1)

theorem V_d : V m c main_v0 = broadcastInDim S1x2048x2048 ![1, 2] bcast_S2048x2048_S1x2048x2048_1_2 (kD m c) := by
  after_results; rfl
theorem V_w : V m c main_v1 = broadcastInDim S1x2048x2048 ![1, 2] bcast_S2048x2048_S1x2048x2048_1_2 (kW m c) := by
  after_results; rfl

theorem lt_N (t : Fin cfg0.N) : (t : ℕ) < 4 := lt_of_lt_of_eq t.isLt N_0

theorem read_d (t : Fin cfg0.N) (X : FVec Ideal S1x2048x2048 .bf16) (r k : Fin 2048) :
    (((cfg0.win 0).blk t).view.read (Elt Ideal) X : FVec Ideal S1x2048x2048 .bf16) (ix3 0 r k) = X (ix3 0 r k) := by
  blk_ext [idx0 t]
theorem read_w (t : Fin cfg0.N) (X : FVec Ideal S1x2048x2048 .bf16) (n : Fin 512) (k : Fin 2048) :
    (((cfg0.win 1).blk t).view.read (Elt Ideal) X : FVec Ideal S1x512x2048 .bf16) (ix3 0 n k)
      = X (ix3 0 ⟨t * 512 + n, by have := lt_N t; omega⟩ k) := by
  blk_ext [idx1 t]
/-- The blocks a point reads, in the arguments. -/
theorem blk_d (t : Fin cfg0.N) (r k : Fin 2048) : (iblk m c 0 t : FVec Ideal S1x2048x2048 .bf16) (ix3 0 r k) = kD m c (ix2 r k) :=
  (read_d t (V m c main_v0) r k).trans (V_d m c ▸ lead_at _ _ _ _)
theorem blk_w (t : Fin cfg0.N) (n : Fin 512) (k : Fin 2048) : (iblk m c 1 t : FVec Ideal S1x512x2048 .bf16) (ix3 0 n k)
    = kW m c (ix2 ⟨t * 512 + n, by have := lt_N t; omega⟩ k) :=
  (read_w t (V m c main_v1) n k).trans (V_w m c ▸ lead_at _ _ _ _)
/-- Where its output block lies. -/
theorem place (t : Fin cfg0.N) (r : Fin 2048) (n : Fin 512) : ((win0_2.blk t).view.emb (ix2 r n) : S2048x2048.Idx)
    = ix2 r ⟨t * 512 + n, by have := lt_N t; omega⟩ := by
  blk_ext [idx2 t]

/-- The kernel's array is the reference's. -/
theorem arr : (dats m 0 c).arrAt 2 cfg0.N = ref (kD m c) (kW m c) := by
  refine (dats m 0 c).arrAt_eq_of_covers 2 _ (by decide +kernel) fun t hf y => ?_
  blk_simp
  rw [after0_2]
  obtain ⟨r, n, rfl⟩ := exists_ix2 (n0 := 2048) (n1 := 512) y
  refine (out_at _ _ r n).trans (Eq.trans ?_ (congrArg (ref (kD m c) (kW m c)) (place t r n).symm))
  rw [ref_at]
  exact Finset.sum_congr rfl fun k _ => congrArg₂ (· * ·) (blk_d m c t r k) (blk_w m c t n k)

end Cert.Product.OutGrad

end
-- ==== Proof.Product.OutWeight.lean ====
/- The gradient of a mixer's last product in its weights: the kernel's array is the reference's product `oᵀ · dy`. -/
module

public import proofs.«01_k».proof.Proof.Gen.OutWeightIdeal.Value
public import proofs.«01_k».proof.Proof.Gen.OutWeightRefIdeal.Run
public import proofs.«01_k».proof.Proof.Product.Index

@[expose] public section

set_option maxRecDepth 16384

noncomputable section

namespace Cert.Product.OutWeight

open Cert.OutWeightIdeal Cert.OutWeightIdeal.Gen Idealize.ShloMosaic Idealize.ShloMosaic.TcCoe Idealize.SL.Sem

/-- The gradient of the product's weights, as the reference has it. -/
def ref (A : FVec Ideal S2048x2048 .bf16) (B : FVec Ideal S2048x2048 .bf16) : FVec Ideal S1x2048x2048 .bf16 :=
  truncf .bf16 (broadcastInDim S1x2048x2048 ![1, 2] Cert.OutWeightRefIdeal.Facts₀.bcast_S2048x2048_S1x2048x2048_1_2
    (transpose Cert.OutWeightRefIdeal.S2048x2048 [1, 0] (Host.dotGeneral Cert.OutWeightRefIdeal.dot_S2048x2048_S2048x2048_S2048x2048_0_0_1_1_n_n none
      (extf .f32 B Cert.OutWeightRefIdeal.Facts₀.bitsLt_bf16_f32) (extf .f32 A Cert.OutWeightRefIdeal.Facts₀.bitsLt_bf16_f32)) Cert.OutWeightRefIdeal.Facts₀.transposes_S2048x2048_S2048x2048_1_0)) Cert.OutWeightRefIdeal.Facts₀.bitsLt_bf16_f32

/-- Its entries: a column of `A` times a column of `B`. -/
theorem ref_at (A : FVec Ideal S2048x2048 .bf16) (B : FVec Ideal S2048x2048 .bf16) (r : Fin 2048) (n : Fin 2048) :
    ref A B (ix3 0 r n) = ∑ k : Fin 2048, A (ix2 k r) * B (ix2 k n) := by
  pointwise [ref]
  exact Finset.sum_congr rfl fun k _ => mul_comm (G := EReal) _ _

/-- A point's block: the same of its blocks of the arguments. -/
theorem out_at (x0 : FVec Ideal S2048x2048 .bf16) (x1 : FVec Ideal S1x2048x512 .bf16) (r : Fin 2048) (n : Fin 512) :
    out0_2 (F := Ideal) x0 x1 (ix3 0 r n) = ∑ k : Fin 2048, x0 (ix2 k r) * x1 (ix3 0 k n) := by
  frame_out
  pointwise [k0_pay1]

theorem idx0 : ∀ t : Fin cfg0.N, win0_0.index t = ![0, 0] := (by decide +kernel : ∀ t : Fin grid0.N, win0_0.index t = ![0, 0])
theorem idx1 : ∀ t : Fin cfg0.N, win0_1.index t = ![0, 0, t.val] := (by decide +kernel : ∀ t : Fin grid0.N, win0_1.index t = ![0, 0, t.val])
theorem idx2 : ∀ t : Fin cfg0.N, win0_2.index t = ![0, 0, t.val] := (by decide +kernel : ∀ t : Fin grid0.N, win0_2.index t = ![0, 0, t.val])

variable (m : (ℓ : Loc nD τ sig) → Buf (Elt Ideal) ℓ) (c : Dev nD)

/-- The arguments: the product's argument, and the gradient arriving at it. -/
abbrev kA : FVec Ideal S2048x2048 .bf16 := m ((c : Thread nD τ).loc main_arg0)
abbrev kB : FVec Ideal S2048x2048 .bf16 := m ((c : Thread nD τ).loc main_arg1)

theorem V_a : V m c main_arg0 = kA m c := by
  rfl
theorem V_b : V m c main_v0 = broadcastInDim S1x2048x2048 ![1, 2] bcast_S2048x2048_S1x2048x2048_1_2 (kB m c) := by
  after_results; rfl

theorem lt_N (t : Fin cfg0.N) : (t : ℕ) < 4 := lt_of_lt_of_eq t.isLt N_0

theorem read_a (t : Fin cfg0.N) (X : FVec Ideal S2048x2048 .bf16) (k : Fin 2048) (r : Fin 2048) :
    (((cfg0.win 0).blk t).view.read (Elt Ideal) X : FVec Ideal S2048x2048 .bf16) (ix2 k r) = X (ix2 k r) := by
  blk_ext [idx0 t]
theorem read_b (t : Fin cfg0.N) (X : FVec Ideal S1x2048x2048 .bf16) (k : Fin 2048) (n : Fin 512) :
    (((cfg0.win 1).blk t).view.read (Elt Ideal) X : FVec Ideal S1x2048x512 .bf16) (ix3 0 k n) = X (ix3 0 k ⟨t * 512 + n, by have := lt_N t; omega⟩) := by
  blk_ext [idx1 t]
/-- The blocks a point reads, in the arguments. -/
theorem blk_a (t : Fin cfg0.N) (k : Fin 2048) (r : Fin 2048) : (iblk m c 0 t : FVec Ideal S2048x2048 .bf16) (ix2 k r)
    = kA m c (ix2 k r) := by
  unfold iblk
  rw [V_a]
  exact read_a t _ k r
theorem blk_b (t : Fin cfg0.N) (k : Fin 2048) (n : Fin 512) : (iblk m c 1 t : FVec Ideal S1x2048x512 .bf16) (ix3 0 k n)
    = kB m c (ix2 k ⟨t * 512 + n, by have := lt_N t; omega⟩) :=
  (read_b t (V m c main_v0) k n).trans (V_b m c ▸ lead_at _ _ _ _)
/-- Where its output block lies. -/
theorem place (t : Fin cfg0.N) (r : Fin 2048) (n : Fin 512) : ((win0_2.blk t).view.emb (ix3 0 r n) : S1x2048x2048.Idx)
    = ix3 0 r ⟨t * 512 + n, by have := lt_N t; omega⟩ := by
  blk_ext [idx2 t]

/-- The kernel's array is the reference's. -/
theorem arr : (dats m 0 c).arrAt 2 cfg0.N = ref (kA m c) (kB m c) := by
  refine (dats m 0 c).arrAt_eq_of_covers 2 _ (by decide +kernel) fun t hf y => ?_
  blk_simp
  rw [after0_2]
  obtain ⟨r, n, rfl⟩ := exists_ix3 (n1 := 2048) (n2 := 512) y
  refine (out_at _ _ r n).trans (Eq.trans ?_ (congrArg (ref (kA m c) (kB m c)) (place t r n).symm))
  rw [ref_at]
  exact Finset.sum_congr rfl fun k _ => congrArg₂ (· * ·) (blk_a m c t k r) (blk_b m c t k n)

end Cert.Product.OutWeight

end
-- ==== Proof.Product.FoxInGrad.lean ====
/- The gradient of the forgetting attention's first product in its argument: the kernel's array is the reference's product `dproj · wᵀ`.

   Seven points add into one block, a seventh of the contracted columns each. -/
module

public import proofs.«01_k».proof.Proof.Gen.FoxInGradIdeal.Value
public import proofs.«01_k».proof.Proof.Gen.FoxInGradRefIdeal.Run
public import proofs.«01_k».proof.Proof.Product.Index
public import Idealize.ShloMosaic.Lib.Pipeline.ReadBack

@[expose] public section

set_option maxRecDepth 16384

noncomputable section

namespace Cert.Product.FoxInGrad

open Cert.FoxInGradIdeal Cert.FoxInGradIdeal.Gen Idealize.ShloMosaic Idealize.ShloMosaic.TcCoe Idealize.SL.Sem

/-- The reference's gradient of the product in its argument. -/
def ref (A W : FVec Ideal S2048x6272 .bf16) : FVec Ideal S2048x2048 .f32 :=
  Host.dotGeneral Cert.FoxInGradRefIdeal.dot_S2048x6272_S2048x6272_S2048x2048_1_1_0_0_n_n none
    (extf .f32 A Cert.FoxInGradRefIdeal.Facts₀.bitsLt_bf16_f32) (extf .f32 W Cert.FoxInGradRefIdeal.Facts₀.bitsLt_bf16_f32)

/-- Its entries: a row of `A` times a row of `W`. -/
theorem ref_at (A W : FVec Ideal S2048x6272 .bf16) (r n : Fin 2048) : ref A W (ix2 r n) = ∑ k : Fin 6272, A (ix2 r k) * W (ix2 n k) := by
  pointwise [ref]

/-- What a point adds. -/
def term (x0 : FVec Ideal S1x2048x896 .bf16) (x1 : FVec Ideal S1x1024x896 .bf16) (r : Fin 2048) (n : Fin 1024) : EReal :=
  ∑ k : Fin 896, x0 (ix3 0 r k) * x1 (ix3 0 n k)

theorem pay2_at (v : FVec Ideal S2048x1024 .f32) (x0 : FVec Ideal S1x2048x896 .bf16) (x1 : FVec Ideal S1x1024x896 .bf16) (r : Fin 2048) (n : Fin 1024) :
    k0_pay2 v x0 x1 (ix2 r n) = v (ix2 r n) + term x0 x1 r n := by
  pointwise [k0_pay2, term]
theorem pay1_at (y : S2048x1024.Idx) : k0_pay1 (F := Ideal) y = 0 := by
  pointwise [k0_pay1]

theorem idx0 : ∀ t : Fin cfg0.N, win0_0.index t = ![0, 0, t.val % 7] := (by decide +kernel : ∀ t : Fin grid0.N, win0_0.index t = ![0, 0, t.val % 7])
theorem idx1 : ∀ t : Fin cfg0.N, win0_1.index t = ![0, t.val / 7, t.val % 7] := (by decide +kernel : ∀ t : Fin grid0.N, win0_1.index t = ![0, t.val / 7, t.val % 7])
theorem idx2 : ∀ t : Fin cfg0.N, win0_2.index t = ![0, t.val / 7] := (by decide +kernel : ∀ t : Fin grid0.N, win0_2.index t = ![0, t.val / 7])

variable (m : (ℓ : Loc nD τ sig) → Buf (Elt Ideal) ℓ) (c : Dev nD)

/-- The arguments: the gradient arriving at the product, and the weights. -/
abbrev kA : FVec Ideal S2048x6272 .bf16 := m ((c : Thread nD τ).loc main_arg0)
abbrev kW : FVec Ideal S2048x6272 .bf16 := m ((c : Thread nD τ).loc main_arg1)

theorem V_a : V m c main_v0 = broadcastInDim S1x2048x6272 ![1, 2] bcast_S2048x6272_S1x2048x6272_1_2 (kA m c) := by
  after_results; rfl
theorem V_w : V m c main_v1 = broadcastInDim S1x2048x6272 ![1, 2] bcast_S2048x6272_S1x2048x6272_1_2 (kW m c) := by
  after_results; rfl

theorem lt_N (t : Fin cfg0.N) : (t : ℕ) < 14 := lt_of_lt_of_eq t.isLt N_0

theorem read_a (t : Fin cfg0.N) (X : FVec Ideal S1x2048x6272 .bf16) (r : Fin 2048) (k : Fin 896) :
    (((cfg0.win 0).blk t).view.read (Elt Ideal) X : FVec Ideal S1x2048x896 .bf16) (ix3 0 r k) = X (ix3 0 r ⟨t % 7 * 896 + k, by omega⟩) := by
  blk_ext [idx0 t]
theorem read_w (t : Fin cfg0.N) (X : FVec Ideal S1x2048x6272 .bf16) (n : Fin 1024) (k : Fin 896) :
    (((cfg0.win 1).blk t).view.read (Elt Ideal) X : FVec Ideal S1x1024x896 .bf16) (ix3 0 n k)
      = X (ix3 0 ⟨t / 7 * 1024 + n, by have := lt_N t; omega⟩ ⟨t % 7 * 896 + k, by omega⟩) := by
  blk_ext [idx1 t]
/-- The blocks a point reads, in the arguments. -/
theorem blk_a (t : Fin cfg0.N) (r : Fin 2048) (k : Fin 896) : (iblk m c 0 t : FVec Ideal S1x2048x896 .bf16) (ix3 0 r k)
    = kA m c (ix2 r ⟨t % 7 * 896 + k, by omega⟩) :=
  (read_a t (V m c main_v0) r k).trans (V_a m c ▸ lead_at _ _ _ _)
theorem blk_w (t : Fin cfg0.N) (n : Fin 1024) (k : Fin 896) : (iblk m c 1 t : FVec Ideal S1x1024x896 .bf16) (ix3 0 n k)
    = kW m c (ix2 ⟨t / 7 * 1024 + n, by have := lt_N t; omega⟩ ⟨t % 7 * 896 + k, by omega⟩) :=
  (read_w t (V m c main_v1) n k).trans (V_w m c ▸ lead_at _ _ _ _)
/-- Where its output block lies. -/
theorem place (t : Fin cfg0.N) (r : Fin 2048) (n : Fin 1024) : ((win0_2.blk t).view.emb (ix2 r n) : S2048x2048.Idx)
    = ix2 r ⟨t / 7 * 1024 + n, by have := lt_N t; omega⟩ := by
  blk_ext [idx2 t]

/-- What the accumulated block holds after a run's first point, -/
theorem acc_first (t : Fin cfg0.N) (h : t.val % 7 = 0) (r : Fin 2048) (n : Fin 1024) :
    (outsAt0 m c t.val t.isLt).2 (ix2 r n) = 0 + term (iblk m c 0 t) (iblk m c 1 t) r n := by
  rw [outsAt0_A m c t h (by omega)]
  frame_out
  rw [pay2_at, pay1_at]
/-- and after each of its others. -/
theorem acc_next (t : Fin cfg0.N) (h : ¬t.val % 7 = 0) (r : Fin 2048) (n : Fin 1024) :
    (outsAt0 m c t.val t.isLt).2 (ix2 r n)
      = (outsAt0 m c (t.val - 1) (by have := t.isLt; omega)).2 (ix2 r n) + term (iblk m c 0 t) (iblk m c 1 t) r n := by
  by_cases h1 : t.val % 7 = 6
  · rw [outsAt0_C m c t h h1]
    frame_out
    rw [pay2_at, read_unread_whole]
  · rw [outsAt0_B m c t h h1]
    frame_out
    rw [pay2_at, read_unread_whole]
/-- The last point's output is what was accumulated. -/
theorem out_last (t : Fin cfg0.N) (h1 : t.val % 7 = 6) (r : Fin 2048) (n : Fin 1024) :
    (outsAt0 m c t.val t.isLt).1 (ix2 r n) = (outsAt0 m c t.val t.isLt).2 (ix2 r n) := by
  rw [outsAt0_C m c t (by omega) h1]
  frame_out

/-- A run's last point puts out the reference's block. -/
theorem out_at (t : Fin cfg0.N) (h : t.val % 7 = 6) (r : Fin 2048) (n : Fin 1024) :
    (outsAt0 m c t.val t.isLt).1 (ix2 r n) = ref (kA m c) (kW m c) (ix2 r ⟨t / 7 * 1024 + n, by have := lt_N t; omega⟩) := by
  rw [out_last m c t h, ref_at]
  refine run_dot 7 (show 6272 = 7 * 896 by norm_num) (fun k h => (outsAt0 m c k h).2 (ix2 r n)) (fun t => term (iblk m c 0 t) (iblk m c 1 t) r n)
    (fun t h => acc_first m c t h r n) (fun t h => acc_next m c t h r n) t h _ fun u s hs hq => Finset.sum_congr rfl fun k _ => ?_
  rw [blk_a, blk_w]
  simp only [hs, hq]

/-- The kernel's array is the reference's. -/
theorem arr : (dats m 0 c).arrAt 2 cfg0.N = ref (kA m c) (kW m c) := by
  refine (dats m 0 c).arrAt_eq_of_covers 2 _ (by decide +kernel) fun t hf y => ?_
  blk_simp
  rw [after0_2]
  obtain ⟨r, n, rfl⟩ := exists_ix2 (n0 := 2048) (n1 := 1024) y
  exact (out_at m c t ((flush0_2 t).mp hf) r n).trans (congrArg (ref (kA m c) (kW m c)) (place t r n).symm)

end Cert.Product.FoxInGrad

end
-- ==== Proof.Product.FoxInWeight.lean ====
/- The gradient of the forgetting attention's first product in its weights: the kernel's array is the reference's, transposed. -/
module

public import proofs.«01_k».proof.Proof.Gen.FoxInWeightIdeal.Value
public import proofs.«01_k».proof.Proof.Gen.FoxInWeightRefIdeal.Run
public import proofs.«01_k».proof.Proof.Product.Index

@[expose] public section

set_option maxRecDepth 16384

noncomputable section

namespace Cert.Product.FoxInWeight

open Cert.FoxInWeightIdeal Cert.FoxInWeightIdeal.Gen Idealize.ShloMosaic Idealize.ShloMosaic.TcCoe Idealize.SL.Sem

/-- The transposed gradient of the product's weights, as the reference has it. -/
def ref (A : FVec Ideal S2048x6272 .bf16) (B : FVec Ideal S2048x2048 .bf16) : FVec Ideal S1x6272x2048 .bf16 :=
  truncf .bf16 (broadcastInDim S1x6272x2048 ![1, 2] Cert.FoxInWeightRefIdeal.Facts₀.bcast_S6272x2048_S1x6272x2048_1_2
    (transpose Cert.FoxInWeightRefIdeal.S6272x2048 [1, 0] (transpose S2048x6272 [1, 0] (Host.dotGeneral Cert.FoxInWeightRefIdeal.dot_S2048x6272_S2048x2048_S6272x2048_0_0_1_1_n_n none
      (extf .f32 A Cert.FoxInWeightRefIdeal.Facts₀.bitsLt_bf16_f32) (extf .f32 B Cert.FoxInWeightRefIdeal.Facts₀.bitsLt_bf16_f32)) Cert.FoxInWeightRefIdeal.Facts₀.transposes_S6272x2048_S2048x6272_1_0)
      Cert.FoxInWeightRefIdeal.Facts₀.transposes_S2048x6272_S6272x2048_1_0)) Cert.FoxInWeightRefIdeal.Facts₀.bitsLt_bf16_f32

/-- Its entries: a column of `A` times a column of `B`. -/
theorem ref_at (A : FVec Ideal S2048x6272 .bf16) (B : FVec Ideal S2048x2048 .bf16) (r : Fin 6272) (n : Fin 2048) :
    ref A B (ix3 0 r n) = ∑ k : Fin 2048, A (ix2 k r) * B (ix2 k n) := by
  pointwise [ref]

/-- A point's block: the same of its blocks of the arguments. -/
theorem out_at (x0 : FVec Ideal S2048x896 .bf16) (x1 : FVec Ideal S1x2048x1024 .bf16) (r : Fin 896) (n : Fin 1024) :
    out0_2 (F := Ideal) x0 x1 (ix3 0 r n) = ∑ k : Fin 2048, x0 (ix2 k r) * x1 (ix3 0 k n) := by
  frame_out
  pointwise [k0_pay1]

theorem idx0 : ∀ t : Fin cfg0.N, win0_0.index t = ![0, t.val / 2] := (by decide +kernel : ∀ t : Fin grid0.N, win0_0.index t = ![0, t.val / 2])
theorem idx1 : ∀ t : Fin cfg0.N, win0_1.index t = ![0, 0, t.val % 2] := (by decide +kernel : ∀ t : Fin grid0.N, win0_1.index t = ![0, 0, t.val % 2])
theorem idx2 : ∀ t : Fin cfg0.N, win0_2.index t = ![0, t.val / 2, t.val % 2] := (by decide +kernel : ∀ t : Fin grid0.N, win0_2.index t = ![0, t.val / 2, t.val % 2])

variable (m : (ℓ : Loc nD τ sig) → Buf (Elt Ideal) ℓ) (c : Dev nD)

/-- The arguments: the gradient arriving at the product, and the product's argument. -/
abbrev kA : FVec Ideal S2048x6272 .bf16 := m ((c : Thread nD τ).loc main_arg0)
abbrev kB : FVec Ideal S2048x2048 .bf16 := m ((c : Thread nD τ).loc main_arg1)

theorem V_a : V m c main_arg0 = kA m c := by
  rfl
theorem V_b : V m c main_v0 = broadcastInDim S1x2048x2048 ![1, 2] bcast_S2048x2048_S1x2048x2048_1_2 (kB m c) := by
  after_results; rfl

theorem lt_N (t : Fin cfg0.N) : (t : ℕ) < 14 := lt_of_lt_of_eq t.isLt N_0

theorem read_a (t : Fin cfg0.N) (X : FVec Ideal S2048x6272 .bf16) (k : Fin 2048) (r : Fin 896) :
    (((cfg0.win 0).blk t).view.read (Elt Ideal) X : FVec Ideal S2048x896 .bf16) (ix2 k r) = X (ix2 k ⟨t / 2 * 896 + r, by have := lt_N t; omega⟩) := by
  blk_ext [idx0 t]
theorem read_b (t : Fin cfg0.N) (X : FVec Ideal S1x2048x2048 .bf16) (k : Fin 2048) (n : Fin 1024) :
    (((cfg0.win 1).blk t).view.read (Elt Ideal) X : FVec Ideal S1x2048x1024 .bf16) (ix3 0 k n) = X (ix3 0 k ⟨t % 2 * 1024 + n, by omega⟩) := by
  blk_ext [idx1 t]
/-- The blocks a point reads, in the arguments. -/
theorem blk_a (t : Fin cfg0.N) (k : Fin 2048) (r : Fin 896) : (iblk m c 0 t : FVec Ideal S2048x896 .bf16) (ix2 k r)
    = kA m c (ix2 k ⟨t / 2 * 896 + r, by have := lt_N t; omega⟩) := by
  unfold iblk
  rw [V_a]
  exact read_a t _ k r
theorem blk_b (t : Fin cfg0.N) (k : Fin 2048) (n : Fin 1024) : (iblk m c 1 t : FVec Ideal S1x2048x1024 .bf16) (ix3 0 k n)
    = kB m c (ix2 k ⟨t % 2 * 1024 + n, by omega⟩) :=
  (read_b t (V m c main_v0) k n).trans (V_b m c ▸ lead_at _ _ _ _)
/-- Where its output block lies. -/
theorem place (t : Fin cfg0.N) (r : Fin 896) (n : Fin 1024) : ((win0_2.blk t).view.emb (ix3 0 r n) : S1x6272x2048.Idx)
    = ix3 0 ⟨t / 2 * 896 + r, by have := lt_N t; omega⟩ ⟨t % 2 * 1024 + n, by omega⟩ := by
  blk_ext [idx2 t]

/-- The kernel's array is the reference's. -/
theorem arr : (dats m 0 c).arrAt 2 cfg0.N = ref (kA m c) (kB m c) := by
  refine (dats m 0 c).arrAt_eq_of_covers 2 _ (by decide +kernel) fun t hf y => ?_
  blk_simp
  rw [after0_2]
  obtain ⟨r, n, rfl⟩ := exists_ix3 (n1 := 896) (n2 := 1024) y
  refine (out_at _ _ r n).trans (Eq.trans ?_ (congrArg (ref (kA m c) (kB m c)) (place t r n).symm))
  rw [ref_at]
  exact Finset.sum_congr rfl fun k _ => congrArg₂ (· * ·) (blk_a m c t k r) (blk_b m c t k n)

end Cert.Product.FoxInWeight

end
-- ==== Proof.Product.SwaInGrad.lean ====
/- The gradient of the window attention's first product in its argument: the kernel's array is the reference's product `dproj · wᵀ`.

   Two points add into one block, half of the contracted columns each. -/
module

public import proofs.«01_k».proof.Proof.Gen.SwaInGradIdeal.Value
public import proofs.«01_k».proof.Proof.Gen.SwaInGradRefIdeal.Run
public import proofs.«01_k».proof.Proof.Product.Index
public import Idealize.ShloMosaic.Lib.Pipeline.ReadBack

@[expose] public section

set_option maxRecDepth 16384

noncomputable section

namespace Cert.Product.SwaInGrad

open Cert.SwaInGradIdeal Cert.SwaInGradIdeal.Gen Idealize.ShloMosaic Idealize.ShloMosaic.TcCoe Idealize.SL.Sem

/-- The reference's gradient of the product in its argument. -/
def ref (A W : FVec Ideal S2048x2560 .bf16) : FVec Ideal S2048x2048 .f32 :=
  Host.dotGeneral Cert.SwaInGradRefIdeal.dot_S2048x2560_S2048x2560_S2048x2048_1_1_0_0_n_n none
    (extf .f32 A Cert.SwaInGradRefIdeal.Facts₀.bitsLt_bf16_f32) (extf .f32 W Cert.SwaInGradRefIdeal.Facts₀.bitsLt_bf16_f32)

/-- Its entries: a row of `A` times a row of `W`. -/
theorem ref_at (A W : FVec Ideal S2048x2560 .bf16) (r n : Fin 2048) : ref A W (ix2 r n) = ∑ k : Fin 2560, A (ix2 r k) * W (ix2 n k) := by
  pointwise [ref]

/-- What a point adds. -/
def term (x0 : FVec Ideal S1x2048x1280 .bf16) (x1 : FVec Ideal S1x512x1280 .bf16) (r : Fin 2048) (n : Fin 512) : EReal :=
  ∑ k : Fin 1280, x0 (ix3 0 r k) * x1 (ix3 0 n k)

theorem pay2_at (v : FVec Ideal S2048x512 .f32) (x0 : FVec Ideal S1x2048x1280 .bf16) (x1 : FVec Ideal S1x512x1280 .bf16) (r : Fin 2048) (n : Fin 512) :
    k0_pay2 v x0 x1 (ix2 r n) = v (ix2 r n) + term x0 x1 r n := by
  pointwise [k0_pay2, term]
theorem pay1_at (y : S2048x512.Idx) : k0_pay1 (F := Ideal) y = 0 := by
  pointwise [k0_pay1]

theorem idx0 : ∀ t : Fin cfg0.N, win0_0.index t = ![0, 0, t.val % 2] := (by decide +kernel : ∀ t : Fin grid0.N, win0_0.index t = ![0, 0, t.val % 2])
theorem idx1 : ∀ t : Fin cfg0.N, win0_1.index t = ![0, t.val / 2, t.val % 2] := (by decide +kernel : ∀ t : Fin grid0.N, win0_1.index t = ![0, t.val / 2, t.val % 2])
theorem idx2 : ∀ t : Fin cfg0.N, win0_2.index t = ![0, t.val / 2] := (by decide +kernel : ∀ t : Fin grid0.N, win0_2.index t = ![0, t.val / 2])

variable (m : (ℓ : Loc nD τ sig) → Buf (Elt Ideal) ℓ) (c : Dev nD)

/-- The arguments: the gradient arriving at the product, and the weights. -/
abbrev kA : FVec Ideal S2048x2560 .bf16 := m ((c : Thread nD τ).loc main_arg0)
abbrev kW : FVec Ideal S2048x2560 .bf16 := m ((c : Thread nD τ).loc main_arg1)

theorem V_a : V m c main_v0 = broadcastInDim S1x2048x2560 ![1, 2] bcast_S2048x2560_S1x2048x2560_1_2 (kA m c) := by
  after_results; rfl
theorem V_w : V m c main_v1 = broadcastInDim S1x2048x2560 ![1, 2] bcast_S2048x2560_S1x2048x2560_1_2 (kW m c) := by
  after_results; rfl

theorem lt_N (t : Fin cfg0.N) : (t : ℕ) < 8 := lt_of_lt_of_eq t.isLt N_0

theorem read_a (t : Fin cfg0.N) (X : FVec Ideal S1x2048x2560 .bf16) (r : Fin 2048) (k : Fin 1280) :
    (((cfg0.win 0).blk t).view.read (Elt Ideal) X : FVec Ideal S1x2048x1280 .bf16) (ix3 0 r k) = X (ix3 0 r ⟨t % 2 * 1280 + k, by omega⟩) := by
  blk_ext [idx0 t]
theorem read_w (t : Fin cfg0.N) (X : FVec Ideal S1x2048x2560 .bf16) (n : Fin 512) (k : Fin 1280) :
    (((cfg0.win 1).blk t).view.read (Elt Ideal) X : FVec Ideal S1x512x1280 .bf16) (ix3 0 n k)
      = X (ix3 0 ⟨t / 2 * 512 + n, by have := lt_N t; omega⟩ ⟨t % 2 * 1280 + k, by omega⟩) := by
  blk_ext [idx1 t]
/-- The blocks a point reads, in the arguments. -/
theorem blk_a (t : Fin cfg0.N) (r : Fin 2048) (k : Fin 1280) : (iblk m c 0 t : FVec Ideal S1x2048x1280 .bf16) (ix3 0 r k)
    = kA m c (ix2 r ⟨t % 2 * 1280 + k, by omega⟩) :=
  (read_a t (V m c main_v0) r k).trans (V_a m c ▸ lead_at _ _ _ _)
theorem blk_w (t : Fin cfg0.N) (n : Fin 512) (k : Fin 1280) : (iblk m c 1 t : FVec Ideal S1x512x1280 .bf16) (ix3 0 n k)
    = kW m c (ix2 ⟨t / 2 * 512 + n, by have := lt_N t; omega⟩ ⟨t % 2 * 1280 + k, by omega⟩) :=
  (read_w t (V m c main_v1) n k).trans (V_w m c ▸ lead_at _ _ _ _)
/-- Where its output block lies. -/
theorem place (t : Fin cfg0.N) (r : Fin 2048) (n : Fin 512) : ((win0_2.blk t).view.emb (ix2 r n) : S2048x2048.Idx)
    = ix2 r ⟨t / 2 * 512 + n, by have := lt_N t; omega⟩ := by
  blk_ext [idx2 t]

/-- What the accumulated block holds after a run's first point, -/
theorem acc_first (t : Fin cfg0.N) (h : t.val % 2 = 0) (r : Fin 2048) (n : Fin 512) :
    (outsAt0 m c t.val t.isLt).2 (ix2 r n) = 0 + term (iblk m c 0 t) (iblk m c 1 t) r n := by
  rw [outsAt0_A m c t h (by omega)]
  frame_out
  rw [pay2_at, pay1_at]
/-- and after each of its others. -/
theorem acc_next (t : Fin cfg0.N) (h : ¬t.val % 2 = 0) (r : Fin 2048) (n : Fin 512) :
    (outsAt0 m c t.val t.isLt).2 (ix2 r n)
      = (outsAt0 m c (t.val - 1) (by have := t.isLt; omega)).2 (ix2 r n) + term (iblk m c 0 t) (iblk m c 1 t) r n := by
  rw [outsAt0_B m c t h (by omega)]
  frame_out
  rw [pay2_at, read_unread_whole]
/-- The last point's output is what was accumulated. -/
theorem out_last (t : Fin cfg0.N) (h1 : t.val % 2 = 1) (r : Fin 2048) (n : Fin 512) :
    (outsAt0 m c t.val t.isLt).1 (ix2 r n) = (outsAt0 m c t.val t.isLt).2 (ix2 r n) := by
  rw [outsAt0_B m c t (by omega) h1]
  frame_out

/-- A run's last point puts out the reference's block. -/
theorem out_at (t : Fin cfg0.N) (h : t.val % 2 = 1) (r : Fin 2048) (n : Fin 512) :
    (outsAt0 m c t.val t.isLt).1 (ix2 r n) = ref (kA m c) (kW m c) (ix2 r ⟨t / 2 * 512 + n, by have := lt_N t; omega⟩) := by
  rw [out_last m c t h, ref_at]
  refine run_dot 2 (show 2560 = 2 * 1280 by norm_num) (fun k h => (outsAt0 m c k h).2 (ix2 r n)) (fun t => term (iblk m c 0 t) (iblk m c 1 t) r n)
    (fun t h => acc_first m c t h r n) (fun t h => acc_next m c t h r n) t h _ fun u s hs hq => Finset.sum_congr rfl fun k _ => ?_
  rw [blk_a, blk_w]
  simp only [hs, hq]

/-- The kernel's array is the reference's. -/
theorem arr : (dats m 0 c).arrAt 2 cfg0.N = ref (kA m c) (kW m c) := by
  refine (dats m 0 c).arrAt_eq_of_covers 2 _ (by decide +kernel) fun t hf y => ?_
  blk_simp
  rw [after0_2]
  obtain ⟨r, n, rfl⟩ := exists_ix2 (n0 := 2048) (n1 := 512) y
  exact (out_at m c t ((flush0_2 t).mp hf) r n).trans (congrArg (ref (kA m c) (kW m c)) (place t r n).symm)

end Cert.Product.SwaInGrad

end
-- ==== Proof.Product.SwaInWeight.lean ====
/- The gradient of the window attention's first product in its weights: the kernel's array is the reference's, transposed. -/
module

public import proofs.«01_k».proof.Proof.Gen.SwaInWeightIdeal.Value
public import proofs.«01_k».proof.Proof.Gen.SwaInWeightRefIdeal.Run
public import proofs.«01_k».proof.Proof.Product.Index

@[expose] public section

set_option maxRecDepth 16384

noncomputable section

namespace Cert.Product.SwaInWeight

open Cert.SwaInWeightIdeal Cert.SwaInWeightIdeal.Gen Idealize.ShloMosaic Idealize.ShloMosaic.TcCoe Idealize.SL.Sem

/-- The transposed gradient of the product's weights, as the reference has it. -/
def ref (A : FVec Ideal S2048x2560 .bf16) (B : FVec Ideal S2048x2048 .bf16) : FVec Ideal S1x2560x2048 .bf16 :=
  truncf .bf16 (broadcastInDim S1x2560x2048 ![1, 2] Cert.SwaInWeightRefIdeal.Facts₀.bcast_S2560x2048_S1x2560x2048_1_2
    (transpose Cert.SwaInWeightRefIdeal.S2560x2048 [1, 0] (transpose S2048x2560 [1, 0] (Host.dotGeneral Cert.SwaInWeightRefIdeal.dot_S2048x2560_S2048x2048_S2560x2048_0_0_1_1_n_n none
      (extf .f32 A Cert.SwaInWeightRefIdeal.Facts₀.bitsLt_bf16_f32) (extf .f32 B Cert.SwaInWeightRefIdeal.Facts₀.bitsLt_bf16_f32)) Cert.SwaInWeightRefIdeal.Facts₀.transposes_S2560x2048_S2048x2560_1_0)
      Cert.SwaInWeightRefIdeal.Facts₀.transposes_S2048x2560_S2560x2048_1_0)) Cert.SwaInWeightRefIdeal.Facts₀.bitsLt_bf16_f32

/-- Its entries: a column of `A` times a column of `B`. -/
theorem ref_at (A : FVec Ideal S2048x2560 .bf16) (B : FVec Ideal S2048x2048 .bf16) (r : Fin 2560) (n : Fin 2048) :
    ref A B (ix3 0 r n) = ∑ k : Fin 2048, A (ix2 k r) * B (ix2 k n) := by
  pointwise [ref]

/-- A point's block: the same of its blocks of the arguments. -/
theorem out_at (x0 : FVec Ideal S2048x1280 .bf16) (x1 : FVec Ideal S1x2048x1024 .bf16) (r : Fin 1280) (n : Fin 1024) :
    out0_2 (F := Ideal) x0 x1 (ix3 0 r n) = ∑ k : Fin 2048, x0 (ix2 k r) * x1 (ix3 0 k n) := by
  frame_out
  pointwise [k0_pay1]

theorem idx0 : ∀ t : Fin cfg0.N, win0_0.index t = ![0, t.val / 2] := (by decide +kernel : ∀ t : Fin grid0.N, win0_0.index t = ![0, t.val / 2])
theorem idx1 : ∀ t : Fin cfg0.N, win0_1.index t = ![0, 0, t.val % 2] := (by decide +kernel : ∀ t : Fin grid0.N, win0_1.index t = ![0, 0, t.val % 2])
theorem idx2 : ∀ t : Fin cfg0.N, win0_2.index t = ![0, t.val / 2, t.val % 2] := (by decide +kernel : ∀ t : Fin grid0.N, win0_2.index t = ![0, t.val / 2, t.val % 2])

variable (m : (ℓ : Loc nD τ sig) → Buf (Elt Ideal) ℓ) (c : Dev nD)

/-- The arguments: the gradient arriving at the product, and the product's argument. -/
abbrev kA : FVec Ideal S2048x2560 .bf16 := m ((c : Thread nD τ).loc main_arg0)
abbrev kB : FVec Ideal S2048x2048 .bf16 := m ((c : Thread nD τ).loc main_arg1)

theorem V_a : V m c main_arg0 = kA m c := by
  rfl
theorem V_b : V m c main_v0 = broadcastInDim S1x2048x2048 ![1, 2] bcast_S2048x2048_S1x2048x2048_1_2 (kB m c) := by
  after_results; rfl

theorem lt_N (t : Fin cfg0.N) : (t : ℕ) < 4 := lt_of_lt_of_eq t.isLt N_0

theorem read_a (t : Fin cfg0.N) (X : FVec Ideal S2048x2560 .bf16) (k : Fin 2048) (r : Fin 1280) :
    (((cfg0.win 0).blk t).view.read (Elt Ideal) X : FVec Ideal S2048x1280 .bf16) (ix2 k r) = X (ix2 k ⟨t / 2 * 1280 + r, by have := lt_N t; omega⟩) := by
  blk_ext [idx0 t]
theorem read_b (t : Fin cfg0.N) (X : FVec Ideal S1x2048x2048 .bf16) (k : Fin 2048) (n : Fin 1024) :
    (((cfg0.win 1).blk t).view.read (Elt Ideal) X : FVec Ideal S1x2048x1024 .bf16) (ix3 0 k n) = X (ix3 0 k ⟨t % 2 * 1024 + n, by omega⟩) := by
  blk_ext [idx1 t]
/-- The blocks a point reads, in the arguments. -/
theorem blk_a (t : Fin cfg0.N) (k : Fin 2048) (r : Fin 1280) : (iblk m c 0 t : FVec Ideal S2048x1280 .bf16) (ix2 k r)
    = kA m c (ix2 k ⟨t / 2 * 1280 + r, by have := lt_N t; omega⟩) := by
  unfold iblk
  rw [V_a]
  exact read_a t _ k r
theorem blk_b (t : Fin cfg0.N) (k : Fin 2048) (n : Fin 1024) : (iblk m c 1 t : FVec Ideal S1x2048x1024 .bf16) (ix3 0 k n)
    = kB m c (ix2 k ⟨t % 2 * 1024 + n, by omega⟩) :=
  (read_b t (V m c main_v0) k n).trans (V_b m c ▸ lead_at _ _ _ _)
/-- Where its output block lies. -/
theorem place (t : Fin cfg0.N) (r : Fin 1280) (n : Fin 1024) : ((win0_2.blk t).view.emb (ix3 0 r n) : S1x2560x2048.Idx)
    = ix3 0 ⟨t / 2 * 1280 + r, by have := lt_N t; omega⟩ ⟨t % 2 * 1024 + n, by omega⟩ := by
  blk_ext [idx2 t]

/-- The kernel's array is the reference's. -/
theorem arr : (dats m 0 c).arrAt 2 cfg0.N = ref (kA m c) (kB m c) := by
  refine (dats m 0 c).arrAt_eq_of_covers 2 _ (by decide +kernel) fun t hf y => ?_
  blk_simp
  rw [after0_2]
  obtain ⟨r, n, rfl⟩ := exists_ix3 (n1 := 1280) (n2 := 1024) y
  refine (out_at _ _ r n).trans (Eq.trans ?_ (congrArg (ref (kA m c) (kB m c)) (place t r n).symm))
  rw [ref_at]
  exact Finset.sum_congr rfl fun k _ => congrArg₂ (· * ·) (blk_a m c t k r) (blk_b m c t k n)

end Cert.Product.SwaInWeight

end
-- ==== Proof.Product.OutProj.lean ====
/- A mixer's last product: the kernel's array is the reference's. -/
module

public import proofs.«01_k».proof.Proof.Gen.OutProjIdeal.Value
public import proofs.«01_k».proof.Proof.Gen.OutProjRefIdeal.Run
public import proofs.«01_k».proof.Proof.Product.Index

@[expose] public section

set_option maxRecDepth 16384

noncomputable section

namespace Cert.Product.OutProj

open Cert.OutProjIdeal Cert.OutProjIdeal.Gen Idealize.ShloMosaic Idealize.ShloMosaic.TcCoe Idealize.SL.Sem

/-- The reference's product. -/
def ref (A : FVec Ideal S2048x2048 .bf16) (W : FVec Ideal S2048x2048 .bf16) : FVec Ideal S2048x2048 .f32 :=
  Host.dotGeneral Cert.OutProjRefIdeal.dot_S2048x2048_S2048x2048_S2048x2048_1_0_0_1_n_n none
    (extf .f32 A Cert.OutProjRefIdeal.Facts₀.bitsLt_bf16_f32) (extf .f32 W Cert.OutProjRefIdeal.Facts₀.bitsLt_bf16_f32)

/-- Its entries: a row of `A` times a column of `W`. -/
theorem ref_at (A : FVec Ideal S2048x2048 .bf16) (W : FVec Ideal S2048x2048 .bf16) (r : Fin 2048) (n : Fin 2048) :
    ref A W (ix2 r n) = ∑ k : Fin 2048, A (ix2 r k) * W (ix2 k n) := by
  pointwise [ref]

/-- A point's block: the same of its blocks of the arguments. -/
theorem out_at (x0 : FVec Ideal S2048x2048 .bf16) (x1 : FVec Ideal S2048x512 .bf16) (r : Fin 2048) (n : Fin 512) :
    out0_2 (F := Ideal) x0 x1 (ix2 r n) = ∑ k : Fin 2048, x0 (ix2 r k) * x1 (ix2 k n) := by
  frame_out
  pointwise [k0_pay1]

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

variable (m : (ℓ : Loc nD τ sig) → Buf (Elt Ideal) ℓ) (c : Dev nD)

/-- The arguments: the product's argument, and the weights. -/
abbrev kA : FVec Ideal S2048x2048 .bf16 := m ((c : Thread nD τ).loc main_arg0)
abbrev kW : FVec Ideal S2048x2048 .bf16 := m ((c : Thread nD τ).loc main_arg1)

theorem lt_N (t : Fin cfg0.N) : (t : ℕ) < 4 := lt_of_lt_of_eq t.isLt N_0

/-- The blocks a point reads, in the arguments. -/
theorem blk_a (t : Fin cfg0.N) (r k : Fin 2048) : (iblk m c 0 t : FVec Ideal S2048x2048 .bf16) (ix2 r k) = kA m c (ix2 r k) := by
  blk_ext [iblk, V, idx0 t]
theorem blk_w (t : Fin cfg0.N) (k : Fin 2048) (n : Fin 512) : (iblk m c 1 t : FVec Ideal S2048x512 .bf16) (ix2 k n)
    = kW m c (ix2 k ⟨t * 512 + n, by have := lt_N t; omega⟩) := by
  blk_ext [iblk, V, idx1 t]
/-- Where its output block lies. -/
theorem place (t : Fin cfg0.N) (r : Fin 2048) (n : Fin 512) : ((win0_2.blk t).view.emb (ix2 r n) : S2048x2048.Idx)
    = ix2 r ⟨t * 512 + n, by have := lt_N t; omega⟩ := by
  blk_ext [idx2 t]

/-- The kernel's array is the reference's. -/
theorem arr : (dats m 0 c).arrAt 2 cfg0.N = ref (kA m c) (kW m c) := by
  refine (dats m 0 c).arrAt_eq_of_covers 2 _ (by decide +kernel) fun t hf y => ?_
  blk_simp
  rw [after0_2]
  obtain ⟨r, n, rfl⟩ := exists_ix2 (n0 := 2048) (n1 := 512) y
  refine (out_at _ _ r n).trans (Eq.trans ?_ (congrArg (ref (kA m c) (kW m c)) (place t r n).symm))
  rw [ref_at]
  exact Finset.sum_congr rfl fun k _ => congrArg₂ (· * ·) (blk_a m c t r k) (blk_w m c t k n)

end Cert.Product.OutProj

end
-- ==== Proof.Product.FoxIn.lean ====
/- The forgetting attention's first product: the kernel's array is the reference's. -/
module

public import proofs.«01_k».proof.Proof.Gen.FoxInIdeal.Value
public import proofs.«01_k».proof.Proof.Gen.FoxInRefIdeal.Run
public import proofs.«01_k».proof.Proof.Product.Index

@[expose] public section

set_option maxRecDepth 16384

noncomputable section

namespace Cert.Product.FoxIn

open Cert.FoxInIdeal Cert.FoxInIdeal.Gen Idealize.ShloMosaic Idealize.ShloMosaic.TcCoe Idealize.SL.Sem

/-- The reference's product. -/
def ref (A : FVec Ideal S2048x2048 .bf16) (W : FVec Ideal S2048x6272 .bf16) : FVec Ideal S2048x6272 .f32 :=
  Host.dotGeneral Cert.FoxInRefIdeal.dot_S2048x2048_S2048x6272_S2048x6272_1_0_0_1_n_n none
    (extf .f32 A Cert.FoxInRefIdeal.Facts₀.bitsLt_bf16_f32) (extf .f32 W Cert.FoxInRefIdeal.Facts₀.bitsLt_bf16_f32)

/-- Its entries: a row of `A` times a column of `W`. -/
theorem ref_at (A : FVec Ideal S2048x2048 .bf16) (W : FVec Ideal S2048x6272 .bf16) (r : Fin 2048) (n : Fin 6272) :
    ref A W (ix2 r n) = ∑ k : Fin 2048, A (ix2 r k) * W (ix2 k n) := by
  pointwise [ref]

/-- A point's block: the same of its blocks of the arguments. -/
theorem out_at (x0 : FVec Ideal S2048x2048 .bf16) (x1 : FVec Ideal S2048x896 .bf16) (r : Fin 2048) (n : Fin 896) :
    out0_2 (F := Ideal) x0 x1 (ix2 r n) = ∑ k : Fin 2048, x0 (ix2 r k) * x1 (ix2 k n) := by
  frame_out
  pointwise [k0_pay1]

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

variable (m : (ℓ : Loc nD τ sig) → Buf (Elt Ideal) ℓ) (c : Dev nD)

/-- The arguments: the product's argument, and the weights. -/
abbrev kA : FVec Ideal S2048x2048 .bf16 := m ((c : Thread nD τ).loc main_arg0)
abbrev kW : FVec Ideal S2048x6272 .bf16 := m ((c : Thread nD τ).loc main_arg1)

theorem lt_N (t : Fin cfg0.N) : (t : ℕ) < 7 := lt_of_lt_of_eq t.isLt N_0

/-- The blocks a point reads, in the arguments. -/
theorem blk_a (t : Fin cfg0.N) (r k : Fin 2048) : (iblk m c 0 t : FVec Ideal S2048x2048 .bf16) (ix2 r k) = kA m c (ix2 r k) := by
  blk_ext [iblk, V, idx0 t]
theorem blk_w (t : Fin cfg0.N) (k : Fin 2048) (n : Fin 896) : (iblk m c 1 t : FVec Ideal S2048x896 .bf16) (ix2 k n)
    = kW m c (ix2 k ⟨t * 896 + n, by have := lt_N t; omega⟩) := by
  blk_ext [iblk, V, idx1 t]
/-- Where its output block lies. -/
theorem place (t : Fin cfg0.N) (r : Fin 2048) (n : Fin 896) : ((win0_2.blk t).view.emb (ix2 r n) : S2048x6272.Idx)
    = ix2 r ⟨t * 896 + n, by have := lt_N t; omega⟩ := by
  blk_ext [idx2 t]

/-- The kernel's array is the reference's. -/
theorem arr : (dats m 0 c).arrAt 2 cfg0.N = ref (kA m c) (kW m c) := by
  refine (dats m 0 c).arrAt_eq_of_covers 2 _ (by decide +kernel) fun t hf y => ?_
  blk_simp
  rw [after0_2]
  obtain ⟨r, n, rfl⟩ := exists_ix2 (n0 := 2048) (n1 := 896) y
  refine (out_at _ _ r n).trans (Eq.trans ?_ (congrArg (ref (kA m c) (kW m c)) (place t r n).symm))
  rw [ref_at]
  exact Finset.sum_congr rfl fun k _ => congrArg₂ (· * ·) (blk_a m c t r k) (blk_w m c t k n)

end Cert.Product.FoxIn

end
-- ==== Proof.Product.SwaIn.lean ====
/- The window attention's first product: the kernel's array is the reference's. -/
module

public import proofs.«01_k».proof.Proof.Gen.SwaInIdeal.Value
public import proofs.«01_k».proof.Proof.Gen.SwaInRefIdeal.Run
public import proofs.«01_k».proof.Proof.Product.Index

@[expose] public section

set_option maxRecDepth 16384

noncomputable section

namespace Cert.Product.SwaIn

open Cert.SwaInIdeal Cert.SwaInIdeal.Gen Idealize.ShloMosaic Idealize.ShloMosaic.TcCoe Idealize.SL.Sem

/-- The reference's product. -/
def ref (A : FVec Ideal S2048x2048 .bf16) (W : FVec Ideal S2048x2560 .bf16) : FVec Ideal S2048x2560 .f32 :=
  Host.dotGeneral Cert.SwaInRefIdeal.dot_S2048x2048_S2048x2560_S2048x2560_1_0_0_1_n_n none
    (extf .f32 A Cert.SwaInRefIdeal.Facts₀.bitsLt_bf16_f32) (extf .f32 W Cert.SwaInRefIdeal.Facts₀.bitsLt_bf16_f32)

/-- Its entries: a row of `A` times a column of `W`. -/
theorem ref_at (A : FVec Ideal S2048x2048 .bf16) (W : FVec Ideal S2048x2560 .bf16) (r : Fin 2048) (n : Fin 2560) :
    ref A W (ix2 r n) = ∑ k : Fin 2048, A (ix2 r k) * W (ix2 k n) := by
  pointwise [ref]

/-- A point's block: the same of its blocks of the arguments. -/
theorem out_at (x0 : FVec Ideal S2048x2048 .bf16) (x1 : FVec Ideal S2048x512 .bf16) (r : Fin 2048) (n : Fin 512) :
    out0_2 (F := Ideal) x0 x1 (ix2 r n) = ∑ k : Fin 2048, x0 (ix2 r k) * x1 (ix2 k n) := by
  frame_out
  pointwise [k0_pay1]

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

variable (m : (ℓ : Loc nD τ sig) → Buf (Elt Ideal) ℓ) (c : Dev nD)

/-- The arguments: the product's argument, and the weights. -/
abbrev kA : FVec Ideal S2048x2048 .bf16 := m ((c : Thread nD τ).loc main_arg0)
abbrev kW : FVec Ideal S2048x2560 .bf16 := m ((c : Thread nD τ).loc main_arg1)

theorem lt_N (t : Fin cfg0.N) : (t : ℕ) < 5 := lt_of_lt_of_eq t.isLt N_0

/-- The blocks a point reads, in the arguments. -/
theorem blk_a (t : Fin cfg0.N) (r k : Fin 2048) : (iblk m c 0 t : FVec Ideal S2048x2048 .bf16) (ix2 r k) = kA m c (ix2 r k) := by
  blk_ext [iblk, V, idx0 t]
theorem blk_w (t : Fin cfg0.N) (k : Fin 2048) (n : Fin 512) : (iblk m c 1 t : FVec Ideal S2048x512 .bf16) (ix2 k n)
    = kW m c (ix2 k ⟨t * 512 + n, by have := lt_N t; omega⟩) := by
  blk_ext [iblk, V, idx1 t]
/-- Where its output block lies. -/
theorem place (t : Fin cfg0.N) (r : Fin 2048) (n : Fin 512) : ((win0_2.blk t).view.emb (ix2 r n) : S2048x2560.Idx)
    = ix2 r ⟨t * 512 + n, by have := lt_N t; omega⟩ := by
  blk_ext [idx2 t]

/-- The kernel's array is the reference's. -/
theorem arr : (dats m 0 c).arrAt 2 cfg0.N = ref (kA m c) (kW m c) := by
  refine (dats m 0 c).arrAt_eq_of_covers 2 _ (by decide +kernel) fun t hf y => ?_
  blk_simp
  rw [after0_2]
  obtain ⟨r, n, rfl⟩ := exists_ix2 (n0 := 2048) (n1 := 512) y
  refine (out_at _ _ r n).trans (Eq.trans ?_ (congrArg (ref (kA m c) (kW m c)) (place t r n).symm))
  rw [ref_at]
  exact Finset.sum_congr rfl fun k _ => congrArg₂ (· * ·) (blk_a m c t r k) (blk_w m c t k n)

end Cert.Product.SwaIn

end
-- ==== Proof.Product.Down.lean ====
/- The feed-forward's last product: the kernel's array is the reference's.

   Two points add into one block, half of the contracted columns each. -/
module

public import proofs.«01_k».proof.Proof.Gen.DownIdeal.Value
public import proofs.«01_k».proof.Proof.Gen.DownRefIdeal.Run
public import proofs.«01_k».proof.Proof.Product.Index
public import Idealize.ShloMosaic.Lib.Pipeline.ReadBack

@[expose] public section

set_option maxRecDepth 16384

noncomputable section

namespace Cert.Product.Down

open Cert.DownIdeal Cert.DownIdeal.Gen Idealize.ShloMosaic Idealize.ShloMosaic.TcCoe Idealize.SL.Sem

/-- The reference's product. -/
def ref (A : FVec Ideal S2048x5632 .bf16) (W : FVec Ideal S5632x2048 .bf16) : FVec Ideal S2048x2048 .f32 :=
  Host.dotGeneral Cert.DownRefIdeal.dot_S2048x5632_S5632x2048_S2048x2048_1_0_0_1_n_n none
    (extf .f32 A Cert.DownRefIdeal.Facts₀.bitsLt_bf16_f32) (extf .f32 W Cert.DownRefIdeal.Facts₀.bitsLt_bf16_f32)

/-- Its entries: a row of `A` times a column of `W`. -/
theorem ref_at (A : FVec Ideal S2048x5632 .bf16) (W : FVec Ideal S5632x2048 .bf16) (r n : Fin 2048) :
    ref A W (ix2 r n) = ∑ k : Fin 5632, A (ix2 r k) * W (ix2 k n) := by
  pointwise [ref]

/-- What a point adds. -/
def term (x0 : FVec Ideal S2048x2816 .bf16) (x1 : FVec Ideal S2816x512 .bf16) (r : Fin 2048) (n : Fin 512) : EReal :=
  ∑ k : Fin 2816, x0 (ix2 r k) * x1 (ix2 k n)

theorem pay2_at (v : FVec Ideal S2048x512 .f32) (x0 : FVec Ideal S2048x2816 .bf16) (x1 : FVec Ideal S2816x512 .bf16) (r : Fin 2048) (n : Fin 512) :
    k0_pay2 v x0 x1 (ix2 r n) = v (ix2 r n) + term x0 x1 r n := by
  pointwise [k0_pay2, term]
theorem pay1_at (y : S2048x512.Idx) : k0_pay1 (F := Ideal) y = 0 := by
  pointwise [k0_pay1]

theorem idx0 : ∀ t : Fin cfg0.N, win0_0.index t = ![0, t.val % 2] := (by decide +kernel : ∀ t : Fin grid0.N, win0_0.index t = ![0, t.val % 2])
theorem idx1 : ∀ t : Fin cfg0.N, win0_1.index t = ![t.val % 2, t.val / 2] := (by decide +kernel : ∀ t : Fin grid0.N, win0_1.index t = ![t.val % 2, t.val / 2])
theorem idx2 : ∀ t : Fin cfg0.N, win0_2.index t = ![0, t.val / 2] := (by decide +kernel : ∀ t : Fin grid0.N, win0_2.index t = ![0, t.val / 2])

variable (m : (ℓ : Loc nD τ sig) → Buf (Elt Ideal) ℓ) (c : Dev nD)

/-- The arguments: the product's argument, and the weights. -/
abbrev kA : FVec Ideal S2048x5632 .bf16 := m ((c : Thread nD τ).loc main_arg0)
abbrev kW : FVec Ideal S5632x2048 .bf16 := m ((c : Thread nD τ).loc main_arg1)

theorem lt_N (t : Fin cfg0.N) : (t : ℕ) < 8 := lt_of_lt_of_eq t.isLt N_0

/-- The blocks a point reads, in the arguments. -/
theorem blk_a (t : Fin cfg0.N) (r : Fin 2048) (k : Fin 2816) : (iblk m c 0 t : FVec Ideal S2048x2816 .bf16) (ix2 r k)
    = kA m c (ix2 r ⟨t % 2 * 2816 + k, by omega⟩) := by
  blk_ext [iblk, V, idx0 t]
theorem blk_w (t : Fin cfg0.N) (k : Fin 2816) (n : Fin 512) : (iblk m c 1 t : FVec Ideal S2816x512 .bf16) (ix2 k n)
    = kW m c (ix2 ⟨t % 2 * 2816 + k, by omega⟩ ⟨t / 2 * 512 + n, by have := lt_N t; omega⟩) := by
  blk_ext [iblk, V, idx1 t]
/-- Where its output block lies. -/
theorem place (t : Fin cfg0.N) (r : Fin 2048) (n : Fin 512) : ((win0_2.blk t).view.emb (ix2 r n) : S2048x2048.Idx)
    = ix2 r ⟨t / 2 * 512 + n, by have := lt_N t; omega⟩ := by
  blk_ext [idx2 t]

/-- What the accumulated block holds after a run's first point, -/
theorem acc_first (t : Fin cfg0.N) (h : t.val % 2 = 0) (r : Fin 2048) (n : Fin 512) :
    (outsAt0 m c t.val t.isLt).2 (ix2 r n) = 0 + term (iblk m c 0 t) (iblk m c 1 t) r n := by
  rw [outsAt0_A m c t h (by omega)]
  frame_out
  rw [pay2_at, pay1_at]
/-- and after each of its others. -/
theorem acc_next (t : Fin cfg0.N) (h : ¬t.val % 2 = 0) (r : Fin 2048) (n : Fin 512) :
    (outsAt0 m c t.val t.isLt).2 (ix2 r n)
      = (outsAt0 m c (t.val - 1) (by have := t.isLt; omega)).2 (ix2 r n) + term (iblk m c 0 t) (iblk m c 1 t) r n := by
  rw [outsAt0_B m c t h (by omega)]
  frame_out
  rw [pay2_at, read_unread_whole]
/-- The last point's output is what was accumulated. -/
theorem out_last (t : Fin cfg0.N) (h1 : t.val % 2 = 1) (r : Fin 2048) (n : Fin 512) :
    (outsAt0 m c t.val t.isLt).1 (ix2 r n) = (outsAt0 m c t.val t.isLt).2 (ix2 r n) := by
  rw [outsAt0_B m c t (by omega) h1]
  frame_out

/-- A run's last point puts out the reference's block. -/
theorem out_at (t : Fin cfg0.N) (h : t.val % 2 = 1) (r : Fin 2048) (n : Fin 512) :
    (outsAt0 m c t.val t.isLt).1 (ix2 r n) = ref (kA m c) (kW m c) (ix2 r ⟨t / 2 * 512 + n, by have := lt_N t; omega⟩) := by
  rw [out_last m c t h, ref_at]
  refine run_dot 2 (show 5632 = 2 * 2816 by norm_num) (fun k h => (outsAt0 m c k h).2 (ix2 r n)) (fun t => term (iblk m c 0 t) (iblk m c 1 t) r n)
    (fun t h => acc_first m c t h r n) (fun t h => acc_next m c t h r n) t h _ fun u s hs hq => Finset.sum_congr rfl fun k _ => ?_
  rw [blk_a, blk_w]
  simp only [hs, hq]

/-- The kernel's array is the reference's. -/
theorem arr : (dats m 0 c).arrAt 2 cfg0.N = ref (kA m c) (kW m c) := by
  refine (dats m 0 c).arrAt_eq_of_covers 2 _ (by decide +kernel) fun t hf y => ?_
  blk_simp
  rw [after0_2]
  obtain ⟨r, n, rfl⟩ := exists_ix2 (n0 := 2048) (n1 := 512) y
  exact (out_at m c t ((flush0_2 t).mp hf) r n).trans (congrArg (ref (kA m c) (kW m c)) (place t r n).symm)

end Cert.Product.Down

end
-- ==== Proof.Product.Claims.lean ====
/- The claims about the products: kernel and reference run to the same array. -/
module

public import proofs.«01_k».proof.Defs
public import proofs.«01_k».proof.Proof.Product.Agree
public import proofs.«01_k».proof.Proof.Product.DownGrad
public import proofs.«01_k».proof.Proof.Product.DownWeight
public import proofs.«01_k».proof.Proof.Product.UpGrad
public import proofs.«01_k».proof.Proof.Product.UpWeight
public import proofs.«01_k».proof.Proof.Product.OutGrad
public import proofs.«01_k».proof.Proof.Product.OutWeight
public import proofs.«01_k».proof.Proof.Product.FoxInGrad
public import proofs.«01_k».proof.Proof.Product.FoxInWeight
public import proofs.«01_k».proof.Proof.Product.SwaInGrad
public import proofs.«01_k».proof.Proof.Product.SwaInWeight
public import proofs.«01_k».proof.Proof.Product.OutProj
public import proofs.«01_k».proof.Proof.Product.FoxIn
public import proofs.«01_k».proof.Proof.Product.SwaIn
public import proofs.«01_k».proof.Proof.Product.Down

@[expose] public section

noncomputable section

namespace Cert.Product

open Idealize.ShloMosaic Idealize.SL.Sem

theorem algebraic_downGrad : Cert.algebraic_DownGradIdeal_DownGradRefIdeal := fun m g m' g' _ hargs =>
  agree _ _ (fun c => DownGrad.ref (DownGrad.kD m c) (DownGrad.kW m c)) (Cert.DownGradIdeal.Value.run_blocks m g)
    (Cert.DownGradRefIdeal.Value.run (F := Ideal) m' g') (DownGrad.arr m) fun c => congrArg₂ DownGrad.ref (hargs c).1 (hargs c).2

theorem algebraic_downWeight : Cert.algebraic_DownWeightIdeal_DownWeightRefIdeal := fun m g m' g' _ hargs =>
  agree _ _ (fun c => DownWeight.ref (DownWeight.kA m c) (DownWeight.kD m c)) (Cert.DownWeightIdeal.Value.run_blocks m g)
    (Cert.DownWeightRefIdeal.Value.run (F := Ideal) m' g') (DownWeight.arr m) fun c => congrArg₂ DownWeight.ref (hargs c).1 (hargs c).2

theorem algebraic_upGrad : Cert.algebraic_UpGradIdeal_UpGradRefIdeal := fun m g m' g' _ hargs =>
  agree _ _ (fun c => UpGrad.ref (UpGrad.kD m c) (UpGrad.kW m c)) (Cert.UpGradIdeal.Value.run_blocks m g)
    (Cert.UpGradRefIdeal.Value.run (F := Ideal) m' g') (UpGrad.arr m) fun c => congrArg₂ UpGrad.ref (hargs c).1 (hargs c).2

theorem algebraic_upWeight : Cert.algebraic_UpWeightIdeal_UpWeightRefIdeal := fun m g m' g' _ hargs =>
  agree _ _ (fun c => UpWeight.ref (UpWeight.kH m c) (UpWeight.kD m c)) (Cert.UpWeightIdeal.Value.run_blocks m g)
    (Cert.UpWeightRefIdeal.Value.run (F := Ideal) m' g') (UpWeight.arr m) fun c => congrArg₂ UpWeight.ref (hargs c).1 (hargs c).2

theorem algebraic_outGrad : Cert.algebraic_OutGradIdeal_OutGradRefIdeal := fun m g m' g' _ hargs =>
  agree _ _ (fun c => OutGrad.ref (OutGrad.kD m c) (OutGrad.kW m c)) (Cert.OutGradIdeal.Value.run_blocks m g)
    (Cert.OutGradRefIdeal.Value.run (F := Ideal) m' g') (OutGrad.arr m) fun c => congrArg₂ OutGrad.ref (hargs c).1 (hargs c).2

theorem algebraic_outWeight : Cert.algebraic_OutWeightIdeal_OutWeightRefIdeal := fun m g m' g' _ hargs =>
  agree _ _ (fun c => OutWeight.ref (OutWeight.kA m c) (OutWeight.kB m c)) (Cert.OutWeightIdeal.Value.run_blocks m g)
    (Cert.OutWeightRefIdeal.Value.run (F := Ideal) m' g') (OutWeight.arr m) fun c => congrArg₂ OutWeight.ref (hargs c).1 (hargs c).2

theorem algebraic_foxInGrad : Cert.algebraic_FoxInGradIdeal_FoxInGradRefIdeal := fun m g m' g' _ hargs =>
  agree _ _ (fun c => FoxInGrad.ref (FoxInGrad.kA m c) (FoxInGrad.kW m c)) (Cert.FoxInGradIdeal.Value.run_blocks m g)
    (Cert.FoxInGradRefIdeal.Value.run (F := Ideal) m' g') (FoxInGrad.arr m) fun c => congrArg₂ FoxInGrad.ref (hargs c).1 (hargs c).2

theorem algebraic_foxInWeight : Cert.algebraic_FoxInWeightIdeal_FoxInWeightRefIdeal := fun m g m' g' _ hargs =>
  agree _ _ (fun c => FoxInWeight.ref (FoxInWeight.kA m c) (FoxInWeight.kB m c)) (Cert.FoxInWeightIdeal.Value.run_blocks m g)
    (Cert.FoxInWeightRefIdeal.Value.run (F := Ideal) m' g') (FoxInWeight.arr m) fun c => congrArg₂ FoxInWeight.ref (hargs c).1 (hargs c).2

theorem algebraic_swaInGrad : Cert.algebraic_SwaInGradIdeal_SwaInGradRefIdeal := fun m g m' g' _ hargs =>
  agree _ _ (fun c => SwaInGrad.ref (SwaInGrad.kA m c) (SwaInGrad.kW m c)) (Cert.SwaInGradIdeal.Value.run_blocks m g)
    (Cert.SwaInGradRefIdeal.Value.run (F := Ideal) m' g') (SwaInGrad.arr m) fun c => congrArg₂ SwaInGrad.ref (hargs c).1 (hargs c).2

theorem algebraic_swaInWeight : Cert.algebraic_SwaInWeightIdeal_SwaInWeightRefIdeal := fun m g m' g' _ hargs =>
  agree _ _ (fun c => SwaInWeight.ref (SwaInWeight.kA m c) (SwaInWeight.kB m c)) (Cert.SwaInWeightIdeal.Value.run_blocks m g)
    (Cert.SwaInWeightRefIdeal.Value.run (F := Ideal) m' g') (SwaInWeight.arr m) fun c => congrArg₂ SwaInWeight.ref (hargs c).1 (hargs c).2

theorem algebraic_outProj : Cert.algebraic_OutProjIdeal_OutProjRefIdeal := fun m g m' g' _ hargs =>
  agree _ _ (fun c => OutProj.ref (OutProj.kA m c) (OutProj.kW m c)) (Cert.OutProjIdeal.Value.run_blocks m g)
    (Cert.OutProjRefIdeal.Value.run (F := Ideal) m' g') (OutProj.arr m) fun c => congrArg₂ OutProj.ref (hargs c).1 (hargs c).2

theorem algebraic_foxIn : Cert.algebraic_FoxInIdeal_FoxInRefIdeal := fun m g m' g' _ hargs =>
  agree _ _ (fun c => FoxIn.ref (FoxIn.kA m c) (FoxIn.kW m c)) (Cert.FoxInIdeal.Value.run_blocks m g)
    (Cert.FoxInRefIdeal.Value.run (F := Ideal) m' g') (FoxIn.arr m) fun c => congrArg₂ FoxIn.ref (hargs c).1 (hargs c).2

theorem algebraic_swaIn : Cert.algebraic_SwaInIdeal_SwaInRefIdeal := fun m g m' g' _ hargs =>
  agree _ _ (fun c => SwaIn.ref (SwaIn.kA m c) (SwaIn.kW m c)) (Cert.SwaInIdeal.Value.run_blocks m g)
    (Cert.SwaInRefIdeal.Value.run (F := Ideal) m' g') (SwaIn.arr m) fun c => congrArg₂ SwaIn.ref (hargs c).1 (hargs c).2

theorem algebraic_down : Cert.algebraic_DownIdeal_DownRefIdeal := fun m g m' g' _ hargs =>
  agree _ _ (fun c => Down.ref (Down.kA m c) (Down.kW m c)) (Cert.DownIdeal.Value.run_blocks m g)
    (Cert.DownRefIdeal.Value.run (F := Ideal) m' g') (Down.arr m) fun c => congrArg₂ Down.ref (hargs c).1 (hargs c).2

end Cert.Product

end
-- ==== Proof.FfnUp.Spec.lean ====
/- A causal convolution of length three along a sequence, on a piece of the sequence and on the whole; and the gate. -/
module

public import Idealize.ShloMosaic.Lib.Pipeline.ValueKit
public import Idealize.ShloMosaic.Lib.Pointwise

@[expose] public section

noncomputable section

namespace Cert.FfnUp

open Idealize.ShloMosaic

variable {L L' : ℕ}

/-- A sequence moved `d` places later, zero before its start. -/
def back (d : ℕ) (u : Fin L → EReal) (r : Fin L) : EReal := if d ≤ r.val then u ⟨r.val - d, by omega⟩ else 0

/-- The convolution with the coefficients `a`, the last of them the present entry's, and the offset `b`. -/
def conv (u : Fin L → EReal) (a : Fin 3 → EReal) (b : EReal) (r : Fin L) : EReal :=
  back 2 u r * a 0 + back 1 u r * a 1 + u r * a 2 + b

theorem back_piece (d off : ℕ) (u : Fin L → EReal) (u' : Fin L' → EReal) (h : off + L ≤ L') (hu : ∀ j : Fin L, u j = u' ⟨off + j, by omega⟩)
    (i : Fin L) (hi : off = 0 ∨ d ≤ i.val) (r : Fin L') (hr : r.val = off + i) : back d u i = back d u' r := by
  unfold back
  by_cases hd : d ≤ i.val
  · rw [if_pos hd, if_pos (by omega), hu]
    exact congrArg u' (Fin.ext (by show off + (i.val - d) = r.val - d; omega))
  · rw [if_neg hd, if_neg (by omega)]

/-- On a piece that starts the sequence, or from its third entry on, the convolution of the piece is the sequence's. -/
theorem conv_piece (off : ℕ) (u : Fin L → EReal) (u' : Fin L' → EReal) (h : off + L ≤ L') (hu : ∀ j : Fin L, u j = u' ⟨off + j, by omega⟩)
    (a : Fin 3 → EReal) (b : EReal) (i : Fin L) (hi : off = 0 ∨ 2 ≤ i.val) (r : Fin L') (hr : r.val = off + i) : conv u a b i = conv u' a b r := by
  unfold conv
  rw [back_piece 2 off u u' h hu i hi r hr, back_piece 1 off u u' h hu i (hi.imp_right (by omega)) r hr, hu,
    show (⟨off + i, by omega⟩ : Fin L') = r from Fin.ext hr.symm]

/-- The gate: `g` times the sigmoid of `g`, times `v`. -/
def gate (g v : EReal) : EReal := g * Ideal.div 1 (1 + Ideal.exp (-g)) * v

/-! The up part of the feed-forward layer on `N` columns of either half: the products, their convolutions along the
sequence, and the gated result. -/

variable {N : ℕ} (h : (⟨2, ![2048, 2048]⟩ : Shape).Idx → EReal) (w : (⟨3, ![2, 2048, N]⟩ : Shape).Idx → EReal)
  (cw : (⟨3, ![2, 3, N]⟩ : Shape).Idx → EReal) (cb : (⟨3, ![2, 1, N]⟩ : Shape).Idx → EReal)

def colU (p : Fin 2) (n : Fin N) (r : Fin 2048) : EReal := ∑ e : Fin 2048, h (ix2 r e) * w (ix3 p e n)
def colC (p : Fin 2) (n : Fin N) (r : Fin 2048) : EReal := conv (colU h w p n) (fun s => cw (ix3 p s n)) (cb (ix3 p 0 n)) r
def colA (n : Fin N) (r : Fin 2048) : EReal := gate (colC h w cw cb 0 n r) (colC h w cw cb 1 n r)

end Cert.FfnUp

end
-- ==== Proof.FfnUp.Pay.lean ====
/- What a grid point of the up kernel computes, entry by entry: the payloads of its stores. -/
module

public import proofs.«01_k».proof.Proof.Gen.UpIdeal.Frame
public import proofs.«01_k».proof.Proof.FfnUp.Spec

@[expose] public section

set_option maxRecDepth 16384

noncomputable section

namespace Cert.FfnUp

open Cert.UpIdeal Cert.UpIdeal.Gen Idealize.ShloMosaic Idealize.ShloMosaic.TcCoe

/-- The printed mask is the comparison of the numbers. -/
theorem select_ge (k d : ℕ) (hk : k < 2 ^ 31) (hd : d < 2 ^ 31) (x y : EReal) :
    Scalar.select (IntOp.cmpi CmpIPredicate.sge (BitVec.ofNat 32 k) (BitVec.ofNat 32 d)) x y = if d ≤ k then x else y := by
  have toInt (n : ℕ) (h : n < 2 ^ 31) : (BitVec.ofNat 32 n).toInt = n := by
    have e : (BitVec.ofNat 32 n).toNat = n := by rw [BitVec.toNat_ofNat, Nat.mod_eq_of_lt (by omega)]
    rw [BitVec.toInt_eq_toNat_of_lt (by omega), e]
  show (if BitVec.ofBool ((BitVec.ofNat 32 d).sle (BitVec.ofNat 32 k)) = 1 then x else y) = _
  rw [BitVec.sle_eq_decide, toInt k hk, toInt d hd]
  by_cases h : d ≤ k <;> simp [h]

/-- A rotation by `d` whose first `d` entries are replaced by zero. -/
theorem select_back {L : ℕ} (hL : L < 2 ^ 31) (d : ℕ) (hd : d < 2 ^ 31) (u : Fin L → EReal) (r s : Fin L) (hs : s.val = (r.val + L - d) % L) (a : EReal) :
    Scalar.select (IntOp.cmpi CmpIPredicate.sge (BitVec.ofNat 32 r.val) (BitVec.ofNat 32 d)) (u s * a) 0 = back d u r * a := by
  have hr := r.isLt
  rw [select_ge _ _ (by omega) hd, back]
  by_cases h : d ≤ r.val
  · rw [if_pos h, if_pos h, show s = ⟨r.val - d, by omega⟩ from Fin.ext (by
        rw [hs, show r.val + L - d = r.val - d + L by omega, Nat.add_mod_right, Nat.mod_eq_of_lt (by omega)])]
  · rw [if_neg h, if_neg h, zero_mul]

/-- The convolution by masked rotations. -/
theorem conv_rotated {L : ℕ} (hL : L < 2 ^ 31) (u : Fin L → EReal) (a : Fin 3 → EReal) (b : EReal) (r s1 s2 : Fin L)
    (h1 : s1.val = (r.val + L - 1) % L) (h2 : s2.val = (r.val + L - 2) % L) :
    Scalar.select (IntOp.cmpi CmpIPredicate.sge (BitVec.ofNat 32 r.val) (BitVec.ofNat 32 2)) (u s2 * a 0) 0
      + Scalar.select (IntOp.cmpi CmpIPredicate.sge (BitVec.ofNat 32 r.val) (BitVec.ofNat 32 1)) (u s1 * a 1) 0 + u r * a 2 + b = conv u a b r := by
  rw [select_back hL 2 (by norm_num) u r s2 h2, select_back hL 1 (by norm_num) u r s1 h1, conv]

/-- A piece's products; -/
theorem pay2_at (v0 : FVec Ideal S1024x2048 .bf16) (v1 : FVec Ideal S1x2048x256 .bf16) (i : Fin 1024) (n : Fin 256) :
    k0_pay2 (F := Ideal) v0 v1 (ix2 i n) = ∑ e : Fin 2048, v0 (ix2 i e) * v1 (ix3 0 e n) := by
  pointwise [k0_pay2]

/-- its convolutions, if it starts the sequence; -/
theorem pay5_at (v0 : FVec Ideal S1024x2048 .bf16) (v1 : FVec Ideal S1x2048x256 .bf16) (v10 : FVec Ideal S1x3x256 .f32) (v33 : FVec Ideal S1x1x256 .f32)
    (i : Fin 1024) (n : Fin 256) :
    k0_pay5 (F := Ideal) v0 v1 v10 v33 (ix2 i n) = conv (fun j => k0_pay2 (F := Ideal) v0 v1 (ix2 j n)) (fun s => v10 (ix3 0 s n)) (v33 (ix3 0 0 n)) i := by
  pointwise [k0_pay5]
  exact conv_rotated (by norm_num) (fun j => k0_pay2 (F := Ideal) v0 v1 (ix2 j n)) (fun s => v10 (ix3 0 s n)) _ i _ _ rfl rfl

/-- and if eight rows stand before it. -/
theorem pay24_at (X : FVec Ideal S1032x256 .f32) (v10 : FVec Ideal S1x3x256 .f32) (v33 : FVec Ideal S1x1x256 .f32) (i : Fin 1024) (n : Fin 256) :
    k0_pay24 X (iota .tc S1032x256 32 [0] iota_S1032x256_d0_w32) v10 v33 (ix2 i n) = conv (fun j => X (ix2 j n)) (fun s => v10 (ix3 0 s n)) (v33 (ix3 0 0 n)) ⟨8 + i, by omega⟩ := by
  pointwise [k0_pay24]
  exact conv_rotated (by norm_num) (fun j => X (ix2 j n)) (fun s => v10 (ix3 0 s n)) _ ⟨8 + i, by omega⟩ _ _ rfl rfl

/-- The gated result of a first piece, and of a second. -/
theorem pay13_at (g v : FVec Ideal S1024x256 .f32) (b : FVec Ideal S1x1x256 .f32) (i : Fin 1024) (n : Fin 256) :
    k0_pay13 g v b (ix2 i n) = gate (g (ix2 i n)) (k0_pay11 v b (ix2 i n)) := by
  pointwise [k0_pay13]
  rw [gate, zero_sub]

theorem pay26_at (g : FVec Ideal S1024x256 .f32) (X : FVec Ideal S1032x256 .f32) (v10 : FVec Ideal S1x3x256 .f32) (b : FVec Ideal S1x1x256 .f32)
    (i : Fin 1024) (n : Fin 256) :
    k0_pay1 (k0_pay26 g X (iota .tc S1032x256 32 [0] iota_S1032x256_d0_w32) v10 b) (ix2 i n)
      = gate (g (ix2 i n)) (k0_pay24 X (iota .tc S1032x256 32 [0] iota_S1032x256_d0_w32) v10 b (ix2 i n)) := by
  pointwise [k0_pay1, k0_pay26]
  rw [gate, zero_sub]

/-- What is stored, under a leading axis of length one. -/
theorem pay3_at (v0 : FVec Ideal S1024x2048 .bf16) (v1 : FVec Ideal S1x2048x256 .bf16) (i : Fin 1024) (n : Fin 256) :
    k0_pay3 (F := Ideal) v0 v1 (ix3 0 i n) = k0_pay2 (F := Ideal) v0 v1 (ix2 i n) := by
  pointwise [k0_pay3]

theorem pay6_at (X : FVec Ideal S1024x256 .f32) (i : Fin 1024) (n : Fin 256) : k0_pay6 X (ix3 0 i n) = X (ix2 i n) := by
  pointwise [k0_pay6]

theorem pay12_eq (X : FVec Ideal S1024x256 .f32) (b : FVec Ideal S1x1x256 .f32) : k0_pay12 X b = k0_pay6 (k0_pay11 X b) := rfl
theorem pay25_eq (X : FVec Ideal S1032x256 .f32) (r : IVec S1032x256 32) (v10 : FVec Ideal S1x3x256 .f32) (b : FVec Ideal S1x1x256 .f32) :
  k0_pay25 X r v10 b = k0_pay6 (k0_pay24 X r v10 b) := rfl
theorem pay20_eq (X : FVec Ideal S1032x256 .f32) (r : IVec S1032x256 32) (v10 : FVec Ideal S3x256 .f32) (q : IVec S1032x256 1) (b : FVec Ideal S1x1x256 .f32) :
  k0_pay20 X r v10 q b = k0_pay6 (k0_pay19 X r v10 q b) := rfl

/-- A piece with the last eight rows of the piece before. -/
theorem pay16_at (va vb : FVec Ideal S1024x2048 .bf16) (v1 : FVec Ideal S1x2048x256 .bf16) (j : Fin 1032) (n : Fin 256) :
    k0_pay16 (k0_pay4 (F := Ideal) va v1) vb v1 (ix2 j n) = if h : j.val < 8 then k0_pay2 (F := Ideal) va v1 (ix2 ⟨1016 + j, by omega⟩ n)
      else k0_pay2 (F := Ideal) vb v1 (ix2 ⟨j - 8, by omega⟩ n) := by
  pointwise [k0_pay16, k0_pay4]
  rfl

/-! The body is written out for each half and piece: the same functions under other names. -/

theorem e7 : k0_pay7 (F := Ideal) = k0_pay2 := rfl
theorem e14 : k0_pay14 (F := Ideal) = k0_pay2 := rfl
theorem e21 : k0_pay21 (F := Ideal) = k0_pay2 := rfl
theorem e8 : k0_pay8 (F := Ideal) = k0_pay3 := rfl
theorem e15 : k0_pay15 (F := Ideal) = k0_pay3 := rfl
theorem e22 : k0_pay22 (F := Ideal) = k0_pay3 := rfl
theorem e9 : k0_pay9 (F := Ideal) = k0_pay4 := rfl
theorem e23 : k0_pay23 (F := Ideal) = k0_pay16 := rfl
theorem e11 (v0 : FVec Ideal S1024x2048 .bf16) (v1 : FVec Ideal S1x2048x256 .bf16) (v10 : FVec Ideal S1x3x256 .f32) (v33 : FVec Ideal S1x1x256 .f32) :
   k0_pay11 (F := Ideal) (k0_pay10 v0 v1 v10) v33 = k0_pay5 v0 v1 v10 v33 := rfl
theorem e19 (X : FVec Ideal S1032x256 .f32) (v10 : FVec Ideal S1x3x256 .f32) (v33 : FVec Ideal S1x1x256 .f32) :
   k0_pay19 (F := Ideal) X (iota .tc S1032x256 32 [0] iota_S1032x256_d0_w32) (k0_pay17 v10) k0_pay18 v33 = k0_pay24 X (iota .tc S1032x256 32 [0] iota_S1032x256_d0_w32) v10 v33 := rfl

end Cert.FfnUp

end
-- ==== Proof.FfnUp.Block.lean ====
/- What a grid point of the up kernel leaves in its three output blocks, over its blocks of the arguments. Each is stored in
pieces of 1024 rows of a half. -/
module

public import proofs.«01_k».proof.Proof.FfnUp.Pay
public import proofs.«01_k».proof.Proof.Product.Index

@[expose] public section

set_option maxRecDepth 16384

noncomputable section

namespace Cert.FfnUp

open Cert.UpIdeal Cert.UpIdeal.Gen Idealize.ShloMosaic Idealize.ShloMosaic.TcCoe Cert.Product

variable (x0 : FVec Ideal S2048x2048 .bf16) (x1 : FVec Ideal S2x2048x256 .bf16) (x2 : FVec Ideal S2x3x256 .f32) (x3 : FVec Ideal S2x1x256 .f32)

/-- Pieces of the blocks: rows from `lo` on, and a half. -/
abbrev ld0 (lo : ℕ) (inb : ∀ a : Fin 2, ![lo, 0] a + S1024x2048.size a ≤ S2048x2048.size a) : FVec Ideal S1024x2048 .bf16 :=
  View.ld (Val := Elt Ideal) (S := S2048x2048) (e' := EltTy.bf16) x0 (Rect.unit ![lo, 0] S1024x2048.size inb)
abbrev ld1 (p : ℕ) (inb : ∀ a : Fin 3, ![p, 0, 0] a + S1x2048x256.size a ≤ S2x2048x256.size a) : FVec Ideal S1x2048x256 .bf16 :=
  View.ld (Val := Elt Ideal) (S := S2x2048x256) (e' := EltTy.bf16) x1 (Rect.unit ![p, 0, 0] S1x2048x256.size inb)
abbrev ld2 (p : ℕ) (inb : ∀ a : Fin 3, ![p, 0, 0] a + S1x3x256.size a ≤ S2x3x256.size a) : FVec Ideal S1x3x256 .f32 :=
  View.ld (Val := Elt Ideal) (S := S2x3x256) (e' := EltTy.f32) x2 (Rect.unit ![p, 0, 0] S1x3x256.size inb)
abbrev ld3 (p : ℕ) (inb : ∀ a : Fin 3, ![p, 0, 0] a + S1x1x256.size a ≤ S2x1x256.size a) : FVec Ideal S1x1x256 .f32 :=
  View.ld (Val := Elt Ideal) (S := S2x1x256) (e' := EltTy.f32) x3 (Rect.unit ![p, 0, 0] S1x1x256.size inb)

theorem ld0_at (lo : ℕ) (inb) (i : Fin 1024) (e : Fin 2048) (r : Fin 2048) (hr : r.val = lo + i) : ld0 x0 lo inb (ix2 i e) = x0 (ix2 r e) :=
  View.ld_unit_apply_of (Val := Elt Ideal) (S := S2048x2048) (e := EltTy.bf16) x0 _ _ inb (ix2 i e) (ix2 r e) fun a => by
    fin_cases a
    · exact hr
    · exact (zero_add _).symm

/-- A half of an array of two, read at an entry. -/
theorem half_at {a b : ℕ} {e : EltTy} (x : (⟨3, ![2, a, b]⟩ : Shape).Idx → Elt Ideal e) (p : ℕ)
    (inb : ∀ d : Fin 3, ![p, 0, 0] d + ![1, a, b] d ≤ (⟨3, ![2, a, b]⟩ : Shape).size d) (i : Fin a) (j : Fin b) (q : Fin 2) (hq : q.val = p) :
    View.ld (Val := Elt Ideal) (S := ⟨3, ![2, a, b]⟩) (e' := e) x (Rect.unit ![p, 0, 0] ![1, a, b] inb) (ix3 0 i j) = x (ix3 q i j) :=
  View.ld_unit_apply_of (Val := Elt Ideal) (S := ⟨3, ![2, a, b]⟩) (e := e) x _ _ inb (ix3 0 i j) (ix3 q i j) fun d => by
    fin_cases d
    · exact hq
    · exact (zero_add _).symm
    · exact (zero_add _).symm

variable (p : ℕ) (q : Fin 2) (hq : q.val = p) (i : Fin 1024) (n k : Fin 256) (hn : k.val = n) (r : Fin 2048)
include hq hn

/-- The products of a piece, and its convolutions: the first piece starts the sequence, the second has the last eight rows of
    the first before it. -/
theorem u_piece (lo : ℕ) (i0 i1) (hr : r.val = lo + i) : k0_pay2 (F := Ideal) (ld0 x0 lo i0) (ld1 x1 p i1) (ix2 i n) = colU x0 x1 q k r := by
  obtain rfl : k = n := Fin.ext hn
  rw [pay2_at]
  exact Finset.sum_congr rfl fun e _ => congrArg₂ (· * ·) (ld0_at x0 lo i0 i e r hr) (half_at (e := EltTy.bf16) x1 p i1 e k q hq)

omit hn in
theorem conv_params {L : ℕ} (v : Fin L → EReal) (i2 i3) (j : Fin L) :
    conv v (fun s => ld2 x2 p i2 (ix3 0 s n)) (ld3 x3 p i3 (ix3 0 0 n)) j = conv v (fun s => x2 (ix3 q s n)) (x3 (ix3 q 0 n)) j := by
  rw [show (fun s => ld2 x2 p i2 (ix3 0 s n)) = fun s => x2 (ix3 q s n) from funext fun s => half_at (e := EltTy.f32) x2 p i2 s n q hq,
    show ld3 x3 p i3 (ix3 0 0 n) = x3 (ix3 q 0 n) from half_at (e := EltTy.f32) x3 p i3 0 n q hq]

theorem c_first (i0 i1 i2 i3) (hr : r.val = i.val) :
    k0_pay5 (F := Ideal) (ld0 x0 0 i0) (ld1 x1 p i1) (ld2 x2 p i2) (ld3 x3 p i3) (ix2 i n) = colC x0 x1 x2 x3 q k r := by
  obtain rfl : k = n := Fin.ext hn
  rw [pay5_at, conv_params x2 x3 p q hq k]
  exact conv_piece 0 _ _ (by norm_num) (fun j => u_piece x0 x1 p q hq j k k rfl _ 0 i0 i1 rfl) _ _ i (Or.inl rfl) r (by omega)

theorem c_second (i0 i0' i1 i2 i3) (hr : r.val = 1024 + i) :
    k0_pay24 (k0_pay16 (k0_pay4 (F := Ideal) (ld0 x0 0 i0) (ld1 x1 p i1)) (ld0 x0 1024 i0') (ld1 x1 p i1)) (iota .tc S1032x256 32 [0] iota_S1032x256_d0_w32)
      (ld2 x2 p i2) (ld3 x3 p i3) (ix2 i n) = colC x0 x1 x2 x3 q k r := by
  obtain rfl : k = n := Fin.ext hn
  rw [pay24_at, conv_params x2 x3 p q hq k]
  refine conv_piece 1016 _ _ (by norm_num) (fun j => ?_) _ _ ⟨8 + i, by omega⟩ (Or.inr (by show 2 ≤ 8 + i.val; omega)) r (by show r.val = 1016 + (8 + i.val); omega)
  rw [pay16_at]
  split
  · exact u_piece x0 x1 p q hq _ k k rfl _ 0 i0 i1 (by show 1016 + j.val = 0 + (1016 + j.val); omega)
  · exact u_piece x0 x1 p q hq _ k k rfl _ 1024 i0' i1 (by show 1016 + j.val = 1024 + (j.val - 8); omega)

omit hq hn

theorem out4_at (y : S2x2048x256.Idx) : out0_4 (F := Ideal) x0 x1 x2 x3 y = colU x0 x1 (y 0) (y 2) (y 1) := by
  canon_tiles x h <;> obtain ⟨i, n, rfl⟩ := exists_ix3 (n1 := 1024) (n2 := 256) x
  · rw [e22]
    exact (pay3_at _ _ i n).trans (u_piece x0 x1 1 _ h0 i n _ h2 _ 1024 _ _ h1)
  · rw [e15]
    exact (pay3_at _ _ i n).trans (u_piece x0 x1 0 _ h0 i n _ h2 _ 1024 _ _ h1)
  · rw [e8]
    exact (pay3_at _ _ i n).trans (u_piece x0 x1 1 _ h0 i n _ h2 _ 0 _ _ (h1.trans (zero_add _).symm))
  · exact (pay3_at _ _ i n).trans (u_piece x0 x1 0 _ h0 i n _ h2 _ 0 _ _ (h1.trans (zero_add _).symm))

theorem out5_at (y : S2x2048x256.Idx) : out0_5 (F := Ideal) x0 x1 x2 x3 y = colC x0 x1 x2 x3 (y 0) (y 2) (y 1) := by
  canon_tiles x h <;> obtain ⟨i, n, rfl⟩ := exists_ix3 (n1 := 1024) (n2 := 256) x
  · exact (pay6_at _ i n).trans (c_second x0 x1 x2 x3 1 _ h0 i n _ h2 _ _ _ _ _ _ h1)
  · exact (pay6_at _ i n).trans (c_second x0 x1 x2 x3 0 _ h0 i n _ h2 _ _ _ _ _ _ h1)
  · exact (pay6_at _ i n).trans (c_first x0 x1 x2 x3 1 _ h0 i n _ h2 _ _ _ _ _ h1)
  · exact (pay6_at _ i n).trans (c_first x0 x1 x2 x3 0 _ h0 i n _ h2 _ _ _ _ _ h1)

theorem out6_at (y : S2048x256.Idx) : out0_6 (F := Ideal) x0 x1 x2 x3 y = colA x0 x1 x2 x3 (y 1) (y 0) := by
  canon_tiles x h <;> obtain ⟨i, n, rfl⟩ := exists_ix2 (n0 := 1024) (n1 := 256) x
  · exact (pay26_at _ _ _ _ i n).trans (congrArg₂ gate (c_second x0 x1 x2 x3 0 0 rfl i n _ h1 _ _ _ _ _ _ h0) (c_second x0 x1 x2 x3 1 1 rfl i n _ h1 _ _ _ _ _ _ h0))
  · exact (pay13_at _ _ _ i n).trans (congrArg₂ gate (c_first x0 x1 x2 x3 0 0 rfl i n _ h1 _ _ _ _ _ h0) (c_first x0 x1 x2 x3 1 1 rfl i n _ h1 _ _ _ _ _ h0))

end Cert.FfnUp

end
-- ==== Proof.FfnUp.Ref.lean ====
/- The reference's three results, entry by entry. -/
module

public import proofs.«01_k».proof.Proof.Gen.UpRefIdeal.Run
public import proofs.«01_k».proof.Proof.FfnUp.Spec

@[expose] public section

set_option maxRecDepth 16384

noncomputable section

namespace Cert.FfnUp

open Cert.UpRefIdeal Cert.UpRefIdeal.Gen Idealize.ShloMosaic Idealize.ShloMosaic.TcCoe

/-- The products, the sequence with two zeros before it, the convolutions, and a half of the convolutions. -/
def refProd (H : FVec Ideal S2048x2048 .bf16) (W : FVec Ideal S2x2048x5632 .bf16) : FVec Ideal S2x2048x5632 .f32 :=
  transpose S2x2048x5632 [0, 2, 1] (Host.dotGeneral dot_S2x2048x5632_S2048x2048_S2x5632x2048_1_1_02_0_n_n none (extf .f32 W bitsLt_bf16_f32) (extf .f32 H bitsLt_bf16_f32))
    transposes_S2x5632x2048_S2x2048x5632_0_2_1
def refPad (U : FVec Ideal S2x2048x5632 .f32) : FVec Ideal S2x2050x5632 .f32 :=
  pad S2x2050x5632 ![0, 2, 0] ![0, 0, 0] ![0, 0, 0] U (sitofp .f32 (constantI S_ 32 0#32)) pads_S2x2048x5632_S2x2050x5632_000_200_000 h_S_
def refCoef (K : FVec Ideal S2x1x5632 .f32) : FVec Ideal S2x2048x5632 .f32 := broadcastInDim S2x2048x5632 ![0, 1, 2] bcast_S2x1x5632_S2x2048x5632_0_1_2 K
def refConv (P : FVec Ideal S2x2050x5632 .f32) (K : FVec Ideal S2x3x5632 .f32) (B : FVec Ideal S2x1x5632 .f32) : FVec Ideal S2x2048x5632 .f32 :=
  addf (addf (addf (addf (broadcastInDim S2x2048x5632 ![] bcast_S_S2x2048x5632 (constant S_ .f32 0x00000000#32))
      (mulf (extractStridedSlice S2x2048x5632 ![0, 0, 0] P slices_S2x2050x5632_S2x2048x5632_0_0_0) (refCoef (extractStridedSlice S2x1x5632 ![0, 0, 0] K slices_S2x3x5632_S2x1x5632_0_0_0))))
      (mulf (extractStridedSlice S2x2048x5632 ![0, 1, 0] P slices_S2x2050x5632_S2x2048x5632_0_1_0) (refCoef (extractStridedSlice S2x1x5632 ![0, 1, 0] K slices_S2x3x5632_S2x1x5632_0_1_0))))
      (mulf (extractStridedSlice S2x2048x5632 ![0, 2, 0] P slices_S2x2050x5632_S2x2048x5632_0_2_0) (refCoef (extractStridedSlice S2x1x5632 ![0, 2, 0] K slices_S2x3x5632_S2x1x5632_0_2_0))))
    (refCoef B)
def refGate (C : FVec Ideal S2x2048x5632 .f32) : FVec Ideal S2048x5632 .f32 :=
  mulf (mulf (shapeCast _ (extractStridedSlice S1x2048x5632 ![0, 0, 0] C slices_S2x2048x5632_S1x2048x5632_0_0_0) shapeCasts_S1x2048x5632_S2048x5632)
      (Host.divf (broadcastInDim S2048x5632 ![] bcast_S_S2048x5632 (constant S_ .f32 0x3F800000#32))
        (addf (broadcastInDim S2048x5632 ![] bcast_S_S2048x5632 (constant S_ .f32 0x3F800000#32))
          (Host.exp (Host.negf (shapeCast _ (extractStridedSlice S1x2048x5632 ![0, 0, 0] C slices_S2x2048x5632_S1x2048x5632_0_0_0) shapeCasts_S1x2048x5632_S2048x5632))))))
    (shapeCast _ (extractStridedSlice S1x2048x5632 ![1, 0, 0] C slices_S2x2048x5632_S1x2048x5632_1_0_0) shapeCasts_S1x2048x5632_S2048x5632)

variable (H : FVec Ideal S2048x2048 .bf16) (W : FVec Ideal S2x2048x5632 .bf16) (K : FVec Ideal S2x3x5632 .f32) (B : FVec Ideal S2x1x5632 .f32)

/-- The three results. -/
def refU : FVec Ideal S2x2048x5632 .bf16 := truncf .bf16 (refProd H W) bitsLt_bf16_f32
def refC : FVec Ideal S2x2048x5632 .bf16 := truncf .bf16 (refConv (refPad (refProd H W)) K B) bitsLt_bf16_f32
def refA : FVec Ideal S2048x5632 .bf16 := truncf .bf16 (refGate (refConv (refPad (refProd H W)) K B)) bitsLt_bf16_f32

theorem prod_at (p : Fin 2) (r : Fin 2048) (n : Fin 5632) : refProd H W (ix3 p r n) = colU H W p n r := by
  pointwise [refProd]
  exact Finset.sum_congr rfl fun e _ => mul_comm (G := EReal) _ _

/-- The sequence with two zeros before it, read `d` places before an entry. -/
theorem padded_back (d k : ℕ) (hd : d ≤ 2) (u : Fin 2048 → EReal) (r : Fin 2048) (hk : k + d = r.val + 2) (z : EReal) (hz : z = 0) :
    (if h : 2 ≤ k ∧ k - 2 < 2048 then u ⟨k - 2, h.2⟩ else z) = back d u r := by
  unfold back
  by_cases h : d ≤ r.val
  · rw [dif_pos (by omega), if_pos h]
    exact congrArg u (Fin.ext (by show k - 2 = r.val - d; omega))
  · rw [dif_neg (by omega), if_neg h, hz]

theorem word_zero : FloatOps.sitofp (F := Ideal) FTy.f32 0#32 = (0 : EReal) := by
  show (((0#32 : BitVec 32).toInt : ℝ) : EReal) = 0
  simp

theorem conv_at (U : FVec Ideal S2x2048x5632 .f32) (p : Fin 2) (r : Fin 2048) (n : Fin 5632) :
    refConv (refPad U) K B (ix3 p r n) = conv (fun j => U (ix3 p j n)) (fun s => K (ix3 p s n)) (B (ix3 p 0 n)) r := by
  pointwise [refConv, refPad, refCoef]
  rw [conv]
  exact congrArg (· + _) (congrArg (· + _) (congrArg₂ (· + ·)
    (congrArg (· * _) (padded_back 2 r le_rfl (fun j => U (ix3 p j n)) r rfl _ word_zero))
    (congrArg (· * _) (padded_back 1 (1 + r) (by norm_num) (fun j => U (ix3 p j n)) r (by omega) _ word_zero))))

theorem gate_at (C : FVec Ideal S2x2048x5632 .f32) (r : Fin 2048) (n : Fin 5632) : refGate C (ix2 r n) = gate (C (ix3 0 r n)) (C (ix3 1 r n)) := by
  pointwise [refGate]
  rfl

theorem refU_at (p : Fin 2) (r : Fin 2048) (n : Fin 5632) : refU H W (ix3 p r n) = colU H W p n r := prod_at H W p r n
theorem refC_at (p : Fin 2) (r : Fin 2048) (n : Fin 5632) : refC H W K B (ix3 p r n) = colC H W K B p n r :=
  (conv_at K B (refProd H W) p r n).trans (by rw [colC, show (fun j => refProd H W (ix3 p j n)) = colU H W p n from funext fun j => prod_at H W p j n])
theorem refA_at (r : Fin 2048) (n : Fin 5632) : refA H W K B (ix2 r n) = colA H W K B n r :=
  (gate_at _ r n).trans (congrArg₂ gate (refC_at H W K B 0 r n) (refC_at H W K B 1 r n))

end Cert.FfnUp

end
-- ==== Proof.FfnUp.Claims.lean ====
/- The claim about the up kernel's values: its three arrays are the reference's. -/
module

public import proofs.«01_k».proof.Defs
public import proofs.«01_k».proof.Proof.Gen.UpIdeal.Value
public import proofs.«01_k».proof.Proof.FfnUp.Block
public import proofs.«01_k».proof.Proof.FfnUp.Ref
public import Idealize.ShloMosaic.Adequacy
public import Idealize.ShloMosaic.Init

@[expose] public section

set_option maxRecDepth 16384

noncomputable section

namespace Cert.FfnUp

open Cert.UpIdeal Cert.UpIdeal.Gen Idealize.ShloMosaic Idealize.ShloMosaic.TcCoe Idealize.SL.Sem Cert.Product

theorem idx0 : ∀ t : Fin cfg0.N, win0_0.index t = ![0, 0] := (by decide +kernel : ∀ t : Fin grid0.N, win0_0.index t = ![0, 0])
theorem idx1 : ∀ t : Fin cfg0.N, win0_1.index t = ![0, 0, t.val] := (by decide +kernel : ∀ t : Fin grid0.N, win0_1.index t = ![0, 0, t.val])
theorem idx2 : ∀ t : Fin cfg0.N, win0_2.index t = ![0, 0, t.val] := (by decide +kernel : ∀ t : Fin grid0.N, win0_2.index t = ![0, 0, t.val])
theorem idx3 : ∀ t : Fin cfg0.N, win0_3.index t = ![0, 0, t.val] := (by decide +kernel : ∀ t : Fin grid0.N, win0_3.index t = ![0, 0, t.val])
theorem idx4 : ∀ t : Fin cfg0.N, win0_4.index t = ![0, 0, t.val] := (by decide +kernel : ∀ t : Fin grid0.N, win0_4.index t = ![0, 0, t.val])
theorem idx5 : ∀ t : Fin cfg0.N, win0_5.index t = ![0, 0, t.val] := (by decide +kernel : ∀ t : Fin grid0.N, win0_5.index t = ![0, 0, t.val])
theorem idx6 : ∀ t : Fin cfg0.N, win0_6.index t = ![0, t.val] := (by decide +kernel : ∀ t : Fin grid0.N, win0_6.index t = ![0, t.val])

variable (m : (ℓ : Loc nD τ sig) → Buf (Elt Ideal) ℓ) (c : Dev nD)

/-- The arguments: the normalised rows, the weights, and the convolution's coefficients and offsets. -/
abbrev kH : FVec Ideal S2048x2048 .bf16 := m ((c : Thread nD τ).loc main_arg0)
abbrev kW : FVec Ideal S2x2048x5632 .bf16 := m ((c : Thread nD τ).loc main_arg1)
abbrev kK : FVec Ideal S2x3x5632 .f32 := m ((c : Thread nD τ).loc main_arg2)
abbrev kB : FVec Ideal S2x1x5632 .f32 := m ((c : Thread nD τ).loc main_arg3)

theorem lt_N (t : Fin cfg0.N) : (t : ℕ) < 22 := lt_of_lt_of_eq t.isLt N_0

/-- The column of the arrays at which a point's column `n` lies. -/
abbrev col (t : Fin cfg0.N) (n : Fin 256) : Fin 5632 := ⟨t * 256 + n, by have := lt_N t; omega⟩

/-- The blocks a point reads, in the arguments. -/
theorem blk_h (t : Fin cfg0.N) (r e : Fin 2048) : (iblk m c 0 t : FVec Ideal S2048x2048 .bf16) (ix2 r e) = kH m c (ix2 r e) := by
  blk_ext [iblk, V, idx0 t]
theorem blk_w (t : Fin cfg0.N) (p : Fin 2) (e : Fin 2048) (n : Fin 256) : (iblk m c 1 t : FVec Ideal S2x2048x256 .bf16) (ix3 p e n) = kW m c (ix3 p e (col t n)) := by
  blk_ext [iblk, V, idx1 t]
theorem blk_k (t : Fin cfg0.N) (p : Fin 2) (s : Fin 3) (n : Fin 256) : (iblk m c 2 t : FVec Ideal S2x3x256 .f32) (ix3 p s n) = kK m c (ix3 p s (col t n)) := by
  blk_ext [iblk, V, idx2 t]
theorem blk_b (t : Fin cfg0.N) (p : Fin 2) (n : Fin 256) : (iblk m c 3 t : FVec Ideal S2x1x256 .f32) (ix3 p 0 n) = kB m c (ix3 p 0 (col t n)) := by
  blk_ext [iblk, V, idx3 t]
/-- Where its output blocks lie. -/
theorem place4 (t : Fin cfg0.N) (p : Fin 2) (r : Fin 2048) (n : Fin 256) : ((win0_4.blk t).view.emb (ix3 p r n) : S2x2048x5632.Idx) = ix3 p r (col t n) := by
  blk_ext [idx4 t]
theorem place5 (t : Fin cfg0.N) (p : Fin 2) (r : Fin 2048) (n : Fin 256) : ((win0_5.blk t).view.emb (ix3 p r n) : S2x2048x5632.Idx) = ix3 p r (col t n) := by
  blk_ext [idx5 t]
theorem place6 (t : Fin cfg0.N) (r : Fin 2048) (n : Fin 256) : ((win0_6.blk t).view.emb (ix2 r n) : S2048x5632.Idx) = ix2 r (col t n) := by
  blk_ext [idx6 t]

/-- The block's columns are the arrays'. -/
theorem blk_colU (t : Fin cfg0.N) (p : Fin 2) (n : Fin 256) : colU (N := 256) (iblk m c 0 t) (iblk m c 1 t) p n = colU (kH m c) (kW m c) p (col t n) :=
  funext fun r => Finset.sum_congr rfl fun e _ => congrArg₂ (· * ·) (blk_h m c t r e) (blk_w m c t p e n)
theorem blk_colC (t : Fin cfg0.N) (p : Fin 2) (n : Fin 256) (r : Fin 2048) :
    colC (N := 256) (iblk m c 0 t) (iblk m c 1 t) (iblk m c 2 t) (iblk m c 3 t) p n r = colC (kH m c) (kW m c) (kK m c) (kB m c) p (col t n) r := by
  unfold colC
  rw [blk_colU]
  exact congrArg₂ (fun a b => conv _ a b r) (funext fun s => blk_k m c t p s n) (blk_b m c t p n)

/-- The kernel's three arrays are the reference's. -/
theorem arr_u : (dats m 0 c).arrAt 4 cfg0.N = refU (kH m c) (kW m c) := by
  refine (dats m 0 c).arrAt_eq_of_covers 4 _ (by decide +kernel) fun t hf y => ?_
  blk_simp
  rw [after0_4]
  obtain ⟨p, r, n, rfl⟩ : ∃ (p : Fin 2) (r : Fin 2048) (n : Fin 256), y = ix3 p r n := ⟨y 0, y 1, y 2, eq_ix3 y⟩
  refine (out4_at _ _ _ _ (ix3 p r n)).trans (Eq.trans ?_ (congrArg (refU (kH m c) (kW m c)) (place4 t p r n).symm))
  rw [refU_at]
  exact congrFun (blk_colU m c t p n) r
theorem arr_c : (dats m 0 c).arrAt 5 cfg0.N = refC (kH m c) (kW m c) (kK m c) (kB m c) := by
  refine (dats m 0 c).arrAt_eq_of_covers 5 _ (by decide +kernel) fun t hf y => ?_
  blk_simp
  rw [after0_5]
  obtain ⟨p, r, n, rfl⟩ : ∃ (p : Fin 2) (r : Fin 2048) (n : Fin 256), y = ix3 p r n := ⟨y 0, y 1, y 2, eq_ix3 y⟩
  refine (out5_at _ _ _ _ (ix3 p r n)).trans (Eq.trans ?_ (congrArg (refC (kH m c) (kW m c) (kK m c) (kB m c)) (place5 t p r n).symm))
  rw [refC_at]
  exact blk_colC m c t p n r
theorem arr_a : (dats m 0 c).arrAt 6 cfg0.N = refA (kH m c) (kW m c) (kK m c) (kB m c) := by
  refine (dats m 0 c).arrAt_eq_of_covers 6 _ (by decide +kernel) fun t hf y => ?_
  blk_simp
  rw [after0_6]
  obtain ⟨r, n, rfl⟩ := exists_ix2 (n0 := 2048) (n1 := 256) y
  refine (out6_at _ _ _ _ (ix2 r n)).trans (Eq.trans ?_ (congrArg (refA (kH m c) (kW m c) (kK m c) (kB m c)) (place6 t r n).symm))
  rw [refA_at]
  exact congrArg₂ gate (blk_colC m c t 0 n r) (blk_colC m c t 1 n r)

/-- On all arguments the kernel's three arrays are the reference's three results. -/
theorem algebraic_up : Cert.algebraic_UpIdeal_UpRefIdeal := by
  intro m g m' g' _ hargs
  refine ⟨fun c => refU (kH m c) (kW m c), fun c => refC (kH m c) (kW m c) (kK m c) (kB m c), fun c => refA (kH m c) (kW m c) (kK m c) (kB m c), ?_, ?_⟩
  · refine (θ_run Cert.UpIdeal.defs _ _).mono (fun r h c => ?_) (Cert.UpIdeal.Value.run_blocks m g)
    obtain ⟨h0, h1, h2, ha⟩ := h c
    exact ⟨h0.trans (arr_u m c), h1.trans (arr_c m c), h2.trans (arr_a m c), ha⟩
  · refine (θ_run Cert.UpRefIdeal.defs _ _).mono (fun r h c => ?_) (Cert.UpRefIdeal.Value.run (F := Ideal) m' g')
    obtain ⟨h0, h1, h2, ha⟩ := h c
    obtain ⟨e0, e1, e2, e3⟩ := hargs c
    have eC := congr (congr (congrArg₂ refC e0 e1) e2) e3
    have eA := congr (congr (congrArg₂ refA e0 e1) e2) e3
    exact ⟨h0.trans (congrArg₂ refU e0 e1), h1.trans eC, h2.trans eA, ha⟩

/-- The reference ends on every memory, its arguments unchanged. -/
theorem frame_ri : Cert.quiescent_UpRefIdeal := fun m ρ _ =>
  (θ_run Cert.UpRefIdeal.defs _ _).mono (fun r h => ⟨fun c => (h c).2.2.2, sem_eq_zero_of_no_sems (by decide) r.2⟩)
    (Cert.UpRefIdeal.Value.run (F := Ideal) m ρ)

end Cert.FfnUp

end
-- ==== Proof.FfnGate.Spec.lean ====
/- The gradient of the convolution and of the gate, for one column of either half: what the two sides' results are, and
the two laws that relate the two ways of computing them. -/
module

public import proofs.«01_k».proof.Proof.FfnUp.Spec
public import Idealize.ShloMosaic.PureOps.Ideal.Laws

@[expose] public section

noncomputable section

namespace Cert.FfnGate

open Idealize.ShloMosaic Cert.FfnUp

variable {L : ℕ}

/-- A sequence moved `k` places earlier, zero past its end. -/
def fwd (k : ℕ) (d : Fin L → EReal) (r : Fin L) : EReal := if h : r.val + k < L then d ⟨r.val + k, h⟩ else 0

/-- Moving one factor later is moving the other earlier. -/
theorem sum_moved (k : ℕ) (u d : Fin L → EReal) : ∑ r, back k u r * d r = ∑ r, fwd k d r * u r := by
  have hb (r : Fin L) : back k u r * d r = ∑ j : Fin L, if j.val + k = r.val then d r * u j else 0 := by
    unfold back
    by_cases h : k ≤ r.val
    · rw [if_pos h, Finset.sum_eq_single (⟨r.val - k, by omega⟩ : Fin L) (fun j _ hj => if_neg fun e => hj (Fin.ext (by show j.val = r.val - k; omega)))
        (fun hn => absurd (Finset.mem_univ _) hn), if_pos (by show r.val - k + k = r.val; omega)]
      exact mul_comm (G := EReal) _ _
    · rw [if_neg h, zero_mul]
      exact (Finset.sum_eq_zero fun j _ => if_neg (by omega)).symm
  have hf (j : Fin L) : fwd k d j * u j = ∑ r : Fin L, if j.val + k = r.val then d r * u j else 0 := by
    unfold fwd
    by_cases h : j.val + k < L
    · rw [dif_pos h, Finset.sum_eq_single (⟨j.val + k, h⟩ : Fin L) (fun r _ hr => if_neg fun e => hr (Fin.ext e.symm))
        (fun hn => absurd (Finset.mem_univ _) hn), if_pos rfl]
    · rw [dif_neg h, zero_mul]
      exact (Finset.sum_eq_zero fun r _ => if_neg (by omega)).symm
  rw [Finset.sum_congr rfl fun r _ => hb r, Finset.sum_comm]
  exact Finset.sum_congr rfl fun j _ => (hf j).symm

/-- The sigmoid, and the gradient of `gate` in its two arguments. -/
def sigm (g : EReal) : EReal := Ideal.div 1 (1 + Ideal.exp (-g))
def gateG (da g v : EReal) : EReal := da * v * (sigm g * (1 + g * (1 - sigm g)))
def gateV (da g : EReal) : EReal := da * (g * sigm g)

theorem sigm_real (g : ℝ) : ∃ s : ℝ, sigm g = s := by
  refine ⟨1 / (1 + Real.exp (-g)), ?_⟩
  have h : (1 + Real.exp (-g)) ≠ 0 := by positivity
  rw [sigm, ← EReal.coe_neg, Ideal.exp_coe, ← EReal.coe_one, ← EReal.coe_add, Ideal.div_coe h, EReal.coe_one, one_mul]

/-- The gradient in `g` by the product rule. -/
theorem gateG_rule (da g v : ℝ) : gateG da g v = (da * v : EReal) * sigm g + (g * (da * v) : EReal) * (sigm g * (1 - sigm g)) := by
  obtain ⟨s, hs⟩ := sigm_real g
  rw [gateG, hs]
  norm_cast
  ring

/-! The results on `N` columns, over the incoming gradient `da`, the two halves `u` before and `c` after the convolution, and
its coefficients `cw`. -/

variable {N : ℕ} (da : (⟨2, ![2048, N]⟩ : Shape).Idx → EReal) (u c : (⟨3, ![2, 2048, N]⟩ : Shape).Idx → EReal)
  (cw : (⟨3, ![2, 3, N]⟩ : Shape).Idx → EReal)

def colD (p : Fin 2) (n : Fin N) (r : Fin 2048) : EReal :=
  if p = 0 then gateG (da (ix2 r n)) (c (ix3 0 r n)) (c (ix3 1 r n)) else gateV (da (ix2 r n)) (c (ix3 0 r n))
def colDU (p : Fin 2) (n : Fin N) (r : Fin 2048) : EReal :=
  colD da c p n r * cw (ix3 p 2 n) + fwd 1 (colD da c p n) r * cw (ix3 p 1 n) + fwd 2 (colD da c p n) r * cw (ix3 p 0 n)
def colDW (p : Fin 2) (s : Fin 3) (n : Fin N) : EReal := ∑ r : Fin 2048, fwd (2 - s.val) (colD da c p n) r * u (ix3 p r n)
def colDB (p : Fin 2) (n : Fin N) : EReal := ∑ r : Fin 2048, colD da c p n r

end Cert.FfnGate

end
-- ==== Proof.FfnGate.Pay.lean ====
/- What a grid point of the gradient kernel computes, entry by entry: the payloads of its stores. -/
module

public import proofs.«01_k».proof.Proof.Gen.GateIdeal.Frame
public import proofs.«01_k».proof.Proof.FfnGate.Spec

@[expose] public section

set_option maxRecDepth 16384

noncomputable section

namespace Cert.FfnGate

open Cert.GateIdeal Cert.GateIdeal.Gen Idealize.ShloMosaic Idealize.ShloMosaic.TcCoe

/-- A rotation by `k` towards the start whose last `k` entries are replaced by zero. -/
theorem select_fwd {L : ℕ} (hL : L < 2 ^ 31) (k m : ℕ) (hm : m + k = L) (hk : 0 < k) (d : Fin L → EReal) (r s : Fin L) (hs : s.val = (r.val + L - m) % L) :
    Scalar.select (IntOp.cmpi CmpIPredicate.slt (BitVec.ofNat 32 r.val) (BitVec.ofNat 32 m)) (d s) 0 = fwd k d r := by
  have hr := r.isLt
  have toInt (n : ℕ) (h : n < 2 ^ 31) : (BitVec.ofNat 32 n).toInt = n := by
    have e : (BitVec.ofNat 32 n).toNat = n := by rw [BitVec.toNat_ofNat, Nat.mod_eq_of_lt (by omega)]
    rw [BitVec.toInt_eq_toNat_of_lt (by omega), e]
  show (if BitVec.ofBool ((BitVec.ofNat 32 r.val).slt (BitVec.ofNat 32 m)) = 1 then d s else 0) = _
  rw [BitVec.slt_eq_decide, toInt _ (by omega), toInt _ (by omega), fwd]
  by_cases h : r.val + k < L
  · rw [dif_pos h, show s = ⟨r.val + k, h⟩ from Fin.ext (by rw [hs, Nat.mod_eq_of_lt (by omega)]; show r.val + L - m = r.val + k; omega)]
    simp [show r.val < m by omega]
  · rw [dif_neg h]
    simp [show ¬ r.val < m by omega]

/-- The rows' numbers. -/
abbrev rows : IVec S2048x256 32 := iota .tc S2048x256 32 [0] iota_S2048x256_d0_w32

variable (r : Fin 2048) (n : Fin 256)

theorem pay7_at (v1 : FVec Ideal S2048x256 .bf16) (v3 v6 : FVec Ideal S1x2048x256 .bf16) :
    k0_pay7 (F := Ideal) v1 v3 v6 (ix2 r n) = gateG (v1 (ix2 r n)) (v3 (ix3 0 r n)) (v6 (ix3 0 r n)) := by
  pointwise [k0_pay7, k0_pay6, k0_pay5, k0_pay4]
  rw [gateG, sigm, zero_sub]

theorem pay8_at (v1 : FVec Ideal S2048x256 .bf16) (v3 : FVec Ideal S1x2048x256 .bf16) :
    k0_pay8 (F := Ideal) v1 v3 (ix2 r n) = gateV (v1 (ix2 r n)) (v3 (ix3 0 r n)) := by
  pointwise [k0_pay8, k0_pay6, k0_pay5, k0_pay4]
  rw [gateV, sigm, zero_sub]

/-- The gradient moved one place, and two. -/
theorem pay22_at (X : FVec Ideal S2048x256 .f32) : k0_pay22 rows X (ix2 r n) = fwd 1 (fun j => X (ix2 j n)) r := by
  pointwise [k0_pay22]
  exact select_fwd (by norm_num) 1 2047 rfl one_pos (fun j => X (ix2 j n)) r _ rfl
theorem pay23_at (X : FVec Ideal S2048x256 .f32) : k0_pay23 rows X (ix2 r n) = fwd 2 (fun j => X (ix2 j n)) r := by
  pointwise [k0_pay23]
  exact select_fwd (by norm_num) 2 2046 rfl two_pos (fun j => X (ix2 j n)) r _ rfl

/-- What is stored: the three coefficients' combination; a sum of products; a sum. -/
theorem pay3_at (X X1 X2 : FVec Ideal S2048x256 .f32) (K : FVec Ideal S1x3x256 .f32) :
    k0_pay3 X (k0_pay20 (F := Ideal) K) X1 X2 (ix3 0 r n) = X (ix2 r n) * K (ix3 0 2 n) + X1 (ix2 r n) * K (ix3 0 1 n) + X2 (ix2 r n) * K (ix3 0 0 n) := by
  pointwise [k0_pay3, k0_pay20]
theorem pay2_at (X : FVec Ideal S2048x256 .f32) (U : FVec Ideal S1x2048x256 .bf16) :
    k0_pay2 X (k0_pay21 (F := Ideal) U) (ix3 0 0 n) = ∑ r : Fin 2048, X (ix2 r n) * U (ix3 0 r n) := by
  pointwise [k0_pay2, k0_pay21]
theorem pay24_at (X : FVec Ideal S2048x256 .f32) : k0_pay24 X (ix3 0 0 n) = ∑ r : Fin 2048, X (ix2 r n) := by
  pointwise [k0_pay24]

end Cert.FfnGate

end
-- ==== Proof.FfnGate.Block.lean ====
/- What a grid point of the gradient kernel leaves in its three output blocks, over its blocks of the arguments. Each is
stored half by half, the coefficients' gradient row by row. -/
module

public import proofs.«01_k».proof.Proof.FfnGate.Pay
public import proofs.«01_k».proof.Proof.FfnUp.Block

@[expose] public section

set_option maxRecDepth 16384

noncomputable section

namespace Cert.FfnGate

open Cert.GateIdeal Cert.GateIdeal.Gen Idealize.ShloMosaic Idealize.ShloMosaic.TcCoe Cert.FfnUp Cert.Product

variable (x0 : FVec Ideal S2048x256 .bf16) (x1 x2 : FVec Ideal S2x2048x256 .bf16) (x3 : FVec Ideal S2x3x256 .f32)

/-- A half of a block. -/
abbrev ldH (x : FVec Ideal S2x2048x256 .bf16) (p : ℕ) (inb : ∀ a : Fin 3, ![p, 0, 0] a + S1x2048x256.size a ≤ S2x2048x256.size a) : FVec Ideal S1x2048x256 .bf16 :=
  View.ld (Val := Elt Ideal) (S := S2x2048x256) (e' := EltTy.bf16) x (Rect.unit ![p, 0, 0] S1x2048x256.size inb)
abbrev ldK (p : ℕ) (inb : ∀ a : Fin 3, ![p, 0, 0] a + S1x3x256.size a ≤ S2x3x256.size a) : FVec Ideal S1x3x256 .f32 :=
  View.ld (Val := Elt Ideal) (S := S2x3x256) (e' := EltTy.f32) x3 (Rect.unit ![p, 0, 0] S1x3x256.size inb)

variable (q : Fin 2)

/-- The gradient at the gate's two arguments. -/
theorem d0_at (hq : q.val = 0) (i0 i1) (r : Fin 2048) (n : Fin 256) : k0_pay7 (F := Ideal) x0 (ldH x2 0 i0) (ldH x2 1 i1) (ix2 r n) = colD x0 x2 q n r := by
  obtain rfl : q = 0 := Fin.ext hq
  exact (pay7_at r n _ _ _).trans (congrArg₂ (gateG (x0 (ix2 r n))) (half_at (e := EltTy.bf16) x2 0 i0 r n 0 rfl) (half_at (e := EltTy.bf16) x2 1 i1 r n 1 rfl))
theorem d1_at (hq : q.val = 1) (i0) (r : Fin 2048) (n : Fin 256) : k0_pay8 (F := Ideal) x0 (ldH x2 0 i0) (ix2 r n) = colD x0 x2 q n r := by
  obtain rfl : q = 1 := Fin.ext hq
  exact (pay8_at r n _ _).trans (congrArg (gateV (x0 (ix2 r n))) (half_at (e := EltTy.bf16) x2 0 i0 r n 0 rfl))

variable (p : ℕ) (hq : q.val = p) (X : FVec Ideal S2048x256 .f32) (hX : ∀ r n, X (ix2 r n) = colD x0 x2 q n r)
  (r : Fin 2048) (o : Fin 1) (n k : Fin 256) (hn : k.val = n)
include hX

theorem moved0 : X (ix2 r n) = fwd 0 (colD x0 x2 q n) r := by
  rw [hX, fwd, dif_pos (show r.val + 0 < 2048 from r.isLt)]
  rfl
theorem moved1 : k0_pay22 rows X (ix2 r n) = fwd 1 (colD x0 x2 q n) r :=
  (pay22_at r n X).trans (congrArg (fun d => fwd 1 d r) (funext fun j => hX j n))
theorem moved2 : k0_pay23 rows X (ix2 r n) = fwd 2 (colD x0 x2 q n) r :=
  (pay23_at r n X).trans (congrArg (fun d => fwd 2 d r) (funext fun j => hX j n))

include hn

theorem db_piece : k0_pay24 X (ix3 0 o n) = colDB x0 x2 q k := by
  obtain rfl : k = n := Fin.ext hn
  obtain rfl : o = 0 := Subsingleton.elim _ _
  exact (pay24_at k X).trans (Finset.sum_congr rfl fun r _ => hX r k)

include hq

theorem du_piece (i3) (s : Fin 2048) (hs : s.val = r) :
    k0_pay3 X (k0_pay20 (F := Ideal) (ldK x3 p i3)) (k0_pay22 rows X) (k0_pay23 rows X) (ix3 0 r n) = colDU x0 x2 x3 q k s := by
  obtain rfl : k = n := Fin.ext hn
  obtain rfl : s = r := Fin.ext hs
  rw [pay3_at, hX, moved1 x0 x2 q X hX, moved2 x0 x2 q X hX]
  exact congrArg₂ (· + ·) (congrArg₂ (· + ·) (congrArg _ (half_at (e := EltTy.f32) x3 p i3 2 k q hq)) (congrArg _ (half_at (e := EltTy.f32) x3 p i3 1 k q hq)))
    (congrArg _ (half_at (e := EltTy.f32) x3 p i3 0 k q hq))

omit hX in
/-- A row of the coefficients' gradient, from the gradient moved by two places less the row's number. -/
theorem dw_piece (i1) (s : Fin 3) (d : ℕ) (hd : d + s.val = 2) (Y : FVec Ideal S2048x256 .f32) (hY : ∀ r n, Y (ix2 r n) = fwd d (colD x0 x2 q n) r) :
    k0_pay2 Y (k0_pay21 (F := Ideal) (ldH x1 p i1)) (ix3 0 o n) = colDW x0 x1 x2 q s k := by
  obtain rfl : k = n := Fin.ext hn
  obtain rfl : o = 0 := Subsingleton.elim _ _
  obtain rfl : d = 2 - s.val := by omega
  exact (pay2_at k Y _).trans (Finset.sum_congr rfl fun r _ => congrArg₂ (· * ·) (hY r k) (half_at (e := EltTy.bf16) x1 p i1 r k q hq))

omit hX hq hn

variable (m : (ℓ : Loc nD τ Cert.GateIdeal.sig) → Buf (Elt Ideal) ℓ) (c : Dev nD) (t : Fin cfg0.N)

/-- The blocks a point reads. -/
abbrev bD : FVec Ideal S2048x256 .bf16 := iblk m c 0 t
abbrev bU : FVec Ideal S2x2048x256 .bf16 := iblk m c 1 t
abbrev bC : FVec Ideal S2x2048x256 .bf16 := iblk m c 2 t
abbrev bK : FVec Ideal S2x3x256 .f32 := iblk m c 3 t

theorem out4_at (y : S2x2048x256.Idx) : (outsAt0 m c t).1 y = colDU (bD m c t) (bC m c t) (bK m c t) (y 0) (y 2) (y 1) := by
  unfold outsAt0
  frame_out
  canon_tiles x h <;> obtain ⟨r, n, rfl⟩ := exists_ix3 (n1 := 2048) (n2 := 256) x
  · exact du_piece _ _ _ _ 1 h0 _ (d1_at _ _ _ h0 _) r n _ h2 _ _ h1
  · exact du_piece _ _ _ _ 0 h0 _ (d0_at _ _ _ h0 _ _) r n _ h2 _ _ h1

theorem out5_at (y : S2x3x256.Idx) : (outsAt0 m c t).2.1 y = colDW (bD m c t) (bU m c t) (bC m c t) (y 0) (y 1) (y 2) := by
  unfold outsAt0
  frame_out
  canon_tiles x h <;> obtain ⟨o, n, rfl⟩ := exists_ix3 (n1 := 1) (n2 := 256) x
  · exact dw_piece _ _ _ _ 1 h0 o n _ h2 _ _ 0 (by omega) _ fun r n => moved0 _ _ _ _ (d1_at _ _ _ h0 _) r n
  · exact dw_piece _ _ _ _ 1 h0 o n _ h2 _ _ 1 (by omega) _ fun r n => moved1 _ _ _ _ (d1_at _ _ _ h0 _) r n
  · exact dw_piece _ _ _ _ 1 h0 o n _ h2 _ _ 2 (by omega) _ fun r n => moved2 _ _ _ _ (d1_at _ _ _ h0 _) r n
  · exact dw_piece _ _ _ _ 0 h0 o n _ h2 _ _ 0 (by omega) _ fun r n => moved0 _ _ _ _ (d0_at _ _ _ h0 _ _) r n
  · exact dw_piece _ _ _ _ 0 h0 o n _ h2 _ _ 1 (by omega) _ fun r n => moved1 _ _ _ _ (d0_at _ _ _ h0 _ _) r n
  · exact dw_piece _ _ _ _ 0 h0 o n _ h2 _ _ 2 (by omega) _ fun r n => moved2 _ _ _ _ (d0_at _ _ _ h0 _ _) r n

theorem out6_at (y : S2x1x256.Idx) : (outsAt0 m c t).2.2 y = colDB (bD m c t) (bC m c t) (y 0) (y 2) := by
  unfold outsAt0
  frame_out
  canon_tiles x h <;> obtain ⟨o, n, rfl⟩ := exists_ix3 (n1 := 1) (n2 := 256) x
  · exact db_piece _ _ _ _ (d1_at _ _ _ h0 _) o n _ h2
  · exact db_piece _ _ _ _ (d0_at _ _ _ h0 _ _) o n _ h2

end Cert.FfnGate

end
-- ==== Proof.FfnGate.Ref.lean ====
/- The reference's three results, entry by entry. -/
module

public import proofs.«01_k».proof.Proof.Gen.GateRefIdeal
public import proofs.«01_k».proof.Proof.FfnGate.Spec
public import proofs.«01_k».proof.Proof.FfnUp.Ref

@[expose] public section

set_option maxRecDepth 16384

noncomputable section

namespace Cert.FfnGate

open Cert.GateRefIdeal Cert.GateRefIdeal.Gen Idealize.ShloMosaic Idealize.ShloMosaic.TcCoe Cert.FfnUp

/-- Zero rows before the sequence, and a half of the convolutions. -/
def refCat (U : FVec Ideal S2x2048x5632 .bf16) : FVec Ideal S2x2050x5632 .f32 :=
  concatenate S2x2050x5632 1 [⟨S2x2x5632, (broadcastInDim S2x2x5632 ![] bcast_S_S2x2x5632 (constant S_ .f32 0x00000000#32))⟩, ⟨S2x2048x5632, (extf .f32 U bitsLt_bf16_f32)⟩]
    concatenates_S2x2x5632_S2x2048x5632_S2x2050x5632_d1
def refG (C : FVec Ideal S2x2048x5632 .f32) : FVec Ideal S2048x5632 .f32 :=
  shapeCast _ (extractStridedSlice S1x2048x5632 ![0, 0, 0] C slices_S2x2048x5632_S1x2048x5632_0_0_0) shapeCasts_S1x2048x5632_S2048x5632
def refV (C : FVec Ideal S2x2048x5632 .f32) : FVec Ideal S2048x5632 .f32 :=
  shapeCast _ (extractStridedSlice S1x2048x5632 ![1, 0, 0] C slices_S2x2048x5632_S1x2048x5632_1_0_0) shapeCasts_S1x2048x5632_S2048x5632
def refOne : FVec Ideal S2048x5632 .f32 := broadcastInDim S2048x5632 ![] bcast_S_S2048x5632 (constant S_ .f32 0x3F800000#32)
def refSigm (G : FVec Ideal S2048x5632 .f32) : FVec Ideal S2048x5632 .f32 := Host.divf refOne (addf refOne (Host.exp (Host.negf G)))

/-- The gradient at the gate's two arguments. -/
def refD (C : FVec Ideal S2x2048x5632 .f32) (A : FVec Ideal S2048x5632 .bf16) : FVec Ideal S2x2048x5632 .f32 :=
  concatenate S2x2048x5632 0
    [⟨S1x2048x5632, broadcastInDim S1x2048x5632 ![1, 2] bcast_S2048x5632_S1x2048x5632_1_2
        (addf (mulf (mulf (extf .f32 A bitsLt_bf16_f32) (refV C)) (refSigm (refG C)))
          (mulf (mulf (refG C) (mulf (extf .f32 A bitsLt_bf16_f32) (refV C))) (mulf (refSigm (refG C)) (subf refOne (refSigm (refG C))))))⟩,
      ⟨S1x2048x5632, broadcastInDim S1x2048x5632 ![1, 2] bcast_S2048x5632_S1x2048x5632_1_2 (mulf (mulf (refG C) (refSigm (refG C))) (extf .f32 A bitsLt_bf16_f32))⟩]
    concatenates_S1x2048x5632_S1x2048x5632_S2x2048x5632_d0

/-- The sum over the sequence. -/
def refSum (D : FVec Ideal S2x2048x5632 .f32) : FVec Ideal S2x1x5632 .f32 :=
  shapeCast _ (Host.reduceAdd D (constant S_ .f32 0x00000000#32) reducesTo_S2x2048x5632_S2x5632_d1 h_S_) shapeCasts_S2x5632_S2x1x5632
def refZero : FVec Ideal S_ .f32 := constant S_ .f32 0x00000000#32

/-- The gradients of the coefficients and of the sequence. -/
def refDW (P : FVec Ideal S2x2050x5632 .f32) (D : FVec Ideal S2x2048x5632 .f32) : FVec Ideal S2x3x5632 .f32 :=
  addf (addf (pad S2x3x5632 ![0, 2, 0] ![0, 0, 0] ![0, 0, 0] (refSum (mulf (extractStridedSlice S2x2048x5632 ![0, 2, 0] P slices_S2x2050x5632_S2x2048x5632_0_2_0) D)) refZero
        pads_S2x1x5632_S2x3x5632_000_200_000 h_S_)
      (pad S2x3x5632 ![0, 1, 0] ![0, 1, 0] ![0, 0, 0] (refSum (mulf (extractStridedSlice S2x2048x5632 ![0, 1, 0] P slices_S2x2050x5632_S2x2048x5632_0_1_0) D)) refZero
        pads_S2x1x5632_S2x3x5632_000_110_000 h_S_))
    (pad S2x3x5632 ![0, 0, 0] ![0, 2, 0] ![0, 0, 0] (refSum (mulf (extractStridedSlice S2x2048x5632 ![0, 0, 0] P slices_S2x2050x5632_S2x2048x5632_0_0_0) D)) refZero
        pads_S2x1x5632_S2x3x5632_000_020_000 h_S_)
def refDP (K : FVec Ideal S2x3x5632 .f32) (D : FVec Ideal S2x2048x5632 .f32) : FVec Ideal S2x2050x5632 .f32 :=
  addf (addf (pad S2x2050x5632 ![0, 2, 0] ![0, 0, 0] ![0, 0, 0] (mulf D (refCoef (extractStridedSlice S2x1x5632 ![0, 2, 0] K slices_S2x3x5632_S2x1x5632_0_2_0))) refZero
        pads_S2x2048x5632_S2x2050x5632_000_200_000 h_S_)
      (pad S2x2050x5632 ![0, 1, 0] ![0, 1, 0] ![0, 0, 0] (mulf D (refCoef (extractStridedSlice S2x1x5632 ![0, 1, 0] K slices_S2x3x5632_S2x1x5632_0_1_0))) refZero
        pads_S2x2048x5632_S2x2050x5632_000_110_000 h_S_))
    (pad S2x2050x5632 ![0, 0, 0] ![0, 2, 0] ![0, 0, 0] (mulf D (refCoef (extractStridedSlice S2x1x5632 ![0, 0, 0] K slices_S2x3x5632_S2x1x5632_0_0_0))) refZero
        pads_S2x2048x5632_S2x2050x5632_000_020_000 h_S_)
def refDU (K : FVec Ideal S2x3x5632 .f32) (D : FVec Ideal S2x2048x5632 .f32) : FVec Ideal S2x2048x5632 .bf16 :=
  truncf .bf16 (extractStridedSlice S2x2048x5632 ![0, 2, 0] (refDP K D) slices_S2x2050x5632_S2x2048x5632_0_2_0) bitsLt_bf16_f32

variable (U : FVec Ideal S2x2048x5632 .bf16) (K : FVec Ideal S2x3x5632 .f32) (B : FVec Ideal S2x1x5632 .f32) (A : FVec Ideal S2048x5632 .bf16)

/-- The convolution, the gradient at the gate's arguments, and the three results. -/
def gradC : FVec Ideal S2x2048x5632 .f32 := refConv (refCat U) K B
def gradD : FVec Ideal S2x2048x5632 .f32 := refD (gradC U K B) A
def gradU : FVec Ideal S2x2048x5632 .bf16 := refDU K (gradD U K B A)
def gradW : FVec Ideal S2x3x5632 .f32 := refDW (refCat U) (gradD U K B A)
def gradB : FVec Ideal S2x1x5632 .f32 := refSum (gradD U K B A)

/-! Entry by entry. -/

variable (p : Fin 2) (r : Fin 2048) (n : Fin 5632)

theorem cat_at (j : Fin 2050) : refCat U (ix3 p j n) = if h : j.val < 2 then 0 else U (ix3 p ⟨j.val - 2, by omega⟩ n) := by
  pointwise [refCat]

/-- The sequence with zeros before it, read `d` places before an entry. -/
theorem cat_back (d : ℕ) (hd : d ≤ 2) (j : Fin 2050) (hj : j.val + d = r.val + 2) : refCat U (ix3 p j n) = back d (fun r => U (ix3 p r n)) r := by
  rw [cat_at, back]
  by_cases h : d ≤ r.val
  · rw [dif_neg (by omega), if_pos h]
    exact congrArg (fun i => U (ix3 p i n)) (Fin.ext (by show j.val - 2 = r.val - d; omega))
  · rw [dif_pos (by omega), if_neg h]

theorem conv_slices (P : FVec Ideal S2x2050x5632 .f32) : refConv P K B (ix3 p r n) =
    P (ix3 p ⟨r, by omega⟩ n) * K (ix3 p 0 n) + P (ix3 p ⟨1 + r, by omega⟩ n) * K (ix3 p 1 n) + P (ix3 p ⟨2 + r, by omega⟩ n) * K (ix3 p 2 n) + B (ix3 p 0 n) := by
  pointwise [refConv, refCoef]

theorem gradC_at : gradC U K B (ix3 p r n) = conv (fun r => U (ix3 p r n)) (fun s => K (ix3 p s n)) (B (ix3 p 0 n)) r := by
  rw [gradC, conv_slices, cat_back U p r n 2 le_rfl _ (by rfl), cat_back U p r n 1 (by norm_num) _ (by show 1 + r.val + 1 = r.val + 2; omega),
    cat_back U p r n 0 (by norm_num) _ (by show 2 + r.val + 0 = r.val + 2; omega), conv]
  rfl

theorem refD0_at (C : FVec Ideal S2x2048x5632 .f32) : refD C A (ix3 0 r n) =
    A (ix2 r n) * C (ix3 1 r n) * sigm (C (ix3 0 r n)) + C (ix3 0 r n) * (A (ix2 r n) * C (ix3 1 r n)) * (sigm (C (ix3 0 r n)) * (1 - sigm (C (ix3 0 r n)))) := by
  pointwise [refD, refG, refV, refSigm, refOne]
  rfl
theorem refD1_at (C : FVec Ideal S2x2048x5632 .f32) : refD C A (ix3 1 r n) = C (ix3 0 r n) * sigm (C (ix3 0 r n)) * A (ix2 r n) := by
  pointwise [refD, refG, refV, refSigm, refOne]
  rfl

theorem sum_at (D : FVec Ideal S2x2048x5632 .f32) : refSum D (ix3 p 0 n) = ∑ r : Fin 2048, D (ix3 p r n) := by
  pointwise [refSum]

theorem refDW_at (P : FVec Ideal S2x2050x5632 .f32) (D : FVec Ideal S2x2048x5632 .f32) (s : Fin 3) :
    refDW P D (ix3 p s n) = ∑ r : Fin 2048, P (ix3 p ⟨s + r, by omega⟩ n) * D (ix3 p r n) := by
  pointwise [refDW, refSum, refZero]
  fin_cases s
  · refine (congrArg₂ (· + ·) (congrArg₂ (· + ·) (dif_neg (by decide)) (dif_neg (by decide))) (dif_pos (by decide))).trans ?_
    rw [zero_add, zero_add]
    exact Finset.sum_congr rfl fun r _ => congrArg (fun j => P (ix3 p j n) * D (ix3 p r n)) (Fin.ext (zero_add r.val).symm)
  · refine (congrArg₂ (· + ·) (congrArg₂ (· + ·) (dif_neg (by decide)) (dif_pos (by decide))) (dif_neg (by decide))).trans ?_
    rw [zero_add, add_zero]
  · refine (congrArg₂ (· + ·) (congrArg₂ (· + ·) (dif_pos (by decide)) (dif_neg (by decide))) (dif_neg (by decide))).trans ?_
    rw [add_zero, add_zero]

/-- A padded product of moved entries. -/
theorem padded_fwd (k j : ℕ) (d : Fin 2048 → EReal) (a : EReal) (Q : Prop) [Decidable Q] (hQ : Q ↔ j < 2048) (hj : j = r.val + k) :
    (if h : Q then d ⟨j, hQ.1 h⟩ * a else 0) = fwd k d r * a := by
  subst hj
  unfold fwd
  by_cases h : r.val + k < 2048
  · rw [dif_pos (hQ.2 h), dif_pos h]
  · rw [dif_neg (fun q => h (hQ.1 q)), dif_neg h, zero_mul]

theorem refDU_at (D : FVec Ideal S2x2048x5632 .f32) : refDU K D (ix3 p r n)
    = D (ix3 p r n) * K (ix3 p 2 n) + fwd 1 (fun r => D (ix3 p r n)) r * K (ix3 p 1 n) + fwd 2 (fun r => D (ix3 p r n)) r * K (ix3 p 0 n) := by
  pointwise [refDU, refDP, refCoef, refZero]
  exact congrArg₂ (· + ·) (congrArg (_ + ·) (padded_fwd r 1 _ (fun r => D (ix3 p r n)) _ _ (by omega) (by omega)))
    (padded_fwd r 2 _ (fun r => D (ix3 p r n)) _ _ Iff.rfl (by omega))

/-! The results where the arguments' elements are real numbers. -/

theorem conv_real {L : ℕ} (u : Fin L → EReal) (a : Fin 3 → EReal) (b : EReal) (hu : ∀ r, ∃ x : ℝ, u r = x) (ha : ∀ s, ∃ x : ℝ, a s = x) (hb : ∃ x : ℝ, b = x)
    (r : Fin L) : ∃ x : ℝ, conv u a b r = x := by
  have hback (d : ℕ) : ∃ x : ℝ, back d u r = x := by
    unfold back
    split
    · exact hu _
    · exact ⟨0, rfl⟩
  obtain ⟨x2, h2⟩ := hback 2
  obtain ⟨x1, h1⟩ := hback 1
  obtain ⟨x0, h0⟩ := hu r
  obtain ⟨y0, e0⟩ := ha 0
  obtain ⟨y1, e1⟩ := ha 1
  obtain ⟨y2, e2⟩ := ha 2
  obtain ⟨z, hz⟩ := hb
  exact ⟨x2 * y0 + x1 * y1 + x0 * y2 + z, by rw [conv, h2, h1, h0, e0, e1, e2, hz]; norm_cast⟩

variable (hU : ∀ y, ∃ x : ℝ, U y = x) (hK : ∀ y, ∃ x : ℝ, K y = x) (hB : ∀ y, ∃ x : ℝ, B y = x) (hA : ∀ y, ∃ x : ℝ, A y = x)
include hU hK hB hA

theorem gradD_at : gradD U K B A (ix3 p r n) = colD A (gradC U K B) p n r := by
  have hC (q : Fin 2) : ∃ x : ℝ, gradC U K B (ix3 q r n) = x := by
    rw [gradC_at]
    exact conv_real _ _ _ (fun _ => hU _) (fun _ => hK _) (hB _) r
  fin_cases p
  · obtain ⟨g, hg⟩ := hC 0
    obtain ⟨v, hv⟩ := hC 1
    obtain ⟨a, ha⟩ := hA (ix2 r n)
    refine (refD0_at A r n _).trans ?_
    rw [hg, hv, ha, ← gateG_rule, ← hg, ← hv, ← ha]
    exact (if_pos rfl).symm
  · refine (refD1_at A r n _).trans (Eq.trans ?_ (if_neg (by decide)).symm)
    exact mul_comm (G := EReal) _ _

theorem gradU_at : gradU U K B A (ix3 p r n) = colDU A (gradC U K B) K p n r := by
  rw [gradU, refDU_at, colDU, gradD_at U K B A p r n hU hK hB hA,
    show (fun r => gradD U K B A (ix3 p r n)) = colD A (gradC U K B) p n from funext fun r => gradD_at U K B A p r n hU hK hB hA]

theorem gradB_at : gradB U K B A (ix3 p 0 n) = colDB A (gradC U K B) p n :=
  (sum_at p n _).trans (Finset.sum_congr rfl fun r _ => gradD_at U K B A p r n hU hK hB hA)

theorem gradW_at (s : Fin 3) : gradW U K B A (ix3 p s n) = colDW A U (gradC U K B) p s n := by
  rw [gradW, refDW_at, colDW, ← sum_moved]
  exact Finset.sum_congr rfl fun r _ => congrArg₂ (· * ·) (cat_back U p r n (2 - s.val) (by omega) _ (by show s.val + r.val + (2 - s.val) = r.val + 2; omega))
    (gradD_at U K B A p r n hU hK hB hA)

end Cert.FfnGate

end
-- ==== Proof.FfnGate.Arrays.lean ====
/- The gradient kernel's three arrays in its arguments. -/
module

public import proofs.«01_k».proof.Proof.FfnGate.Block
public import proofs.«01_k».proof.Proof.FfnGate.Ref

@[expose] public section

set_option maxRecDepth 16384

noncomputable section

namespace Cert.FfnGate

open Cert.GateIdeal Cert.GateIdeal.Gen Idealize.ShloMosaic Idealize.ShloMosaic.TcCoe Idealize.SL.Sem Cert.Product Cert.FfnUp

theorem idx0 : ∀ t : Fin cfg0.N, win0_0.index t = ![0, t.val] := (by decide +kernel : ∀ t : Fin grid0.N, win0_0.index t = ![0, t.val])
theorem idx1 : ∀ t : Fin cfg0.N, win0_1.index t = ![0, 0, t.val] := (by decide +kernel : ∀ t : Fin grid0.N, win0_1.index t = ![0, 0, t.val])
theorem idx2 : ∀ t : Fin cfg0.N, win0_2.index t = ![0, 0, t.val] := (by decide +kernel : ∀ t : Fin grid0.N, win0_2.index t = ![0, 0, t.val])
theorem idx3 : ∀ t : Fin cfg0.N, win0_3.index t = ![0, 0, t.val] := (by decide +kernel : ∀ t : Fin grid0.N, win0_3.index t = ![0, 0, t.val])
theorem idx4 : ∀ t : Fin cfg0.N, win0_4.index t = ![0, 0, t.val] := (by decide +kernel : ∀ t : Fin grid0.N, win0_4.index t = ![0, 0, t.val])
theorem idx5 : ∀ t : Fin cfg0.N, win0_5.index t = ![0, 0, t.val] := (by decide +kernel : ∀ t : Fin grid0.N, win0_5.index t = ![0, 0, t.val])
theorem idx6 : ∀ t : Fin cfg0.N, win0_6.index t = ![0, 0, t.val] := (by decide +kernel : ∀ t : Fin grid0.N, win0_6.index t = ![0, 0, t.val])

variable (m : (ℓ : Loc nD τ sig) → Buf (Elt Ideal) ℓ) (c : Dev nD)

/-- The arguments: the convolution's input, its coefficients and offsets, and the gradient at the gate's output. -/
abbrev kU : FVec Ideal S2x2048x5632 .bf16 := m ((c : Thread nD τ).loc main_arg0)
abbrev kK : FVec Ideal S2x3x5632 .f32 := m ((c : Thread nD τ).loc main_arg1)
abbrev kB : FVec Ideal S2x1x5632 .f32 := m ((c : Thread nD τ).loc main_arg2)
abbrev kA : FVec Ideal S2048x5632 .bf16 := m ((c : Thread nD τ).loc main_arg3)
/-- The convolution, which the program computes before the kernel. -/
abbrev kC : FVec Ideal S2x2048x5632 .bf16 := V m c main_v20

theorem host_stages : kC m c
    = StableHlo.after hostOps0_2 (StableHlo.after hostOps0_1 (StableHlo.after hostOps0 (fun b => m (c, b)))) (Proc.tc.devRef main_v20) := by
  rw [← StableHlo.after_append, ← StableHlo.after_append]
  rfl

theorem host_c : kC m c = truncf .bf16 (refConv (refPad (extf .f32 (kU m c) bitsLt_bf16_f32)) (kK m c) (kB m c)) bitsLt_bf16_f32 := by
  rw [host_stages]
  after_results
  rfl

theorem kC_eq : kC m c = gradC (kU m c) (kK m c) (kB m c) := by
  funext y
  obtain ⟨p, r, n, rfl⟩ : ∃ (p : Fin 2) (r : Fin 2048) (n : Fin 5632), y = ix3 p r n := ⟨y 0, y 1, y 2, eq_ix3 y⟩
  exact (congrFun (host_c m c) (ix3 p r n)).trans ((conv_at (kK m c) (kB m c) (extf .f32 (kU m c) bitsLt_bf16_f32) p r n).trans (gradC_at (kU m c) (kK m c) (kB m c) p r n).symm)

theorem lt_N (t : Fin cfg0.N) : (t : ℕ) < 22 := lt_of_lt_of_eq t.isLt N_0

/-- The column of the arrays at which a point's column `n` lies. -/
abbrev col (t : Fin cfg0.N) (n : Fin 256) : Fin 5632 := ⟨t * 256 + n, by have := lt_N t; omega⟩

/-- The blocks a point reads, in the arguments. -/
theorem blk_a (t : Fin cfg0.N) (r : Fin 2048) (n : Fin 256) : bD m c t (ix2 r n) = kA m c (ix2 r (col t n)) := by
  refine Eq.trans ?_ (congrFun (V_main_arg3 m c) _)
  blk_ext [iblk, idx0 t]
theorem blk_u (t : Fin cfg0.N) (p : Fin 2) (r : Fin 2048) (n : Fin 256) : bU m c t (ix3 p r n) = kU m c (ix3 p r (col t n)) := by
  refine Eq.trans ?_ (congrFun (V_main_arg0 m c) _)
  blk_ext [iblk, idx1 t]
theorem blk_c (t : Fin cfg0.N) (p : Fin 2) (r : Fin 2048) (n : Fin 256) : bC m c t (ix3 p r n) = gradC (kU m c) (kK m c) (kB m c) (ix3 p r (col t n)) := by
  rw [← kC_eq]
  blk_ext [iblk, idx2 t]
theorem blk_k (t : Fin cfg0.N) (p : Fin 2) (s : Fin 3) (n : Fin 256) : bK m c t (ix3 p s n) = kK m c (ix3 p s (col t n)) := by
  refine Eq.trans ?_ (congrFun (V_main_arg1 m c) _)
  blk_ext [iblk, idx3 t]
/-- Where its output blocks lie. -/
theorem place4 (t : Fin cfg0.N) (p : Fin 2) (r : Fin 2048) (n : Fin 256) : ((win0_4.blk t).view.emb (ix3 p r n) : S2x2048x5632.Idx) = ix3 p r (col t n) := by
  blk_ext [idx4 t]
theorem place5 (t : Fin cfg0.N) (p : Fin 2) (s : Fin 3) (n : Fin 256) : ((win0_5.blk t).view.emb (ix3 p s n) : S2x3x5632.Idx) = ix3 p s (col t n) := by
  blk_ext [idx5 t]
theorem place6 (t : Fin cfg0.N) (p : Fin 2) (n : Fin 256) : ((win0_6.blk t).view.emb (ix3 p 0 n) : S2x1x5632.Idx) = ix3 p 0 (col t n) := by
  blk_ext [idx6 t]

/-- The gradient at the gate's arguments in a block's columns is the arrays'. -/
theorem blk_colD (t : Fin cfg0.N) (p : Fin 2) (n : Fin 256) :
    colD (bD m c t) (bC m c t) p n = colD (kA m c) (gradC (kU m c) (kK m c) (kB m c)) p (col t n) := by
  funext r
  unfold colD
  rw [blk_a, blk_c, blk_c]

variable (hU : ∀ y, ∃ x : ℝ, kU m c y = x) (hK : ∀ y, ∃ x : ℝ, kK m c y = x) (hB : ∀ y, ∃ x : ℝ, kB m c y = x) (hA : ∀ y, ∃ x : ℝ, kA m c y = x)
include hU hK hB hA

/-- On finite arguments the kernel's three arrays are the reference's. -/
theorem arr_u : (dats m 0 c).arrAt 4 cfg0.N = gradU (kU m c) (kK m c) (kB m c) (kA m c) := by
  refine (dats m 0 c).arrAt_eq_of_covers 4 _ (by decide +kernel) fun t hf y => ?_
  blk_simp
  rw [after0_4]
  obtain ⟨p, r, n, rfl⟩ : ∃ (p : Fin 2) (r : Fin 2048) (n : Fin 256), y = ix3 p r n := ⟨y 0, y 1, y 2, eq_ix3 y⟩
  refine (out4_at _ _ _ (ix3 p r n)).trans (Eq.trans ?_ (congrArg (gradU (kU m c) (kK m c) (kB m c) (kA m c)) (place4 t p r n).symm))
  rw [gradU_at _ _ _ _ p r (col t n) hU hK hB hA]
  show colDU (bD m c t) (bC m c t) (bK m c t) p n r = _
  unfold colDU
  rw [blk_colD, blk_k, blk_k, blk_k]
theorem arr_w : (dats m 0 c).arrAt 5 cfg0.N = gradW (kU m c) (kK m c) (kB m c) (kA m c) := by
  refine (dats m 0 c).arrAt_eq_of_covers 5 _ (by decide +kernel) fun t hf y => ?_
  blk_simp
  rw [after0_5]
  obtain ⟨p, s, n, rfl⟩ : ∃ (p : Fin 2) (s : Fin 3) (n : Fin 256), y = ix3 p s n := ⟨y 0, y 1, y 2, eq_ix3 y⟩
  refine (out5_at _ _ _ (ix3 p s n)).trans (Eq.trans ?_ (congrArg (gradW (kU m c) (kK m c) (kB m c) (kA m c)) (place5 t p s n).symm))
  rw [gradW_at _ _ _ _ p (col t n) hU hK hB hA]
  show colDW (bD m c t) (bU m c t) (bC m c t) p s n = _
  unfold colDW
  rw [blk_colD]
  exact Finset.sum_congr rfl fun r _ => congrArg (_ * ·) (blk_u m c t p r n)
theorem arr_b : (dats m 0 c).arrAt 6 cfg0.N = gradB (kU m c) (kK m c) (kB m c) (kA m c) := by
  refine (dats m 0 c).arrAt_eq_of_covers 6 _ (by decide +kernel) fun t hf y => ?_
  blk_simp
  rw [after0_6]
  obtain ⟨p, o, n, rfl⟩ : ∃ (p : Fin 2) (o : Fin 1) (n : Fin 256), y = ix3 p o n := ⟨y 0, y 1, y 2, eq_ix3 y⟩
  obtain rfl : o = 0 := Subsingleton.elim _ _
  refine (out6_at _ _ _ (ix3 p 0 n)).trans (Eq.trans ?_ (congrArg (gradB (kU m c) (kK m c) (kB m c) (kA m c)) (place6 t p n).symm))
  rw [gradB_at _ _ _ _ p (col t n) hU hK hB hA]
  show colDB (bD m c t) (bC m c t) p n = _
  unfold colDB
  rw [blk_colD]

end Cert.FfnGate

end
-- ==== Proof.FfnGate.Finite.lean ====
/- What the gate's precondition says: every element of the four arguments is a real number. -/
module

public import proofs.«01_k».proof.Proof.Gen.Pre_gate_finite
public import proofs.«01_k».proof.Proof.Fox.Finite

@[expose] public section

noncomputable section

namespace Cert.FfnGate

open Idealize.ShloMosaic Cert.Pre_gate_finite Cert.Fox

/-- The four arguments' elements are real numbers where the precondition holds. -/
theorem finite_args (U : FVec Ideal S2x2048x5632 .bf16) (K : FVec Ideal S2x3x5632 .f32) (B : FVec Ideal S2x1x5632 .f32) (A : FVec Ideal S2048x5632 .bf16)
    (h : Cert.Pre_gate_finite.fn (F := Ideal) U K B A = fun _ => 1#1) :
    (∀ y, ∃ x : ℝ, U y = x) ∧ (∀ y, ∃ x : ℝ, K y = x) ∧ (∀ y, ∃ x : ℝ, B y = x) ∧ ∀ y, ∃ x : ℝ, A y = x := by
  have h0 := congrFun h (fun d => d.elim0)
  unfold Cert.Pre_gate_finite.fn Cert.Pre_gate_finite.fn_part1 at h0
  obtain ⟨h1, hA⟩ := IntOp.andi_eq_one.1 h0
  obtain ⟨h2, hB⟩ := IntOp.andi_eq_one.1 h1
  obtain ⟨hU, hK⟩ := IntOp.andi_eq_one.1 h2
  exact ⟨fun y => ⟨_, real_of_abs_lt _ (Host.reduce_andi_all _ _ _ _ _ hU y)⟩, fun y => ⟨_, real_of_abs_lt _ (Host.reduce_andi_all _ _ _ _ _ hK y)⟩,
    fun y => ⟨_, real_of_abs_lt _ (Host.reduce_andi_all _ _ _ _ _ hB y)⟩, fun y => ⟨_, real_of_abs_lt _ (Host.reduce_andi_all _ _ _ _ _ hA y)⟩⟩

end Cert.FfnGate

end
-- ==== Proof.FfnGate.RefRun.lean ====
/- What the reference of the gate's gradient returns is what `Ref` names. -/
module

public import proofs.«01_k».proof.Proof.Gen.GateRefIdeal.Run
public import proofs.«01_k».proof.Proof.FfnGate.Ref

@[expose] public section

set_option maxRecDepth 16384

noncomputable section

namespace Cert.FfnGate

open Cert.GateRefIdeal Cert.GateRefIdeal.Gen Idealize.ShloMosaic Idealize.ShloMosaic.TcCoe

variable (m : (ℓ : Loc nD τ sig) → Buf (Elt Ideal) ℓ) (c : Dev nD)

/-- The reference's arguments: the convolution's input, its coefficients and offsets, and the gradient at the gate's output. -/
abbrev rU : FVec Ideal S2x2048x5632 .bf16 := m ((c : Thread nD τ).loc main_arg0)
abbrev rK : FVec Ideal S2x3x5632 .f32 := m ((c : Thread nD τ).loc main_arg1)
abbrev rB : FVec Ideal S2x1x5632 .f32 := m ((c : Thread nD τ).loc main_arg2)
abbrev rA : FVec Ideal S2048x5632 .bf16 := m ((c : Thread nD τ).loc main_arg3)

theorem ref_u : Cert.GateRefIdeal.Value.res_main_v64 m c = gradU (rU m c) (rK m c) (rB m c) (rA m c) := rfl
theorem ref_w : Cert.GateRefIdeal.Value.res_main_v59 m c = gradW (rU m c) (rK m c) (rB m c) (rA m c) := rfl
theorem ref_b : Cert.GateRefIdeal.Value.res_main_v36 m c = gradB (rU m c) (rK m c) (rB m c) (rA m c) := rfl

end Cert.FfnGate

end
-- ==== Proof.FfnGate.Claims.lean ====
/- The claims about the gate's gradient: where the arguments are finite the kernel's three arrays are the reference's. -/
module

public import proofs.«01_k».proof.Defs
public import proofs.«01_k».proof.Proof.Gen.GateIdeal.Value
public import proofs.«01_k».proof.Proof.FfnGate.Arrays
public import proofs.«01_k».proof.Proof.FfnGate.Finite
public import proofs.«01_k».proof.Proof.FfnGate.RefRun
public import Idealize.ShloMosaic.Adequacy
public import Idealize.ShloMosaic.Init

@[expose] public section

set_option maxRecDepth 16384

noncomputable section

namespace Cert.FfnGate

open Idealize.ShloMosaic Idealize.ShloMosaic.TcCoe Idealize.SL.Sem

/-- On finite arguments the kernel's three arrays are the reference's three results. -/
theorem algebraic_gate : Cert.algebraic_GateIdeal_GateRefIdeal_pre_gate_finite := by
  intro m g m' g' hp hargs
  have hfin := fun c => finite_args _ _ _ _ (hp c)
  refine ⟨fun c => gradU (kU m c) (kK m c) (kB m c) (kA m c), fun c => gradW (kU m c) (kK m c) (kB m c) (kA m c),
    fun c => gradB (kU m c) (kK m c) (kB m c) (kA m c), ?_, ?_⟩
  · refine (θ_run Cert.GateIdeal.defs _ _).mono (fun r h c => ?_) (Cert.GateIdeal.Value.run_blocks m g)
    obtain ⟨hU, hK, hB, hA⟩ := hfin c
    obtain ⟨h0, h1, h2, ha⟩ := h c
    exact ⟨h0.trans (arr_u m c hU hK hB hA), h1.trans (arr_w m c hU hK hB hA), h2.trans (arr_b m c hU hK hB hA), ha⟩
  · refine (θ_run Cert.GateRefIdeal.defs _ _).mono (fun r h c => ?_) (Cert.GateRefIdeal.Value.run (F := Ideal) m' g')
    obtain ⟨h0, h1, h2, ha⟩ := h c
    obtain ⟨e0, e1, e2, e3⟩ := hargs c
    have eU := congr (congr (congrArg₂ gradU e0 e1) e2) e3
    have eW := congr (congr (congrArg₂ gradW e0 e1) e2) e3
    have eB := congr (congr (congrArg₂ gradB e0 e1) e2) e3
    exact ⟨(h0.trans (ref_u m' c)).trans eU, (h1.trans (ref_w m' c)).trans eW, (h2.trans (ref_b m' c)).trans eB, ha⟩

/-- The kernel ends over the ideal values, with the precondition or without it. -/
theorem frame_pi : Cert.quiescent_GateIdeal := fun m ρ _ => Cert.GateIdeal.Gen.frame m ρ
theorem frame_pi_finite : Cert.quiescent_GateIdeal_pre_gate_finite := fun m ρ _ => Cert.GateIdeal.Gen.frame m ρ

/-- The reference ends on every memory, its arguments unchanged. -/
theorem frame_ri : Cert.quiescent_GateRefIdeal := fun m ρ _ =>
  (θ_run Cert.GateRefIdeal.defs _ _).mono (fun r h => ⟨fun c => (h c).2.2.2, sem_eq_zero_of_no_sems (by decide) r.2⟩)
    (Cert.GateRefIdeal.Value.run (F := Ideal) m ρ)
theorem frame_ri_finite : Cert.quiescent_GateRefIdeal_pre_gate_finite := fun m ρ _ => frame_ri m ρ trivial

end Cert.FfnGate

end
-- ==== Proof.lean ====
module

public import proofs.«01_k».proof.Defs
public import proofs.«01_k».proof.Proof.Fox.Claims
public import proofs.«01_k».proof.Proof.Product.Claims
public import proofs.«01_k».proof.Proof.FfnUp.Claims
public import proofs.«01_k».proof.Proof.FfnGate.Claims
public import proofs.«01_k».proof.Proof.Gen.Pre_gate_finite
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.Up.Frame
public import proofs.«01_k».proof.Proof.Gen.UpIdeal.Frame
public import proofs.«01_k».proof.Proof.Gen.UpRefIdeal.Run
public import proofs.«01_k».proof.Proof.Gen.DownGrad.Frame
public import proofs.«01_k».proof.Proof.Gen.DownGradIdeal.Frame
public import proofs.«01_k».proof.Proof.Gen.DownWeight.Frame
public import proofs.«01_k».proof.Proof.Gen.DownWeightIdeal.Frame
public import proofs.«01_k».proof.Proof.Gen.UpGrad.Frame
public import proofs.«01_k».proof.Proof.Gen.UpGradIdeal.Frame
public import proofs.«01_k».proof.Proof.Gen.UpWeight.Frame
public import proofs.«01_k».proof.Proof.Gen.UpWeightIdeal.Frame
public import proofs.«01_k».proof.Proof.Gen.OutGrad.Frame
public import proofs.«01_k».proof.Proof.Gen.OutGradIdeal.Frame
public import proofs.«01_k».proof.Proof.Gen.OutWeight.Frame
public import proofs.«01_k».proof.Proof.Gen.OutWeightIdeal.Frame
public import proofs.«01_k».proof.Proof.Gen.FoxInGrad.Frame
public import proofs.«01_k».proof.Proof.Gen.FoxInGradIdeal.Frame
public import proofs.«01_k».proof.Proof.Gen.FoxInWeight.Frame
public import proofs.«01_k».proof.Proof.Gen.FoxInWeightIdeal.Frame
public import proofs.«01_k».proof.Proof.Gen.SwaInGrad.Frame
public import proofs.«01_k».proof.Proof.Gen.SwaInGradIdeal.Frame
public import proofs.«01_k».proof.Proof.Gen.SwaInWeight.Frame
public import proofs.«01_k».proof.Proof.Gen.SwaInWeightIdeal.Frame
public import proofs.«01_k».proof.Proof.Gen.OutProj.Frame
public import proofs.«01_k».proof.Proof.Gen.OutProjIdeal.Frame
public import proofs.«01_k».proof.Proof.Gen.FoxIn.Frame
public import proofs.«01_k».proof.Proof.Gen.FoxInIdeal.Frame
public import proofs.«01_k».proof.Proof.Gen.SwaIn.Frame
public import proofs.«01_k».proof.Proof.Gen.SwaInIdeal.Frame
public import proofs.«01_k».proof.Proof.Gen.Down.Frame
public import proofs.«01_k».proof.Proof.Gen.DownIdeal.Frame

@[expose] public section

noncomputable section

namespace Cert.Proof

open Idealize.ShloMosaic Cert.Fox Cert.Product

/-- All the claims of the certificate. -/
theorem claim : Cert.Claim := ⟨Cert.Kernel.Gen.facts, Cert.KernelIdeal.Gen.facts, Cert.ReferenceIdeal.Gen.facts,
  Cert.DownGrad.Gen.facts, Cert.DownGradIdeal.Gen.facts, Cert.DownGradRefIdeal.Gen.facts,
  Cert.DownWeight.Gen.facts, Cert.DownWeightIdeal.Gen.facts, Cert.DownWeightRefIdeal.Gen.facts,
  Cert.UpGrad.Gen.facts, Cert.UpGradIdeal.Gen.facts, Cert.UpGradRefIdeal.Gen.facts,
  Cert.UpWeight.Gen.facts, Cert.UpWeightIdeal.Gen.facts, Cert.UpWeightRefIdeal.Gen.facts,
  Cert.OutGrad.Gen.facts, Cert.OutGradIdeal.Gen.facts, Cert.OutGradRefIdeal.Gen.facts,
  Cert.OutWeight.Gen.facts, Cert.OutWeightIdeal.Gen.facts, Cert.OutWeightRefIdeal.Gen.facts,
  Cert.FoxInGrad.Gen.facts, Cert.FoxInGradIdeal.Gen.facts, Cert.FoxInGradRefIdeal.Gen.facts,
  Cert.FoxInWeight.Gen.facts, Cert.FoxInWeightIdeal.Gen.facts, Cert.FoxInWeightRefIdeal.Gen.facts,
  Cert.SwaInGrad.Gen.facts, Cert.SwaInGradIdeal.Gen.facts, Cert.SwaInGradRefIdeal.Gen.facts,
  Cert.SwaInWeight.Gen.facts, Cert.SwaInWeightIdeal.Gen.facts, Cert.SwaInWeightRefIdeal.Gen.facts,
  Cert.OutProj.Gen.facts, Cert.OutProjIdeal.Gen.facts, Cert.OutProjRefIdeal.Gen.facts,
  Cert.FoxIn.Gen.facts, Cert.FoxInIdeal.Gen.facts, Cert.FoxInRefIdeal.Gen.facts,
  Cert.SwaIn.Gen.facts, Cert.SwaInIdeal.Gen.facts, Cert.SwaInRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Gate.Gen.facts, Cert.GateIdeal.Gen.facts, Cert.GateRefIdeal.Gen.facts,
  Cert.Pre_finite.Gen.facts, Cert.Pre_gate_finite.Gen.facts,
  frame_p, frame_pi, frame_pi_finite, frame_ri, frame_ri_finite,
  fun m ρ _ => Cert.DownGrad.Gen.frame m ρ, fun m ρ _ => Cert.DownGradIdeal.Gen.frame m ρ,
  fun m ρ _ => at_rest (by decide) _ (Cert.DownGradRefIdeal.Value.run (F := Ideal) m ρ),
  fun m ρ _ => Cert.DownWeight.Gen.frame m ρ, fun m ρ _ => Cert.DownWeightIdeal.Gen.frame m ρ,
  fun m ρ _ => at_rest (by decide) _ (Cert.DownWeightRefIdeal.Value.run (F := Ideal) m ρ),
  fun m ρ _ => Cert.UpGrad.Gen.frame m ρ, fun m ρ _ => Cert.UpGradIdeal.Gen.frame m ρ,
  fun m ρ _ => at_rest (by decide) _ (Cert.UpGradRefIdeal.Value.run (F := Ideal) m ρ),
  fun m ρ _ => Cert.UpWeight.Gen.frame m ρ, fun m ρ _ => Cert.UpWeightIdeal.Gen.frame m ρ,
  fun m ρ _ => at_rest (by decide) _ (Cert.UpWeightRefIdeal.Value.run (F := Ideal) m ρ),
  fun m ρ _ => Cert.OutGrad.Gen.frame m ρ, fun m ρ _ => Cert.OutGradIdeal.Gen.frame m ρ,
  fun m ρ _ => at_rest (by decide) _ (Cert.OutGradRefIdeal.Value.run (F := Ideal) m ρ),
  fun m ρ _ => Cert.OutWeight.Gen.frame m ρ, fun m ρ _ => Cert.OutWeightIdeal.Gen.frame m ρ,
  fun m ρ _ => at_rest (by decide) _ (Cert.OutWeightRefIdeal.Value.run (F := Ideal) m ρ),
  fun m ρ _ => Cert.FoxInGrad.Gen.frame m ρ, fun m ρ _ => Cert.FoxInGradIdeal.Gen.frame m ρ,
  fun m ρ _ => at_rest (by decide) _ (Cert.FoxInGradRefIdeal.Value.run (F := Ideal) m ρ),
  fun m ρ _ => Cert.FoxInWeight.Gen.frame m ρ, fun m ρ _ => Cert.FoxInWeightIdeal.Gen.frame m ρ,
  fun m ρ _ => at_rest (by decide) _ (Cert.FoxInWeightRefIdeal.Value.run (F := Ideal) m ρ),
  fun m ρ _ => Cert.SwaInGrad.Gen.frame m ρ, fun m ρ _ => Cert.SwaInGradIdeal.Gen.frame m ρ,
  fun m ρ _ => at_rest (by decide) _ (Cert.SwaInGradRefIdeal.Value.run (F := Ideal) m ρ),
  fun m ρ _ => Cert.SwaInWeight.Gen.frame m ρ, fun m ρ _ => Cert.SwaInWeightIdeal.Gen.frame m ρ,
  fun m ρ _ => at_rest (by decide) _ (Cert.SwaInWeightRefIdeal.Value.run (F := Ideal) m ρ),
  fun m ρ _ => Cert.OutProj.Gen.frame m ρ, fun m ρ _ => Cert.OutProjIdeal.Gen.frame m ρ,
  fun m ρ _ => at_rest (by decide) _ (Cert.OutProjRefIdeal.Value.run (F := Ideal) m ρ),
  fun m ρ _ => Cert.FoxIn.Gen.frame m ρ, fun m ρ _ => Cert.FoxInIdeal.Gen.frame m ρ,
  fun m ρ _ => at_rest (by decide) _ (Cert.FoxInRefIdeal.Value.run (F := Ideal) m ρ),
  fun m ρ _ => Cert.SwaIn.Gen.frame m ρ, fun m ρ _ => Cert.SwaInIdeal.Gen.frame m ρ,
  fun m ρ _ => at_rest (by decide) _ (Cert.SwaInRefIdeal.Value.run (F := Ideal) m ρ),
  fun m ρ _ => Cert.Down.Gen.frame m ρ, fun m ρ _ => Cert.DownIdeal.Gen.frame m ρ,
  fun m ρ _ => at_rest (by decide) _ (Cert.DownRefIdeal.Value.run (F := Ideal) m ρ),
  fun m ρ _ => Cert.Up.Gen.frame m ρ, fun m ρ _ => Cert.UpIdeal.Gen.frame m ρ,
  Cert.FfnUp.frame_ri,
  fun m ρ _ => Cert.Gate.Gen.frame m ρ, Cert.FfnGate.frame_pi, Cert.FfnGate.frame_pi_finite, Cert.FfnGate.frame_ri, Cert.FfnGate.frame_ri_finite,
  trivial, Cert.Fox.algebraic,
  trivial, algebraic_downGrad,
  trivial, algebraic_downWeight,
  trivial, algebraic_upGrad,
  trivial, algebraic_upWeight,
  trivial, algebraic_outGrad,
  trivial, algebraic_outWeight,
  trivial, algebraic_foxInGrad,
  trivial, algebraic_foxInWeight,
  trivial, algebraic_swaInGrad,
  trivial, algebraic_swaInWeight,
  trivial, algebraic_outProj,
  trivial, algebraic_foxIn,
  trivial, algebraic_swaIn,
  trivial, algebraic_down,
  trivial, Cert.FfnUp.algebraic_up,
  trivial, Cert.FfnGate.algebraic_gate⟩

end Cert.Proof

end
